-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S2x256x2048 : Shape := ⟨3, ![2, 256, 2048]⟩
abbrev S4x256x2048 : Shape := ⟨3, ![4, 256, 2048]⟩
abbrev S4 : Shape := ⟨1, ![4]⟩
abbrev S8x128 : Shape := ⟨2, ![8, 128]⟩
abbrev S16x8x128 : Shape := ⟨3, ![16, 8, 128]⟩
abbrev S15 : Shape := ⟨1, ![15]⟩
abbrev S16 : Shape := ⟨1, ![16]⟩
abbrev S_ : Shape := ⟨0, ![]⟩
abbrev S256x2048 : Shape := ⟨2, ![256, 2048]⟩
abbrev S1x256x2048 : Shape := ⟨3, ![1, 256, 2048]⟩
abbrev S2048x128 : Shape := ⟨2, ![2048, 128]⟩
abbrev S1 : Shape := ⟨1, ![1]⟩
abbrev S256x128 : Shape := ⟨2, ![256, 128]⟩
abbrev S1x256x128 : Shape := ⟨3, ![1, 256, 128]⟩
abbrev S1x1x1 : Shape := ⟨3, ![1, 1, 1]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S2x256x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256x2048, .bf16⟩
  | .local _ .vmem, ⟨7, _⟩ => ⟨S4x256x2048, .bf16⟩
  | .local _ .vmem, ⟨8, _⟩ => ⟨S8x128, .f32⟩
  | .local _ .vmem, ⟨9, _⟩ => ⟨S16x8x128, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 5 66 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch13 : Ref sig .tc := ⟨.vmem, 8, rfl⟩
abbrev cc0_scratch14 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_82 : BitVec 32 := 1#32
  let v96 : BitVec 32 := Scalar.muli v62 c1_i32_82
  let v97 : BitVec 32 := Scalar.addi c0_i32_83 v96
  v97.toNat
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_101 : BitVec 32 := 1#32
  let v116 : BitVec 32 := Scalar.muli v62 c1_i32_101
  let v117 : BitVec 32 := Scalar.addi c0_i32_102 v116
  v117.toNat
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_111 : BitVec 32 := 1#32
  let v126 : BitVec 32 := Scalar.muli v92 c1_i32_111
  let v127 : BitVec 32 := Scalar.addi c0_i32_112 v126
  v127.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_121 : BitVec 32 := 1#32
  let v136 : BitVec 32 := Scalar.muli v62 c1_i32_121
  let v137 : BitVec 32 := Scalar.addi c0_i32_122 v136
  v137.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_131 : BitVec 32 := 1#32
  let v146 : BitVec 32 := Scalar.muli v92 c1_i32_131
  let v147 : BitVec 32 := Scalar.addi c0_i32_132 v146
  v147.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v163 : BitVec 32 := Scalar.muli v2 c256_i32
  let v164 : Index := Scalar.indexCast v163
  let c0_145 : Index := 0#32
  ![v164.toNat, 0]
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_161 : BitVec 32 := 1#32
  let v179 : BitVec 32 := Scalar.muli v62 c1_i32_161
  let v180 : BitVec 32 := Scalar.addi c0_i32_162 v179
  v180.toNat
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_194 : BitVec 32 := 1#32
  let v206 : BitVec 32 := Scalar.muli v92 c1_i32_194
  let v207 : BitVec 32 := Scalar.addi c0_i32_195 v206
  v207.toNat
def k0_dev9 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_227 : BitVec 32 := 1#32
  let v233 : BitVec 32 := Scalar.muli v62 c1_i32_227
  let v234 : BitVec 32 := Scalar.addi c0_i32_228 v233
  v234.toNat
def k0_off2 (d0 : Dev nD) (c15_i32_246 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v253 : BitVec 32 := Scalar.addi v32 c15_i32_246
  let c16_i32_247 : BitVec 32 := 16#32
  let v254 : BitVec 32 := Scalar.remsi v253 c16_i32_247
  let c15_i32_277 : BitVec 32 := 15#32
  let v283 : BitVec 1 := Scalar.cmpi .eq v254 c15_i32_277
  let c3_i32_278 : BitVec 32 := 3#32
  let c14_i32_275 : BitVec 32 := 14#32
  let v281 : BitVec 1 := Scalar.cmpi .eq v254 c14_i32_275
  let c7_i32_276 : BitVec 32 := 7#32
  let c13_i32_273 : BitVec 32 := 13#32
  let v279 : BitVec 1 := Scalar.cmpi .eq v254 c13_i32_273
  let c11_i32_274 : BitVec 32 := 11#32
  let c12_i32_271 : BitVec 32 := 12#32
  let v277 : BitVec 1 := Scalar.cmpi .eq v254 c12_i32_271
  let c15_i32_272 : BitVec 32 := 15#32
  let c11_i32_269 : BitVec 32 := 11#32
  let v275 : BitVec 1 := Scalar.cmpi .eq v254 c11_i32_269
  let c14_i32_270 : BitVec 32 := 14#32
  let c10_i32_267 : BitVec 32 := 10#32
  let v273 : BitVec 1 := Scalar.cmpi .eq v254 c10_i32_267
  let c10_i32_268 : BitVec 32 := 10#32
  let c9_i32_265 : BitVec 32 := 9#32
  let v271 : BitVec 1 := Scalar.cmpi .eq v254 c9_i32_265
  let c6_i32_266 : BitVec 32 := 6#32
  let c8_i32_263 : BitVec 32 := 8#32
  let v269 : BitVec 1 := Scalar.cmpi .eq v254 c8_i32_263
  let c2_i32_264 : BitVec 32 := 2#32
  let c7_i32_261 : BitVec 32 := 7#32
  let v267 : BitVec 1 := Scalar.cmpi .eq v254 c7_i32_261
  let c1_i32_262 : BitVec 32 := 1#32
  let c6_i32_259 : BitVec 32 := 6#32
  let v265 : BitVec 1 := Scalar.cmpi .eq v254 c6_i32_259
  let c5_i32_260 : BitVec 32 := 5#32
  let c5_i32_257 : BitVec 32 := 5#32
  let v263 : BitVec 1 := Scalar.cmpi .eq v254 c5_i32_257
  let c9_i32_258 : BitVec 32 := 9#32
  let c4_i32_255 : BitVec 32 := 4#32
  let v261 : BitVec 1 := Scalar.cmpi .eq v254 c4_i32_255
  let c13_i32_256 : BitVec 32 := 13#32
  let c3_i32_253 : BitVec 32 := 3#32
  let v259 : BitVec 1 := Scalar.cmpi .eq v254 c3_i32_253
  let c12_i32_254 : BitVec 32 := 12#32
  let c2_i32_251 : BitVec 32 := 2#32
  let v257 : BitVec 1 := Scalar.cmpi .eq v254 c2_i32_251
  let c8_i32_252 : BitVec 32 := 8#32
  let c1_i32_248 : BitVec 32 := 1#32
  let v255 : BitVec 1 := Scalar.cmpi .eq v254 c1_i32_248
  let c4_i32_249 : BitVec 32 := 4#32
  let c0_i32_250 : BitVec 32 := 0#32
  let v256 : BitVec 32 := Scalar.select v255 c4_i32_249 c0_i32_250
  let v258 : BitVec 32 := Scalar.select v257 c8_i32_252 v256
  let v260 : BitVec 32 := Scalar.select v259 c12_i32_254 v258
  let v262 : BitVec 32 := Scalar.select v261 c13_i32_256 v260
  let v264 : BitVec 32 := Scalar.select v263 c9_i32_258 v262
  let v266 : BitVec 32 := Scalar.select v265 c5_i32_260 v264
  let v268 : BitVec 32 := Scalar.select v267 c1_i32_262 v266
  let v270 : BitVec 32 := Scalar.select v269 c2_i32_264 v268
  let v272 : BitVec 32 := Scalar.select v271 c6_i32_266 v270
  let v274 : BitVec 32 := Scalar.select v273 c10_i32_268 v272
  let v276 : BitVec 32 := Scalar.select v275 c14_i32_270 v274
  let v278 : BitVec 32 := Scalar.select v277 c15_i32_272 v276
  let v280 : BitVec 32 := Scalar.select v279 c11_i32_274 v278
  let v282 : BitVec 32 := Scalar.select v281 c7_i32_276 v280
  let v284 : BitVec 32 := Scalar.select v283 c3_i32_278 v282
  let c256_i32_279 : BitVec 32 := 256#32
  let v285 : BitVec 32 := Scalar.muli v284 c256_i32_279
  let v286 : Index := Scalar.indexCast v285
  let c0_280 : Index := 0#32
  ![v286.toNat, 0]
def k0_dev10 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_296 : BitVec 32 := 1#32
  let v302 : BitVec 32 := Scalar.muli v92 c1_i32_296
  let v303 : BitVec 32 := Scalar.addi c0_i32_297 v302
  v303.toNat
def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_365 : BitVec 32 := 1#32
  let v371 : BitVec 32 := Scalar.muli v62 c1_i32_365
  let v372 : BitVec 32 := Scalar.addi c0_i32_366 v371
  v372.toNat
def k0_dev12 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_381 : BitVec 32 := 1#32
  let v387 : BitVec 32 := Scalar.muli v92 c1_i32_381
  let v388 : BitVec 32 := Scalar.addi c0_i32_382 v387
  v388.toNat
def k0_dev13 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_401 : BitVec 32 := 1#32
  let v400 : BitVec 32 := Scalar.muli v92 c1_i32_401
  let v401 : BitVec 32 := Scalar.addi c0_i32_402 v400
  v401.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_417 : BitVec 32 := 1#32
  let v416 : BitVec 32 := Scalar.muli v62 c1_i32_417
  let v417 : BitVec 32 := Scalar.addi c0_i32_418 v416
  v417.toNat
def k0_dev15 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_437 : BitVec 32 := 1#32
  let v429 : BitVec 32 := Scalar.muli v62 c1_i32_437
  let v430 : BitVec 32 := Scalar.addi c0_i32_438 v429
  v430.toNat
def k0_dev16 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_453 : BitVec 32 := 1#32
  let v445 : BitVec 32 := Scalar.muli v92 c1_i32_453
  let v446 : BitVec 32 := Scalar.addi c0_i32_454 v445
  v446.toNat
def k0_dev17 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_509 : BitVec 32 := 1#32
  let v500 : BitVec 32 := Scalar.muli v92 c1_i32_509
  let v501 : BitVec 32 := Scalar.addi c0_i32_510 v500
  v501.toNat
def k0_dev18 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_525 : BitVec 32 := 1#32
  let v516 : BitVec 32 := Scalar.muli v62 c1_i32_525
  let v517 : BitVec 32 := Scalar.addi c0_i32_526 v516
  v517.toNat
def k0_dev19 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_581 : BitVec 32 := 1#32
  let v571 : BitVec 32 := Scalar.muli v62 c1_i32_581
  let v572 : BitVec 32 := Scalar.addi c0_i32_582 v571
  v572.toNat
def k0_dev20 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_597 : BitVec 32 := 1#32
  let v587 : BitVec 32 := Scalar.muli v92 c1_i32_597
  let v588 : BitVec 32 := Scalar.addi c0_i32_598 v587
  v588.toNat
def k0_dev21 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_616 : BitVec 32 := 1#32
  let v600 : BitVec 32 := Scalar.muli v92 c1_i32_616
  let v601 : BitVec 32 := Scalar.addi c0_i32_617 v600
  v601.toNat
def k0_dev22 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_632 : BitVec 32 := 1#32
  let v616 : BitVec 32 := Scalar.muli v62 c1_i32_632
  let v617 : BitVec 32 := Scalar.addi c0_i32_633 v616
  v617.toNat
def k0_dev23 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_652 : BitVec 32 := 1#32
  let v629 : BitVec 32 := Scalar.muli v62 c1_i32_652
  let v630 : BitVec 32 := Scalar.addi c0_i32_653 v629
  v630.toNat
def k0_dev24 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_668 : BitVec 32 := 1#32
  let v645 : BitVec 32 := Scalar.muli v92 c1_i32_668
  let v646 : BitVec 32 := Scalar.addi c0_i32_669 v645
  v646.toNat
def k0_dev25 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_724 : BitVec 32 := 1#32
  let v700 : BitVec 32 := Scalar.muli v92 c1_i32_724
  let v701 : BitVec 32 := Scalar.addi c0_i32_725 v700
  v701.toNat
def k0_dev26 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_740 : BitVec 32 := 1#32
  let v716 : BitVec 32 := Scalar.muli v62 c1_i32_740
  let v717 : BitVec 32 := Scalar.addi c0_i32_741 v716
  v717.toNat
def k0_dev27 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_798 : BitVec 32 := 1#32
  let v771 : BitVec 32 := Scalar.muli v62 c1_i32_798
  let v772 : BitVec 32 := Scalar.addi c0_i32_799 v771
  v772.toNat
def k0_dev28 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_814 : BitVec 32 := 1#32
  let v787 : BitVec 32 := Scalar.muli v92 c1_i32_814
  let v788 : BitVec 32 := Scalar.addi c0_i32_815 v787
  v788.toNat
def k0_dev29 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_835 : BitVec 32 := 1#32
  let v800 : BitVec 32 := Scalar.muli v92 c1_i32_835
  let v801 : BitVec 32 := Scalar.addi c0_i32_836 v800
  v801.toNat
def k0_dev30 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_851 : BitVec 32 := 1#32
  let v816 : BitVec 32 := Scalar.muli v62 c1_i32_851
  let v817 : BitVec 32 := Scalar.addi c0_i32_852 v816
  v817.toNat
def k0_dev31 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_873 : BitVec 32 := 1#32
  let v829 : BitVec 32 := Scalar.muli v62 c1_i32_873
  let v830 : BitVec 32 := Scalar.addi c0_i32_874 v829
  v830.toNat
def k0_dev32 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_889 : BitVec 32 := 1#32
  let v845 : BitVec 32 := Scalar.muli v92 c1_i32_889
  let v846 : BitVec 32 := Scalar.addi c0_i32_890 v845
  v846.toNat
def k0_dev33 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_947 : BitVec 32 := 1#32
  let v900 : BitVec 32 := Scalar.muli v92 c1_i32_947
  let v901 : BitVec 32 := Scalar.addi c0_i32_948 v900
  v901.toNat
def k0_dev34 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_963 : BitVec 32 := 1#32
  let v916 : BitVec 32 := Scalar.muli v62 c1_i32_963
  let v917 : BitVec 32 := Scalar.addi c0_i32_964 v916
  v917.toNat
def k0_dev35 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1021 : BitVec 32 := 1#32
  let v971 : BitVec 32 := Scalar.muli v62 c1_i32_1021
  let v972 : BitVec 32 := Scalar.addi c0_i32_1022 v971
  v972.toNat
def k0_dev36 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1037 : BitVec 32 := 1#32
  let v987 : BitVec 32 := Scalar.muli v92 c1_i32_1037
  let v988 : BitVec 32 := Scalar.addi c0_i32_1038 v987
  v988.toNat
def k0_dev37 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1059 : BitVec 32 := 1#32
  let v1000 : BitVec 32 := Scalar.muli v92 c1_i32_1059
  let v1001 : BitVec 32 := Scalar.addi c0_i32_1060 v1000
  v1001.toNat
def k0_dev38 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1075 : BitVec 32 := 1#32
  let v1016 : BitVec 32 := Scalar.muli v62 c1_i32_1075
  let v1017 : BitVec 32 := Scalar.addi c0_i32_1076 v1016
  v1017.toNat
def k0_dev39 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1097 : BitVec 32 := 1#32
  let v1029 : BitVec 32 := Scalar.muli v62 c1_i32_1097
  let v1030 : BitVec 32 := Scalar.addi c0_i32_1098 v1029
  v1030.toNat
def k0_dev40 (d0 : Dev nD) : Nat :=
  let c0_i32_1169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1168 : BitVec 32 := 1#32
  let v1098 : BitVec 32 := Scalar.muli v92 c1_i32_1168
  let v1099 : BitVec 32 := Scalar.addi c0_i32_1169 v1098
  v1099.toNat
def k0_dev41 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1239 : BitVec 32 := 1#32
  let v1167 : BitVec 32 := Scalar.muli v62 c1_i32_1239
  let v1168 : BitVec 32 := Scalar.addi c0_i32_1240 v1167
  v1168.toNat
def k0_dev42 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1274 : BitVec 32 := 1#32
  let v1194 : BitVec 32 := Scalar.muli v92 c1_i32_1274
  let v1195 : BitVec 32 := Scalar.addi c0_i32_1275 v1194
  v1195.toNat
def k0_dev43 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1309 : BitVec 32 := 1#32
  let v1221 : BitVec 32 := Scalar.muli v62 c1_i32_1309
  let v1222 : BitVec 32 := Scalar.addi c0_i32_1310 v1221
  v1222.toNat
def k0_dev44 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1380 : BitVec 32 := 1#32
  let v1290 : BitVec 32 := Scalar.muli v92 c1_i32_1380
  let v1291 : BitVec 32 := Scalar.addi c0_i32_1381 v1290
  v1291.toNat
def k0_dev45 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1451 : BitVec 32 := 1#32
  let v1359 : BitVec 32 := Scalar.muli v62 c1_i32_1451
  let v1360 : BitVec 32 := Scalar.addi c0_i32_1452 v1359
  v1360.toNat
def k0_dev46 (d0 : Dev nD) : Nat :=
  let c0_i32_1487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1486 : BitVec 32 := 1#32
  let v1386 : BitVec 32 := Scalar.muli v92 c1_i32_1486
  let v1387 : BitVec 32 := Scalar.addi c0_i32_1487 v1386
  v1387.toNat
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1713 : BitVec 32 := 0#32
  let c0_i32_1714 : BitVec 32 := 0#32
  ![v2.toNat, 0, 0]
def k0_dev47 (d0 : Dev nD) : Nat :=
  let c0_i32_1712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1708 : BitVec 32 := 1#32
  let v1605 : BitVec 32 := Scalar.addi v2 c1_i32_1708
  let c16_i32_1709 : BitVec 32 := 16#32
  let v1606 : BitVec 32 := Scalar.remsi v1605 c16_i32_1709
  let c1_i32_1711 : BitVec 32 := 1#32
  let v1607 : BitVec 32 := Scalar.muli v1606 c1_i32_1711
  let v1608 : BitVec 32 := Scalar.addi c0_i32_1712 v1607
  v1608.toNat
def k0_dev48 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1715 : BitVec 32 := 2#32
  let v1615 : BitVec 32 := Scalar.addi v2 c2_i32_1715
  let c16_i32_1716 : BitVec 32 := 16#32
  let v1616 : BitVec 32 := Scalar.remsi v1615 c16_i32_1716
  let c1_i32_1718 : BitVec 32 := 1#32
  let v1617 : BitVec 32 := Scalar.muli v1616 c1_i32_1718
  let v1618 : BitVec 32 := Scalar.addi c0_i32_1719 v1617
  v1618.toNat
def k0_dev49 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1722 : BitVec 32 := 3#32
  let v1625 : BitVec 32 := Scalar.addi v2 c3_i32_1722
  let c16_i32_1723 : BitVec 32 := 16#32
  let v1626 : BitVec 32 := Scalar.remsi v1625 c16_i32_1723
  let c1_i32_1725 : BitVec 32 := 1#32
  let v1627 : BitVec 32 := Scalar.muli v1626 c1_i32_1725
  let v1628 : BitVec 32 := Scalar.addi c0_i32_1726 v1627
  v1628.toNat
def k0_dev50 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1729 : BitVec 32 := 4#32
  let v1635 : BitVec 32 := Scalar.addi v2 c4_i32_1729
  let c16_i32_1730 : BitVec 32 := 16#32
  let v1636 : BitVec 32 := Scalar.remsi v1635 c16_i32_1730
  let c1_i32_1732 : BitVec 32 := 1#32
  let v1637 : BitVec 32 := Scalar.muli v1636 c1_i32_1732
  let v1638 : BitVec 32 := Scalar.addi c0_i32_1733 v1637
  v1638.toNat
def k0_dev51 (d0 : Dev nD) : Nat :=
  let c0_i32_1740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1736 : BitVec 32 := 5#32
  let v1645 : BitVec 32 := Scalar.addi v2 c5_i32_1736
  let c16_i32_1737 : BitVec 32 := 16#32
  let v1646 : BitVec 32 := Scalar.remsi v1645 c16_i32_1737
  let c1_i32_1739 : BitVec 32 := 1#32
  let v1647 : BitVec 32 := Scalar.muli v1646 c1_i32_1739
  let v1648 : BitVec 32 := Scalar.addi c0_i32_1740 v1647
  v1648.toNat
def k0_dev52 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1743 : BitVec 32 := 6#32
  let v1655 : BitVec 32 := Scalar.addi v2 c6_i32_1743
  let c16_i32_1744 : BitVec 32 := 16#32
  let v1656 : BitVec 32 := Scalar.remsi v1655 c16_i32_1744
  let c1_i32_1746 : BitVec 32 := 1#32
  let v1657 : BitVec 32 := Scalar.muli v1656 c1_i32_1746
  let v1658 : BitVec 32 := Scalar.addi c0_i32_1747 v1657
  v1658.toNat
def k0_dev53 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1750 : BitVec 32 := 7#32
  let v1665 : BitVec 32 := Scalar.addi v2 c7_i32_1750
  let c16_i32_1751 : BitVec 32 := 16#32
  let v1666 : BitVec 32 := Scalar.remsi v1665 c16_i32_1751
  let c1_i32_1753 : BitVec 32 := 1#32
  let v1667 : BitVec 32 := Scalar.muli v1666 c1_i32_1753
  let v1668 : BitVec 32 := Scalar.addi c0_i32_1754 v1667
  v1668.toNat
def k0_dev54 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1757 : BitVec 32 := 8#32
  let v1675 : BitVec 32 := Scalar.addi v2 c8_i32_1757
  let c16_i32_1758 : BitVec 32 := 16#32
  let v1676 : BitVec 32 := Scalar.remsi v1675 c16_i32_1758
  let c1_i32_1760 : BitVec 32 := 1#32
  let v1677 : BitVec 32 := Scalar.muli v1676 c1_i32_1760
  let v1678 : BitVec 32 := Scalar.addi c0_i32_1761 v1677
  v1678.toNat
def k0_dev55 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1764 : BitVec 32 := 9#32
  let v1685 : BitVec 32 := Scalar.addi v2 c9_i32_1764
  let c16_i32_1765 : BitVec 32 := 16#32
  let v1686 : BitVec 32 := Scalar.remsi v1685 c16_i32_1765
  let c1_i32_1767 : BitVec 32 := 1#32
  let v1687 : BitVec 32 := Scalar.muli v1686 c1_i32_1767
  let v1688 : BitVec 32 := Scalar.addi c0_i32_1768 v1687
  v1688.toNat
def k0_dev56 (d0 : Dev nD) : Nat :=
  let c0_i32_1775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1771 : BitVec 32 := 10#32
  let v1695 : BitVec 32 := Scalar.addi v2 c10_i32_1771
  let c16_i32_1772 : BitVec 32 := 16#32
  let v1696 : BitVec 32 := Scalar.remsi v1695 c16_i32_1772
  let c1_i32_1774 : BitVec 32 := 1#32
  let v1697 : BitVec 32 := Scalar.muli v1696 c1_i32_1774
  let v1698 : BitVec 32 := Scalar.addi c0_i32_1775 v1697
  v1698.toNat
def k0_dev57 (d0 : Dev nD) : Nat :=
  let c0_i32_1782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1778 : BitVec 32 := 11#32
  let v1705 : BitVec 32 := Scalar.addi v2 c11_i32_1778
  let c16_i32_1779 : BitVec 32 := 16#32
  let v1706 : BitVec 32 := Scalar.remsi v1705 c16_i32_1779
  let c1_i32_1781 : BitVec 32 := 1#32
  let v1707 : BitVec 32 := Scalar.muli v1706 c1_i32_1781
  let v1708 : BitVec 32 := Scalar.addi c0_i32_1782 v1707
  v1708.toNat
def k0_dev58 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1785 : BitVec 32 := 12#32
  let v1715 : BitVec 32 := Scalar.addi v2 c12_i32_1785
  let c16_i32_1786 : BitVec 32 := 16#32
  let v1716 : BitVec 32 := Scalar.remsi v1715 c16_i32_1786
  let c1_i32_1788 : BitVec 32 := 1#32
  let v1717 : BitVec 32 := Scalar.muli v1716 c1_i32_1788
  let v1718 : BitVec 32 := Scalar.addi c0_i32_1789 v1717
  v1718.toNat
def k0_dev59 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1792 : BitVec 32 := 13#32
  let v1725 : BitVec 32 := Scalar.addi v2 c13_i32_1792
  let c16_i32_1793 : BitVec 32 := 16#32
  let v1726 : BitVec 32 := Scalar.remsi v1725 c16_i32_1793
  let c1_i32_1795 : BitVec 32 := 1#32
  let v1727 : BitVec 32 := Scalar.muli v1726 c1_i32_1795
  let v1728 : BitVec 32 := Scalar.addi c0_i32_1796 v1727
  v1728.toNat
def k0_dev60 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1799 : BitVec 32 := 14#32
  let v1735 : BitVec 32 := Scalar.addi v2 c14_i32_1799
  let c16_i32_1800 : BitVec 32 := 16#32
  let v1736 : BitVec 32 := Scalar.remsi v1735 c16_i32_1800
  let c1_i32_1802 : BitVec 32 := 1#32
  let v1737 : BitVec 32 := Scalar.muli v1736 c1_i32_1802
  let v1738 : BitVec 32 := Scalar.addi c0_i32_1803 v1737
  v1738.toNat
def k0_dev61 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1806 : BitVec 32 := 15#32
  let v1745 : BitVec 32 := Scalar.addi v2 c15_i32_1806
  let c16_i32_1807 : BitVec 32 := 16#32
  let v1746 : BitVec 32 := Scalar.remsi v1745 c16_i32_1807
  let c1_i32_1809 : BitVec 32 := 1#32
  let v1747 : BitVec 32 := Scalar.muli v1746 c1_i32_1809
  let v1748 : BitVec 32 := Scalar.addi c0_i32_1810 v1747
  v1748.toNat
def k0_off5 (d0 : Dev nD) (c1_i32_1813 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1755 : BitVec 32 := Scalar.addi v2 c1_i32_1813
  let c16_i32_1814 : BitVec 32 := 16#32
  let v1756 : BitVec 32 := Scalar.remsi v1755 c16_i32_1814
  ![v1756.toNat]
def k0_off6 (d0 : Dev nD) (c1_i32_1813 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1755 : BitVec 32 := Scalar.addi v2 c1_i32_1813
  let c16_i32_1814 : BitVec 32 := 16#32
  let v1756 : BitVec 32 := Scalar.remsi v1755 c16_i32_1814
  let c0_i32_1818 : BitVec 32 := 0#32
  let c0_i32_1819 : BitVec 32 := 0#32
  ![v1756.toNat, 0, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ideal.Program.lean ====
/- The kernel's body written once per kind of step: a hop of a pipe, an iteration of the ring, the
   exchange of the maxima and the quantiser; and the theorem that the printed body is that program. -/
module

public import proofs.«01_k».proof.Proof.Gen.KernelIdeal.Skeleton
public import proofs.«01_k».proof.Proof.Gen.KernelIdeal.Launch

@[expose] public section

noncomputable section

namespace Cert.KernelIdeal.Proof

open Idealize.ShloMosaic Idealize.SL.Sem Cert.KernelIdeal.Gen

variable {F : FTy → Type} [FloatOps F]

/-! ## The machine's places

A pipe is numbered 0 (first half of the contraction, to the right), 1 (second half, to the right),
2 (first half, to the left), 3 (second half, to the left). -/

/-- The device on the right on the ring. -/
def right (d : Dev nD) : Dev nD := ⟨k0_dev3 d, k0_dev3_lt d⟩

/-- The device on the left on the ring. -/
def left (d : Dev nD) : Dev nD := ⟨k0_dev4 d, k0_dev4_lt d⟩

/-- The device a pipe sends to. -/
def down : Fin 4 → Dev nD → Dev nD
  | 0 => right | 1 => right | 2 => left | 3 => left

/-- The device a pipe receives from. -/
def up : Fin 4 → Dev nD → Dev nD
  | 0 => left | 1 => left | 2 => right | 3 => right

/-- How many hops a pipe makes. -/
def hops : Fin 4 → ℕ
  | 0 => 8 | 1 => 7 | 2 => 7 | 3 => 8

/-- Which half of the contraction a pipe carries. -/
def part : Fin 4 → Fin 2
  | 0 => 0 | 1 => 1 | 2 => 0 | 3 => 1

/-- A pipe's buffer of four slots. -/
def bufRef : Fin 4 → Memref sig .tc .vmem S4x256x2048 .bf16
  | 0 => Memref.whole cc0_scratch1 | 1 => Memref.whole cc0_scratch2
  | 2 => Memref.whole cc0_scratch3 | 3 => Memref.whole cc0_scratch4

/-- A pipe's send semaphores, one per slot. -/
def sendSems : Fin 4 → DmaSems sig S4
  | 0 => cc0_scratch5 | 1 => cc0_scratch7 | 2 => cc0_scratch9 | 3 => cc0_scratch11

/-- A pipe's receive semaphores, one per slot. -/
def recvSems : Fin 4 → DmaSems sig S4
  | 0 => cc0_scratch6 | 1 => cc0_scratch8 | 2 => cc0_scratch10 | 3 => cc0_scratch12

/-- A pipe's credit semaphore. -/
def creditSem : Fin 4 → Sem sig
  | 0 => cc0_scratch17.sem | 1 => cc0_scratch18.sem | 2 => cc0_scratch19.sem | 3 => cc0_scratch20.sem

theorem bufRef_whole (p : Fin 4) : (bufRef p).IsWhole := by
  fin_cases p <;> exact Memref.isWhole_whole _

theorem slot_inb (s : Fin 4) : ∀ a, (![s.val, 0, 0] : Fin 3 → ℕ) a + S1x256x2048.size a ≤ S4x256x2048.size a := by
  revert s; decide

theorem half_inb (s : Fin 2) : ∀ a, (![s.val, 0, 0] : Fin 3 → ℕ) a + S1x256x2048.size a ≤ S2x256x2048.size a := by
  revert s; decide

theorem sem4_inb (s : Fin 4) : ∀ a, (![s.val] : Fin 1 → ℕ) a + S1.size a ≤ S4.size a := by
  revert s; decide

theorem sem15_inb (s : Fin 15) : ∀ a, (![s.val] : Fin 1 → ℕ) a + S1.size a ≤ S15.size a := by
  revert s; decide

/-- The slot a hop (counted from zero) uses. -/
def slotOf (j : ℕ) : Fin 4 := ⟨j % 4, Nat.mod_lt _ (by decide)⟩

/-- One slot of a pipe's buffer, as a matrix. -/
def slotRef (p s : Fin 4) : Memref sig .tc .vmem S256x2048 .bf16 :=
  ((bufRef p).slice (Rect.unit (s := S4x256x2048) ![s.val, 0, 0] S1x256x2048.size (slot_inb s)) (fun _ => rfl)).squeeze S256x2048
    squeezes_S1x256x2048_S256x2048

/-- One half of the device's own chunk, as a matrix. -/
def halfRef (s : Fin 2) : Memref sig .tc .vmem S256x2048 .bf16 :=
  ((Memref.whole cc0_scratch0).slice (Rect.unit (s := S2x256x2048) ![s.val, 0, 0] S1x256x2048.size (half_inb s)) (fun _ => rfl)).squeeze
    S256x2048 squeezes_S1x256x2048_S256x2048

theorem slotRef_words (p s : Fin 4) : (slotRef p s).view.WordExact := by
  fin_cases s
  · exact (((bufRef_whole p).wordExact_slice rfl _ wordsbf16_S4x256x2048_S1x256x2048_0_0_0).reshape _ _)
  · exact (((bufRef_whole p).wordExact_slice rfl _ wordsbf16_S4x256x2048_S1x256x2048_1_0_0).reshape _ _)
  · exact (((bufRef_whole p).wordExact_slice rfl _ wordsbf16_S4x256x2048_S1x256x2048_2_0_0).reshape _ _)
  · exact (((bufRef_whole p).wordExact_slice rfl _ wordsbf16_S4x256x2048_S1x256x2048_3_0_0).reshape _ _)

theorem halfRef_words (s : Fin 2) : (halfRef s).view.WordExact := by
  fin_cases s
  · exact (((Memref.isWhole_whole cc0_scratch0).wordExact_slice rfl _ wordsbf16_S2x256x2048_S1x256x2048_0_0_0).reshape _ _)
  · exact (((Memref.isWhole_whole cc0_scratch0).wordExact_slice rfl _ wordsbf16_S2x256x2048_S1x256x2048_1_0_0).reshape _ _)

/-- The semaphore of one slot of an array of four. -/
def semAt (q : DmaSems sig S4) (s : Fin 4) : DmaSem sig :=
  ((q.slice (Rect.unit (s := S4) ![s.val] S1.size (sem4_inb s))).squeeze S_ squeezes_S1_S_).sem

/-- What hop `j` of a pipe reads: the device's own half on the first hop, afterwards the slot that
    the hop before filled. -/
def srcRef (p : Fin 4) : ℕ → Memref sig .tc .vmem S256x2048 .bf16
  | 0 => halfRef (part p)
  | j + 1 => slotRef p (slotOf j)

theorem srcRef_words (p : Fin 4) (j : ℕ) : (srcRef p j).view.WordExact := by
  cases j
  · exact halfRef_words _
  · exact slotRef_words _ _

/-- Start hop `j` of a pipe. -/
def startHop (p : Fin 4) (d : Dev nD) (j : ℕ) : Prog (TpuEff nD τ sig (Elt F) Λ₀ .tc) PUnit :=
  Prog.lift (.enqueueDma (srcRef p j) (.remote (Dev.tc (down p d)) (slotRef p (slotOf j)) (.dma (semAt (sendSems p) (slotOf j))))
    (.dma (semAt (recvSems p) (slotOf j))) (srcRef_words p j) (slotRef_words p _) ⟨⟨rfl, Or.inl rfl⟩, trivial⟩)

/-- Hop `j` of a pipe: await its landing, start the next one (after a credit, once the slots have all
    been used), await that the source has been read, and hand the receiver's credit upstream. -/
def hop (p : Fin 4) (d : Dev nD) (j : ℕ) : Prog (TpuEff nD τ sig (Elt F) Λ₀ .tc) PUnit := do
  Prog.lift (.waitDma2 (semAt (recvSems p) (slotOf j)) (srcRef p j) (slotRef p (slotOf j)) (srcRef_words p j) (slotRef_words p _))
  bif Nat.blt (j + 1) (hops p) then (do
    bif Nat.ble 3 j then semWaitWord (creditSem p) 1#32 else pure ⟨⟩
    startHop p d (j + 1)) else pure ⟨⟩
  Prog.lift (.waitDma2 (semAt (sendSems p) (slotOf j)) (slotRef p (slotOf j)) (srcRef p j) (slotRef_words p _) (srcRef_words p j))
  bif Nat.ble 1 j && Nat.ble (j + 4) (hops p) then semSignalWord (up p d) (creditSem p) 1#32 else pure ⟨⟩

/-- Read the slot hop `j` of a pipe has filled. -/
def loadSlot (p : Fin 4) (j : ℕ) : Prog (TpuEff nD τ sig (Elt F) Λ₀ .tc) (Vec F S1x256x2048 .bf16) :=
  Prog.lift (.load (bufRef p) (Rect.unit (s := S4x256x2048) ![(slotOf j).val, 0, 0] S1x256x2048.size (slot_inb _)).toLoadRect
    (View.loadsAt_vmem h_S1x256x2048))

/-! ## The values -/

/-- The rows of the weights that belong to the first half of the contraction. -/
def topHalf (w : Vec F S4096x128 .bf16) : FVec F S2048x128 .bf16 := k0_pay6 (k0_pay5 w)

/-- The rows of the weights that belong to the second half. -/
def botHalf (w : Vec F S4096x128 .bf16) : FVec F S2048x128 .bf16 := k0_pay7 (k0_pay5 w)

/-- The product of a chunk's half with a half of the weights. -/
def prod (w : FVec F S2048x128 .bf16) (v : Vec F S1x256x2048 .bf16) : FVec F S256x128 .f32 := k0_pay10 w v

/-- The largest magnitude in a block. -/
def blockMax (b : FVec F S256x128 .f32) : F .f32 :=
  extractAt ![0, 0, 0]
    (shapeCast S1x1x1
      (multiReduction .maximumf [1, 2] S1 (shapeCast S1x256x128 (absf b) shapeCasts_S256x128_S1x256x128) 0xFF800000#32 reduces_S1x256x128_S1
        (.inl rfl) rfl) shapeCasts_S1_S1x1x1) inpos_S1x1x1_p0_0_0

/-- A running maximum with one more block. -/
def accMax (a : F .f32) (b : FVec F S256x128 .f32) : F .f32 := Scalar.maximumf a (blockMax b)

/-- Put a block of results at rows `256 * origin`, the origin being named by a word of the program. -/
def storeBlock (d : Dev nD) (r : Fin 15) (b : FVec F S256x128 .f32) : Prog (TpuEff nD τ sig (Elt F) Λ₀ .tc) PUnit := do
  let _ : Vec F S256x128 .f32 ← Prog.lift (.load (Memref.whole cc0_stg2_0) (Rect.unit (s := S4096x128) (k0_off2 d (BitVec.ofNat 32 (1 + r.val)))
    S256x128.size (k0_off2_inb d r)).toLoadRect (View.loadsAt_vmem h_S256x128))
  Prog.lift (.store (Memref.whole cc0_stg2_0) (Rect.unit (s := S4096x128) (k0_off2 d (BitVec.ofNat 32 (1 + r.val))) S256x128.size (k0_off2_inb d r))
    b Finset.univ (View.stores_vmem_bits_univ h_S256x128 rfl) (.inl rfl))

/-! ## The body -/

/-- The meeting of neighbours, and the device's own operands put in place. -/
def opening (d : Dev nD) : Prog (TpuEff nD τ sig (Elt F) Λ₀ .tc) (Vec F S4096x128 .bf16) := do
  semSignalWord (left d) barrier0 1#32
  semSignalWord (right d) barrier0 1#32
  semWaitWord barrier0 2#32
  let v98 : Vec F S256x2048 .bf16 ← Prog.lift (.load (Memref.whole cc0_stg0_0) (Rect.unit (s := S256x4096) ![0, 0] S256x2048.size inb_S256x4096_S256x2048_0_0).toLoadRect (View.loadsAt_vmem h_S256x2048))
  let _ : Vec F S1x256x2048 .bf16 ← Prog.lift (.load (Memref.whole cc0_scratch0) (Rect.unit (s := S2x256x2048) ![0, 0, 0] S1x256x2048.size inb_S2x256x2048_S1x256x2048_0_0_0).toLoadRect (View.loadsAt_vmem h_S1x256x2048))
  Prog.lift (.store (Memref.whole cc0_scratch0) (Rect.unit (s := S2x256x2048) ![0, 0, 0] S1x256x2048.size inb_S2x256x2048_S1x256x2048_0_0_0) (k0_pay2 v98) Finset.univ (View.stores_vmem h_S1x256x2048 ((Memref.isWhole_whole cc0_scratch0).storeExact_slice rfl _ packedbf16_S2x256x2048_S1x256x2048_0_0_0) (fun _ => rfl)) (.inl rfl))
  let v103 : Vec F S256x2048 .bf16 ← Prog.lift (.load (Memref.whole cc0_stg0_0) (Rect.unit (s := S256x4096) ![0, 2048] S256x2048.size inb_S256x4096_S256x2048_0_2048).toLoadRect (View.loadsAt_vmem h_S256x2048))
  let _ : Vec F S1x256x2048 .bf16 ← Prog.lift (.load (Memref.whole cc0_scratch0) (Rect.unit (s := S2x256x2048) ![1, 0, 0] S1x256x2048.size inb_S2x256x2048_S1x256x2048_1_0_0).toLoadRect (View.loadsAt_vmem h_S1x256x2048))
  Prog.lift (.store (Memref.whole cc0_scratch0) (Rect.unit (s := S2x256x2048) ![1, 0, 0] S1x256x2048.size inb_S2x256x2048_S1x256x2048_1_0_0) (k0_pay3 v103) Finset.univ (View.stores_vmem h_S1x256x2048 ((Memref.isWhole_whole cc0_scratch0).storeExact_slice rfl _ packedbf16_S2x256x2048_S1x256x2048_1_0_0) (fun _ => rfl)) (.inl rfl))
  let _ : Vec F S16x8x128 .f32 ← Prog.lift (.load (Memref.whole cc0_scratch14) (Rect.unit (s := S16x8x128) ![0, 0, 0] S16x8x128.size inb_S16x8x128_S16x8x128_0_0_0).toLoadRect (View.loadsAt_vmem h_S16x8x128))
  Prog.lift (.store (Memref.whole cc0_scratch14) (Rect.unit (s := S16x8x128) ![0, 0, 0] S16x8x128.size inb_S16x8x128_S16x8x128_0_0_0) (k0_pay4 (F := F)) Finset.univ (View.stores_vmem_bits_univ h_S16x8x128 rfl) (.inl rfl))
  Prog.lift (.load (Memref.whole cc0_stg1_0) (Rect.unit (s := S4096x128) ![0, 0] S4096x128.size inb_S4096x128_S4096x128_0_0).toLoadRect (View.loadsAt_vmem h_S4096x128))

/-- The first hops of the four pipes, and the block of results of the device's own chunk. -/
def ownBlock (d : Dev nD) (w : Vec F S4096x128 .bf16) : Prog (TpuEff nD τ sig (Elt F) Λ₀ .tc) (F .f32) := do
  startHop 0 d 0
  startHop 3 d 0
  startHop 1 d 0
  startHop 2 d 0
  let v156 : Vec F S1x256x2048 .bf16 ← Prog.lift (.load (Memref.whole cc0_scratch0) (Rect.unit (s := S2x256x2048) ![0, 0, 0] S1x256x2048.size inb_S2x256x2048_S1x256x2048_0_0_0).toLoadRect (View.loadsAt_vmem h_S1x256x2048))
  let v159 : Vec F S1x256x2048 .bf16 ← Prog.lift (.load (Memref.whole cc0_scratch0) (Rect.unit (s := S2x256x2048) ![1, 0, 0] S1x256x2048.size inb_S2x256x2048_S1x256x2048_1_0_0).toLoadRect (View.loadsAt_vmem h_S1x256x2048))
  let _ : Vec F S256x128 .f32 ← Prog.lift (.load (Memref.whole cc0_stg2_0) (Rect.unit (s := S4096x128) (k0_off1 d) S256x128.size (k0_off1_inb d)).toLoadRect (View.loadsAt_vmem h_S256x128))
  Prog.lift (.store (Memref.whole cc0_stg2_0) (Rect.unit (s := S4096x128) (k0_off1 d) S256x128.size (k0_off1_inb d)) (addf (prod (topHalf w) v156) (prod (botHalf w) v159)) Finset.univ (View.stores_vmem_bits_univ h_S256x128 rfl) (.inl rfl))
  pure (blockMax (addf (prod (topHalf w) v156) (prod (botHalf w) v159)))

/-- Iteration `j` of the ring while all four pipes move: two blocks of results. -/
def iter (d : Dev nD) (w : Vec F S4096x128 .bf16) (j : ℕ) (r r' : Fin 15) (a : F .f32) : Prog (TpuEff nD τ sig (Elt F) Λ₀ .tc) (F .f32) := do
  hop 0 d j
  let u ← loadSlot 0 j
  hop 3 d j
  let v ← loadSlot 3 j
  hop 1 d j
  let u' ← loadSlot 1 j
  storeBlock d r (addf (prod (topHalf w) u) (prod (botHalf w) u'))
  hop 2 d j
  let v' ← loadSlot 2 j
  storeBlock d r' (addf (prod (botHalf w) v) (prod (topHalf w) v'))
  pure (accMax (accMax a (addf (prod (topHalf w) u) (prod (botHalf w) u'))) (addf (prod (botHalf w) v) (prod (topHalf w) v')))

/-- The last iteration: the chunk of the opposite device, a half from either side. -/
def lastIter (d : Dev nD) (w : Vec F S4096x128 .bf16) (a : F .f32) : Prog (TpuEff nD τ sig (Elt F) Λ₀ .tc) (F .f32) := do
  hop 0 d 7
  let u ← loadSlot 0 7
  hop 3 d 7
  let v ← loadSlot 3 7
  storeBlock d 7 (addf (prod (topHalf w) u) (prod (botHalf w) v))
  pure (accMax a (addf (prod (topHalf w) u) (prod (botHalf w) v)))

/-- The device at distance `o + 1`, to which the maximum goes. -/
def away (d : Dev nD) (o : Fin 15) : Dev nD := ⟨(d.val + (o.val + 1)) % 16, Nat.mod_lt _ (by decide)⟩

/-- The same devices as the program names them. -/
def maxDst (d : Dev nD) : Fin 15 → Dev nD :=
  ![⟨k0_dev47 d, k0_dev47_lt d⟩, ⟨k0_dev48 d, k0_dev48_lt d⟩, ⟨k0_dev49 d, k0_dev49_lt d⟩, ⟨k0_dev50 d, k0_dev50_lt d⟩, ⟨k0_dev51 d, k0_dev51_lt d⟩,
    ⟨k0_dev52 d, k0_dev52_lt d⟩, ⟨k0_dev53 d, k0_dev53_lt d⟩, ⟨k0_dev54 d, k0_dev54_lt d⟩, ⟨k0_dev55 d, k0_dev55_lt d⟩, ⟨k0_dev56 d, k0_dev56_lt d⟩,
    ⟨k0_dev57 d, k0_dev57_lt d⟩, ⟨k0_dev58 d, k0_dev58_lt d⟩, ⟨k0_dev59 d, k0_dev59_lt d⟩, ⟨k0_dev60 d, k0_dev60_lt d⟩, ⟨k0_dev61 d, k0_dev61_lt d⟩]

theorem maxDst_eq : ∀ (d : Dev nD) (o : Fin 15), maxDst d o = away d o := by decide +kernel

/-- The row of received maxima that device `d` writes at each other device. -/
def ownRow (d : Dev nD) : Memref sig .tc .vmem S8x128 .f32 :=
  ((Memref.whole cc0_scratch14).slice (Rect.unit (s := S16x8x128) (k0_off4 d) S1x8x128.size (k0_off4_inb d)) (fun _ => rfl)).squeeze S8x128
    squeezes_S1x8x128_S8x128

/-- The row in which the maximum of the device at distance `r + 1` lands. -/
def farRow (d : Dev nD) (r : Fin 15) : Memref sig .tc .vmem S8x128 .f32 :=
  ((Memref.whole cc0_scratch14).slice (Rect.unit (s := S16x8x128) (k0_off6 d (BitVec.ofNat 32 (1 + r.val))) S1x8x128.size (k0_off6_inb d r))
    (fun _ => rfl)).squeeze S8x128 squeezes_S1x8x128_S8x128

/-- The semaphore that the landing of device `d`'s maximum raises. -/
def ownRowSem (d : Dev nD) : DmaSem sig :=
  ((cc0_scratch16.slice (Rect.unit (s := S16) (k0_off3 d) S1.size (k0_off3_inb d))).squeeze S_ squeezes_S1_S_).sem

/-- The semaphore of the row at distance `r + 1`. -/
def farRowSem (d : Dev nD) (r : Fin 15) : DmaSem sig :=
  ((cc0_scratch16.slice (Rect.unit (s := S16) (k0_off5 d (BitVec.ofNat 32 (1 + r.val))) S1.size (k0_off5_inb d r))).squeeze S_ squeezes_S1_S_).sem

/-- The send semaphore of the maximum's copy to distance `o + 1`. -/
def maxSendSem (o : Fin 15) : DmaSem sig :=
  ((cc0_scratch15.slice (Rect.unit (s := S15) ![o.val] S1.size (sem15_inb o))).squeeze S_ squeezes_S1_S_).sem

/-- Send the maximum to distance `o + 1`. -/
def sendMax (d : Dev nD) (o : Fin 15) (t : Dev nD) : Prog (TpuEff nD τ sig (Elt F) Λ₀ .tc) PUnit :=
  Prog.lift (.enqueueDma (Memref.whole cc0_scratch13) (.remote (Dev.tc t) (ownRow d) (.dma (maxSendSem o)))
    (.dma (ownRowSem d)) (Memref.isWhole_whole cc0_scratch13).wordExact ((View.wordExact_bits rfl).reshape _ _) ⟨⟨rfl, Or.inl rfl⟩, trivial⟩)

/-- Await the maximum from distance `r + 1`. -/
def recvMax (d : Dev nD) (r : Fin 15) : Prog (TpuEff nD τ sig (Elt F) Λ₀ .tc) PUnit :=
  Prog.lift (.waitDma2 (farRowSem d r) (Memref.whole cc0_scratch13) (farRow d r) (Memref.isWhole_whole cc0_scratch13).wordExact ((View.wordExact_bits rfl).reshape _ _))

/-- Await that the copy to distance `o + 1` has read the maximum. -/
def drainMax (d : Dev nD) (o : Fin 15) : Prog (TpuEff nD τ sig (Elt F) Λ₀ .tc) PUnit :=
  Prog.lift (.waitDma2 (maxSendSem o) (ownRow d) (Memref.whole cc0_scratch13) ((View.wordExact_bits rfl).reshape _ _) (Memref.isWhole_whole cc0_scratch13).wordExact)

/-- Run a step for each distance in turn. -/
def forEach (f : Fin 15 → Prog (TpuEff nD τ sig (Elt F) Λ₀ .tc) PUnit) : List (Fin 15) → Prog (TpuEff nD τ sig (Elt F) Λ₀ .tc) PUnit
  | [] => pure ⟨⟩
  | o :: l => do f o; forEach f l

/-- The exchange of the maxima, and the quantiser. -/
def closing (d : Dev nD) (a : F .f32) : Prog (TpuEff nD τ sig (Elt F) Λ₀ .tc) PUnit := do
  let _ : Vec F S8x128 .f32 ← Prog.lift (.load (Memref.whole cc0_scratch13) (Rect.unit (s := S8x128) ![0, 0] S8x128.size inb_S8x128_S8x128_0_0).toLoadRect (View.loadsAt_vmem h_S8x128))
  Prog.lift (.store (Memref.whole cc0_scratch13) (Rect.unit (s := S8x128) ![0, 0] S8x128.size inb_S8x128_S8x128_0_0)
    (shapeCast S8x128 (mulf (broadcast S8x128 a) (broadcast S8x128 (Scalar.ofBits .f32 0x3F800000#32))) shapeCasts_S8x128_S8x128)
    Finset.univ (View.stores_vmem_bits_univ h_S8x128 rfl) (.inl rfl))
  forEach (fun o => sendMax d o (maxDst d o)) [0, 1, 2, 3, 4, 5, 6, 7, 8, 9, 10, 11, 12, 13, 14]
  forEach (recvMax d) [0, 1, 2, 3, 4, 5, 6, 7, 8, 9, 10, 11, 12, 13, 14]
  forEach (drainMax d) [0, 1, 2, 3, 4, 5, 6, 7, 8, 9, 10, 11, 12, 13, 14]
  let m : Vec F S16x8x128 .f32 ← Prog.lift (.load (Memref.whole cc0_scratch14) (Rect.unit (s := S16x8x128) ![0, 0, 0] S16x8x128.size inb_S16x8x128_S16x8x128_0_0_0).toLoadRect (View.loadsAt_vmem h_S16x8x128))
  let y : Vec F S4096x128 .f32 ← Prog.lift (.load (Memref.whole cc0_stg2_0) (Rect.unit (s := S4096x128) ![0, 0] S4096x128.size inb_S4096x128_S4096x128_0_0).toLoadRect (View.loadsAt_vmem h_S4096x128))
  let _ : Vec F S4096x128 .f32 ← Prog.lift (.load (Memref.whole cc0_stg2_0) (Rect.unit (s := S4096x128) ![0, 0] S4096x128.size inb_S4096x128_S4096x128_0_0).toLoadRect (View.loadsAt_vmem h_S4096x128))
  Prog.lift (.store (Memref.whole cc0_stg2_0) (Rect.unit (s := S4096x128) ![0, 0] S4096x128.size inb_S4096x128_S4096x128_0_0) (k0_pay1 (k0_pay62 a m) (k0_pay63 a m) y) Finset.univ (View.stores_vmem_bits_univ h_S4096x128 rfl) (.inl rfl))

/-- The whole body. -/
def body : Prog (TpuEff nD τ sig (Elt F) Λ₀ .tc) PUnit := do
  let d : Dev nD ← Prog.lift .deviceId
  let w ← opening d
  let a ← ownBlock d w
  let a ← iter d w 0 14 0 a
  let a ← iter d w 1 13 1 a
  let a ← iter d w 2 12 2 a
  let a ← iter d w 3 11 3 a
  let a ← iter d w 4 10 4 a
  let a ← iter d w 5 9 5 a
  let a ← iter d w 6 8 6 a
  let a ← lastIter d w a
  closing d a

set_option maxRecDepth 65536 in
set_option maxHeartbeats 4000000 in
/-- The printed body, run on the call's own buffers and semaphores, is the program above. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1)
      (Memref.isWhole_whole _) (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8 cc0_scratch9 cc0_scratch10
      cc0_scratch11 cc0_scratch12 (Memref.whole cc0_scratch13) (Memref.isWhole_whole _) (Memref.whole cc0_scratch14) (Memref.isWhole_whole _)
      cc0_scratch15 cc0_scratch16 cc0_scratch17 cc0_scratch18 cc0_scratch19 cc0_scratch20 = body := by
  rw [cc0_body_eq_skeleton]
  rfl

end Cert.KernelIdeal.Proof

end
-- ==== Proof.Ideal.Protocol.lean ====
/- The protocol between the sixteen devices: which semaphore is raised by whom, how often, and what
   each raise hands over; what a device owes; the levels by which no wait can be part of a cycle. -/
module

public import proofs.«01_k».proof.Proof.Ideal.Program
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Exec.Context
public import Idealize.ShloMosaic.Lib.Tactic

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resources

Beside the launch's own rounds, rounds whose duties are numbered, and slots that are written again
only after their reader has let them go: a slot of a pipe's buffer, named by device, pipe and slot,
and a row of the received maxima, named by its device and by the device that writes it. -/

abbrev Key : Type := (Dev nD × Fin 4 × Fin 4) ⊕ (Dev nD × Dev nD)
abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × US)).trans (Emb.inr : Emb (UB × US) UU)).trans
    (uEmb (nD := nD) (sig := sig) (Ix := ℕ) (Val := Elt F) (Name := ℕ) (U := UU) (Lvl := ℕ)).toEmb
def ES : Emb US (MT nD τ sig ℕ (Elt F) ℕ UU ℕ) :=
  ((Emb.inr : Emb US (UB × US)).trans (Emb.inr : Emb (UB × US) UU)).trans
    (uEmb (nD := nD) (sig := sig) (Ix := ℕ) (Val := Elt F) (Name := ℕ) (U := UU) (Lvl := ℕ)).toEmb

instance ER_landsIn : (ER : Emb UB 𝕄).LandsIn (upEmb : UEmb _ 𝕄) := by unfold ER; infer_instance
instance ES_landsIn : (ES : Emb US 𝕄).LandsIn (upEmb : UEmb _ 𝕄) := by unfold ES; infer_instance

/-! ## The ring -/

theorem left_right (d : Dev nD) : left (right d) = d := by revert d; decide +kernel
theorem right_left (d : Dev nD) : right (left d) = d := by revert d; decide +kernel
theorem up_down : ∀ (p : Fin 4) (d : Dev nD), up p (down p d) = d
  | 0, d => left_right d | 1, d => left_right d | 2, d => right_left d | 3, d => right_left d
theorem down_up : ∀ (p : Fin 4) (d : Dev nD), down p (up p d) = d
  | 0, d => right_left d | 1, d => right_left d | 2, d => left_right d | 3, d => left_right d

/-- The device whose chunk hop `i` of pipe `p` brings to `d`. -/
def origin (p : Fin 4) (i : ℕ) (d : Dev nD) : Dev nD := (up p)^[i + 1] d

theorem origin_down_succ (p : Fin 4) (i : ℕ) (d : Dev nD) : origin p (i + 1) (down p d) = origin p i d := by
  unfold origin; rw [Function.iterate_succ_apply, up_down]
theorem origin_down_zero (p : Fin 4) (d : Dev nD) : origin p 0 (down p d) = d := up_down p d

theorem hops_le (p : Fin 4) : hops p ≤ 8 := by revert p; decide
theorem hops_ge (p : Fin 4) : 7 ≤ hops p := by revert p; decide

theorem slotOf_add_four (j : ℕ) : slotOf (j + 4) = slotOf j := Fin.ext (Nat.add_mod_right j 4)

/-! ## What is held of a memory reference -/

/-- A memory reference on device `d`, held at share `q` with the values `v` in it. -/
def held {sp : Space} {s : Shape} {e : EltTy} (d : Dev nD) (M : Memref sig .tc sp s e) (q : PosShare TreeShare) (v : s.Idx → Elt F e) : sProp 𝕄 :=
  M.view.loc (d : Thread nD τ) ↦[M.view.set]{q} M.view.rep v

/-- The same whole, whatever values are in it. -/
def heldAny {sp : Space} {s : Shape} {e : EltTy} (d : Dev nD) (M : Memref sig .tc sp s e) : sProp 𝕄 :=
  iprop(∃ f : Buf (Elt F) (M.view.loc (d : Thread nD τ)), M.view.loc (d : Thread nD τ) ↦[M.view.set]{fullShare} f)

instance held_storable {sp : Space} {s : Shape} {e : EltTy} (d : Dev nD) (M : Memref sig .tc sp s e) (q : PosShare TreeShare) (v : s.Idx → Elt F e) :
    BI.Storable (upEmb : UEmb _ 𝕄) (held d M q v) := by unfold held; infer_instance
instance heldAny_storable {sp : Space} {s : Shape} {e : EltTy} (d : Dev nD) (M : Memref sig .tc sp s e) :
    BI.Storable (upEmb : UEmb _ 𝕄) (heldAny (F := F) d M) := by unfold heldAny; infer_instance

theorem held_any {sp : Space} {s : Shape} {e : EltTy} (d : Dev nD) (M : Memref sig .tc sp s e) (v : s.Idx → Elt F e) :
    held d M fullShare v ⊢ heldAny d M := by
  unfold held heldAny
  iintro H; iexists M.view.rep v; iexact H

theorem held_of_read {sp : Space} {s : Shape} {e : EltTy} (d : Dev nD) (M : Memref sig .tc sp s e) (q : PosShare TreeShare)
    (f : Buf (Elt F) (M.view.loc (d : Thread nD τ))) (v : s.Idx → Elt F e) (h : M.view.read (Elt F) f = v) :
    (M.view.loc (d : Thread nD τ) ↦[M.view.set]{q} f : sProp 𝕄) = held d M q v := by
  unfold held; subst h
  exact pointsTo_rep (d : Thread nD τ) M f q

theorem held_split {sp : Space} {s : Shape} {e : EltTy} (d : Dev nD) (M : Memref sig .tc sp s e) (q : PosShare TreeShare) (v : s.Idx → Elt F e) :
    (held d M q v : sProp 𝕄) ⊣⊢ iprop(held d M q.left v ∗ held d M q.right v) := by
  unfold held; exact pointsTo_share (PosShare.mem_left_op_right q)

/-- The row of `d`'s received maxima that device `e` writes. -/
def rowRef (e : Dev nD) : Memref sig .tc .vmem S8x128 .f32 := ownRow e

/-- The semaphore that the landing in that row raises. -/
def rowSem (e : Dev nD) : DmaSem sig := ownRowSem e

/-- What the slot of a key is. -/
def keySlot : Key → sProp 𝕄
  | .inl x => heldAny x.1 (slotRef x.2.1 x.2.2)
  | .inr x => heldAny x.1 (rowRef x.2)

instance keySlot_storable (k : Key) : BI.Storable (upEmb : UEmb _ 𝕄) (keySlot (F := F) k) := by
  rcases k with x | x <;> (unfold keySlot; infer_instance)

/-! ## The semaphores -/

/-- What a semaphore of the call is for. -/
inductive Role
  | barrier
  | credit (p : Fin 4)
  | send (p s : Fin 4)
  | recv (p s : Fin 4)
  | maxSend (o : Fin 15)
  | maxRecv (e : Dev nD)
  | other
deriving DecidableEq

/-- The use of a semaphore, by its number. -/
def role : SemLoc sig → Role
  | .reg q => if h : q.val < 4 then .credit ⟨q.val, h⟩ else .barrier
  | .dma q =>
    if q.val < 3 then .other
    else if q.val < 35 then
      if (q.val - 3) % 8 < 4 then .send ⟨(q.val - 3) / 8 % 4, Nat.mod_lt _ (by decide)⟩ ⟨(q.val - 3) % 4, Nat.mod_lt _ (by decide)⟩
      else .recv ⟨(q.val - 3) / 8 % 4, Nat.mod_lt _ (by decide)⟩ ⟨(q.val - 3) % 4, Nat.mod_lt _ (by decide)⟩
    else if q.val < 50 then .maxSend ⟨(q.val - 35) % 15, Nat.mod_lt _ (by decide)⟩
    else .maxRecv ⟨(q.val - 50) % 16, Nat.mod_lt _ (by decide)⟩

def bCell (d : Dev nD) : GSem nD τ sig := ((d : Thread nD τ), .reg barrier0)
def cCell (d : Dev nD) (p : Fin 4) : GSem nD τ sig := ((d : Thread nD τ), .reg (creditSem p))
def sCell (d : Dev nD) (p s : Fin 4) : GSem nD τ sig := ((d : Thread nD τ), .dma (semAt (sendSems p) s))
def rCell (d : Dev nD) (p s : Fin 4) : GSem nD τ sig := ((d : Thread nD τ), .dma (semAt (recvSems p) s))
def msCell (d : Dev nD) (o : Fin 15) : GSem nD τ sig := ((d : Thread nD τ), .dma (maxSendSem o))
def mrCell (d e : Dev nD) : GSem nD τ sig := ((d : Thread nD τ), .dma (rowSem e))

theorem role_b : role (.reg barrier0) = .barrier := by decide +kernel
theorem role_c (p : Fin 4) : role (.reg (creditSem p)) = .credit p := by revert p; decide +kernel
theorem role_s (p s : Fin 4) : role (.dma (semAt (sendSems p) s)) = .send p s := by revert p s; decide +kernel
theorem role_r (p s : Fin 4) : role (.dma (semAt (recvSems p) s)) = .recv p s := by revert p s; decide +kernel
theorem role_ms (o : Fin 15) : role (.dma (maxSendSem o)) = .maxSend o := by revert o; decide +kernel
theorem role_mr (e : Dev nD) : role (.dma (rowSem e)) = .maxRecv e := by revert e; decide +kernel

/-- The units a landing in a slot raises. -/
def N : ℕ := (slotRef 0 0).view.dmaCredit
/-- The units a landing of a maximum raises. -/
def NM : ℕ := (rowRef 0).view.dmaCredit

theorem N_pos : 0 < N := View.dmaCredit_pos _ (by decide)
theorem NM_pos : 0 < NM := View.dmaCredit_pos _ (by decide)

/-! ## The contents, and what each raise hands over

`X d h` is half `h` of device `d`'s chunk in bfloat16, `A d` the block `d` sends out as its maximum. -/

section Contents

variable (X : Dev nD → Fin 2 → S256x2048.Idx → Elt F .bf16) (A : Dev nD → S8x128.Idx → Elt F .f32)

/-- The values hop `i` of pipe `p` brings to `d`. -/
def chunkAt (p : Fin 4) (i : ℕ) (d : Dev nD) : S256x2048.Idx → Elt F .bf16 := X (origin p i d) (part p)

/-- A slot of pipe `p` holding what hop `i` brought. -/
def slotHeld (d : Dev nD) (p : Fin 4) (i : ℕ) (q : PosShare TreeShare) : sProp 𝕄 := held d (slotRef p (slotOf i)) q (chunkAt X p i d)

/-- The share of its half a device lends to pipe `p`'s first hop. -/
def lent (p : Fin 4) : PosShare TreeShare := if p.val < 2 then fullShare.left.left else fullShare.left.right

/-- What hop `i`'s transfer from `d` reads, and hands back when it has been read. -/
def srcHeld (d : Dev nD) (p : Fin 4) : ℕ → sProp 𝕄
  | 0 => held d (halfRef (part p)) (lent p) (X d (part p))
  | i + 1 => slotHeld X d p i fullShare.left

/-- Device `e` has let go of the rows of its received maxima that the others write. -/
def opened (e : Dev nD) : sProp 𝕄 := bigSep (Finset.univ.erase e) fun t => released ES (.inr (e, t)) 1

instance opened_persistent (e : Dev nD) : BI.Persistent (opened (F := F) e) := by unfold opened; infer_instance
instance opened_storable (e : Dev nD) : BI.Storable (upEmb : UEmb _ 𝕄) (opened (F := F) e) := by unfold opened; infer_instance

/-- Slot `k` of pipe `p` on device `d` has been let go, and its next landing is awaited. -/
def freed (d : Dev nD) (p : Fin 4) (k : ℕ) : sProp 𝕄 :=
  iprop(released ES (.inl (d, p, slotOf k)) 1 ∗ reached ER (rCell d p (slotOf k)) 1)

instance freed_persistent (d : Dev nD) (p : Fin 4) (k : ℕ) : BI.Persistent (freed (F := F) d p k) := by unfold freed; infer_instance
instance freed_storable (d : Dev nD) (p : Fin 4) (k : ℕ) : BI.Storable (upEmb : UEmb _ 𝕄) (freed (F := F) d p k) := by unfold freed; infer_instance

/-- The first `n` slots of pipe `p` on `d` have been let go. -/
def freedTo (d : Dev nD) (p : Fin 4) (n : ℕ) : sProp 𝕄 := bigSep (Finset.range n) fun k => freed d p k

instance freedTo_persistent (d : Dev nD) (p : Fin 4) (n : ℕ) : BI.Persistent (freedTo (F := F) d p n) := by unfold freedTo; infer_instance
instance freedTo_storable (d : Dev nD) (p : Fin 4) (n : ℕ) : BI.Storable (upEmb : UEmb _ 𝕄) (freedTo (F := F) d p n) := by unfold freedTo; infer_instance

/-- The four slots of a pipe's buffer, whatever is in them. -/
def slotsAny (d : Dev nD) (p : Fin 4) : sProp 𝕄 := bigSep (Finset.range 4) fun i => heldAny d (slotRef p (slotOf i))

instance slotsAny_storable (d : Dev nD) (p : Fin 4) : BI.Storable (upEmb : UEmb _ 𝕄) (slotsAny (F := F) d p) := by unfold slotsAny; infer_instance

/-- What one raise of a semaphore of device `d` hands over. -/
def payloadOf (d : Dev nD) (r b : ℕ) : Role → sProp 𝕄
  | .barrier => if b = 0 then iprop(slotsAny (right d) 0 ∗ slotsAny (right d) 1) else iprop(slotsAny (left d) 2 ∗ slotsAny (left d) 3)
  | .credit p => freedTo (down p d) p (b + 1)
  | .send p s => srcHeld X d p (4 * r + s.val)
  | .recv p s => iprop(slotHeld X d p (4 * r + s.val) fullShare ∗ opened (origin p (4 * r + s.val) d))
  | .maxSend o => held d (Memref.whole cc0_scratch13) (Transfers.shareTok fullShare 15 o) (A d)
  | .maxRecv e => held d (rowRef e) fullShare (A e)
  | .other => iprop(emp)

/-- The raises of a semaphore of device `d` in a round. -/
def dutiesOf (d : Dev nD) (r : ℕ) : Role → Finset ℕ
  | .barrier => if r = 0 then {0, 1} else ∅
  | .credit p => if r = 0 then Finset.range (hops p - 4) else ∅
  | .send p s => if 4 * r + s.val < hops p then {0} else ∅
  | .recv p s => if 4 * r + s.val < hops p then {0} else ∅
  | .maxSend _ => if r = 0 then {0} else ∅
  | .maxRecv e => if r = 0 ∧ e ≠ d then {0} else ∅
  | .other => ∅

/-- The units of one raise. -/
def amountOf : Role → ℕ
  | .barrier => 1
  | .credit _ => 1
  | .send _ _ => N
  | .recv _ _ => N
  | .maxSend _ => NM
  | .maxRecv _ => NM
  | .other => 1

theorem amountOf_pos (x : Role) : 0 < amountOf x := by
  cases x <;> first | exact Nat.one_pos | exact N_pos | exact NM_pos

/-- The protocol as a schedule of rounds. -/
def sched : Schedule (GSem nD τ sig) ℕ 𝕄 where
  duties g r := if g.1.2 = .tc then dutiesOf g.1.1 r (role g.2) else ∅
  unitless _ := False
  amount g _ _ := amountOf (role g.2)
  payload g r b := payloadOf X A g.1.1 r b (role g.2)
  amount_pos g _ _ _ := amountOf_pos _

instance slotHeld_storable (d : Dev nD) (p : Fin 4) (i : ℕ) (q : PosShare TreeShare) : BI.Storable (upEmb : UEmb _ 𝕄) (slotHeld X d p i q) := by
  unfold slotHeld; infer_instance
instance srcHeld_storable (d : Dev nD) (p : Fin 4) (i : ℕ) : BI.Storable (upEmb : UEmb _ 𝕄) (srcHeld X d p i) := by
  cases i <;> (unfold srcHeld; infer_instance)

instance payloadOf_storable (d : Dev nD) (r b : ℕ) (x : Role) : BI.Storable (upEmb : UEmb _ 𝕄) (payloadOf X A d r b x) := by
  cases x
  · by_cases h : b = 0
    · simp only [payloadOf, if_pos h]; infer_instance
    · simp only [payloadOf, if_neg h]; infer_instance
  all_goals (simp only [payloadOf]; infer_instance)

instance sched_storable (g : GSem nD τ sig) (r b : ℕ) : BI.Storable (upEmb : UEmb _ 𝕄) ((sched X A).payload g r b) :=
  payloadOf_storable X A g.1.1 r b (role g.2)

/-! ### The schedule read off cell by cell -/

theorem duties_tc (d : Dev nD) (sm : SemLoc sig) (r : ℕ) : (sched X A).duties ((d : Thread nD τ), sm) r = dutiesOf d r (role sm) := by
  dsimp only [sched]; exact if_pos rfl

theorem duties_b (d : Dev nD) : (sched X A).duties (bCell d) 0 = {0, 1} := by
  unfold bCell; rw [duties_tc, role_b]; rfl
theorem duties_c (d : Dev nD) (p : Fin 4) : (sched X A).duties (cCell d p) 0 = Finset.range (hops p - 4) := by
  unfold cCell; rw [duties_tc, role_c]; rfl
theorem duties_s (d : Dev nD) (p s : Fin 4) (r : ℕ) : (sched X A).duties (sCell d p s) r = if 4 * r + s.val < hops p then {0} else ∅ := by
  unfold sCell; rw [duties_tc, role_s]; rfl
theorem duties_r (d : Dev nD) (p s : Fin 4) (r : ℕ) : (sched X A).duties (rCell d p s) r = if 4 * r + s.val < hops p then {0} else ∅ := by
  unfold rCell; rw [duties_tc, role_r]; rfl
theorem duties_ms (d : Dev nD) (o : Fin 15) : (sched X A).duties (msCell d o) 0 = {0} := by
  unfold msCell; rw [duties_tc, role_ms]; rfl
theorem duties_mr (d e : Dev nD) (h : e ≠ d) : (sched X A).duties (mrCell d e) 0 = {0} := by
  unfold mrCell; rw [duties_tc, role_mr]; exact if_pos ⟨rfl, h⟩

theorem amount_b (d : Dev nD) (r b : ℕ) : (sched X A).amount (bCell d) r b = 1 := by
  dsimp only [sched]; unfold bCell; dsimp only; rw [role_b]; rfl
theorem amount_c (d : Dev nD) (p : Fin 4) (r b : ℕ) : (sched X A).amount (cCell d p) r b = 1 := by
  dsimp only [sched]; unfold cCell; dsimp only; rw [role_c]; rfl
theorem amount_s (d : Dev nD) (p s : Fin 4) (r b : ℕ) : (sched X A).amount (sCell d p s) r b = N := by
  dsimp only [sched]; unfold sCell; dsimp only; rw [role_s]; rfl
theorem amount_r (d : Dev nD) (p s : Fin 4) (r b : ℕ) : (sched X A).amount (rCell d p s) r b = N := by
  dsimp only [sched]; unfold rCell; dsimp only; rw [role_r]; rfl
theorem amount_ms (d : Dev nD) (o : Fin 15) (r b : ℕ) : (sched X A).amount (msCell d o) r b = NM := by
  dsimp only [sched]; unfold msCell; dsimp only; rw [role_ms]; rfl
theorem amount_mr (d e : Dev nD) (r b : ℕ) : (sched X A).amount (mrCell d e) r b = NM := by
  dsimp only [sched]; unfold mrCell; dsimp only; rw [role_mr]; rfl

theorem payload_b0 (d : Dev nD) : (sched X A).payload (bCell d) 0 0 = iprop(slotsAny (right d) 0 ∗ slotsAny (right d) 1) := by
  dsimp only [sched]; unfold bCell; dsimp only; rw [role_b]; rfl
theorem payload_b1 (d : Dev nD) : (sched X A).payload (bCell d) 0 1 = iprop(slotsAny (left d) 2 ∗ slotsAny (left d) 3) := by
  dsimp only [sched]; unfold bCell; dsimp only; rw [role_b]; rfl
theorem payload_c (d : Dev nD) (p : Fin 4) (b : ℕ) : (sched X A).payload (cCell d p) 0 b = freedTo (down p d) p (b + 1) := by
  dsimp only [sched]; unfold cCell; dsimp only; rw [role_c]; rfl
theorem payload_s (d : Dev nD) (p s : Fin 4) (r b : ℕ) : (sched X A).payload (sCell d p s) r b = srcHeld X d p (4 * r + s.val) := by
  dsimp only [sched]; unfold sCell; dsimp only; rw [role_s]; rfl
theorem payload_r (d : Dev nD) (p s : Fin 4) (r b : ℕ) : (sched X A).payload (rCell d p s) r b
    = iprop(slotHeld X d p (4 * r + s.val) fullShare ∗ opened (origin p (4 * r + s.val) d)) := by
  dsimp only [sched]; unfold rCell; dsimp only; rw [role_r]; rfl
theorem payload_ms (d : Dev nD) (o : Fin 15) (b : ℕ) : (sched X A).payload (msCell d o) 0 b
    = held d (Memref.whole cc0_scratch13) (Transfers.shareTok fullShare 15 o) (A d) := by
  dsimp only [sched]; unfold msCell; dsimp only; rw [role_ms]; rfl
theorem payload_mr (d e : Dev nD) (b : ℕ) : (sched X A).payload (mrCell d e) 0 b = held d (rowRef e) fullShare (A e) := by
  dsimp only [sched]; unfold mrCell; dsimp only; rw [role_mr]; rfl

theorem div_mod_slot (i : ℕ) : 4 * (i / 4) + (slotOf i).val = i := by unfold slotOf; dsimp only; omega

theorem expect_b (d : Dev nD) : (sched X A).expect (bCell d) 0 = 2 := by
  unfold Schedule.expect Schedule.amountOf
  rw [duties_b, Finset.sum_congr rfl fun b _ => amount_b X A d 0 b]; rfl
theorem expect_c (d : Dev nD) (p : Fin 4) : (sched X A).expect (cCell d p) 0 = hops p - 4 := by
  unfold Schedule.expect Schedule.amountOf
  rw [duties_c, Finset.sum_congr rfl fun b _ => amount_c X A d p 0 b, Finset.sum_const, Finset.card_range, smul_eq_mul, mul_one]
theorem expect_s (d : Dev nD) (p : Fin 4) (i : ℕ) (h : i < hops p) : (sched X A).expect (sCell d p (slotOf i)) (i / 4) = N := by
  unfold Schedule.expect Schedule.amountOf
  rw [duties_s, div_mod_slot, if_pos h, Finset.sum_singleton, amount_s]
theorem expect_r (d : Dev nD) (p : Fin 4) (i : ℕ) (h : i < hops p) : (sched X A).expect (rCell d p (slotOf i)) (i / 4) = N := by
  unfold Schedule.expect Schedule.amountOf
  rw [duties_r, div_mod_slot, if_pos h, Finset.sum_singleton, amount_r]
theorem expect_ms (d : Dev nD) (o : Fin 15) : (sched X A).expect (msCell d o) 0 = NM := by
  unfold Schedule.expect Schedule.amountOf
  rw [duties_ms, Finset.sum_singleton, amount_ms]
theorem expect_mr (d e : Dev nD) (h : e ≠ d) : (sched X A).expect (mrCell d e) 0 = NM := by
  unfold Schedule.expect Schedule.amountOf
  rw [duties_mr X A d e h, Finset.sum_singleton, amount_mr]

end Contents

/-! ## Levels

A wait is below everything its device still owes: the barrier at 1, hop `i`'s landing at `4 i + 4`,
credit `k` at `4 k + 9`, a maximum's landing above all of those. -/

/-- The indices a cell's units are counted at. -/
def L (g : GSem nD τ sig) : Finset ℕ := if g.1.2 = .tc then Finset.range 16 else ∅

/-- The level of a cell's units at an index. -/
def lv (g : GSem nD τ sig) (i : ℕ) : ℕ :=
  match role g.2 with
  | .barrier => 1
  | .credit _ => 4 * i + 9
  | .recv _ _ => 4 * i + 4
  | .maxRecv _ => 1000
  | _ => 0

theorem L_of_ne (g : GSem nD τ sig) (h : g.1.2 ≠ .tc) : L g = ∅ := if_neg h
theorem mem_L (d : Dev nD) (sm : SemLoc sig) (i : ℕ) (h : i < 16) : i ∈ L ((d : Thread nD τ), sm) := by
  unfold L; rw [if_pos rfl]; exact Finset.mem_range.mpr h

theorem lv_b (d : Dev nD) (i : ℕ) : lv (bCell d) i = 1 := by unfold lv bCell; dsimp only; rw [role_b]
theorem lv_c (d : Dev nD) (p : Fin 4) (i : ℕ) : lv (cCell d p) i = 4 * i + 9 := by unfold lv cCell; dsimp only; rw [role_c]
theorem lv_s (d : Dev nD) (p s : Fin 4) (i : ℕ) : lv (sCell d p s) i = 0 := by unfold lv sCell; dsimp only; rw [role_s]
theorem lv_r (d : Dev nD) (p s : Fin 4) (i : ℕ) : lv (rCell d p s) i = 4 * i + 4 := by unfold lv rCell; dsimp only; rw [role_r]
theorem lv_ms (d : Dev nD) (o : Fin 15) (i : ℕ) : lv (msCell d o) i = 0 := by unfold lv msCell; dsimp only; rw [role_ms]
theorem lv_mr (d e : Dev nD) (i : ℕ) : lv (mrCell d e) i = 1000 := by unfold lv mrCell; dsimp only; rw [role_mr]

/-- Everything owed in `O` lies above level `n`. -/
def Above (n : ℕ) (O : CellTallies nD τ sig ℕ) : Prop := ∀ g u, 0 < O g u → u ∈ L g ∧ n < lv g u

theorem Above.zero (n : ℕ) : Above n 0 := fun _ _ h => absurd h (Nat.lt_irrefl 0)

theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0

theorem Above.left {n : ℕ} {O O' : CellTallies nD τ sig ℕ} (h : Above n (O + O')) : Above n O := fun g u hg =>
  h g u (by rw [Pi.add_apply, Finsupp.add_apply]; omega)

theorem Above.mono {n n' : ℕ} {O : CellTallies nD τ sig ℕ} (hn : n ≤ n') (h : Above n' O) : Above n O := fun g u hg =>
  ⟨(h g u hg).1, lt_of_le_of_lt hn (h g u hg).2⟩

theorem Above.at {n i k : ℕ} {d : Dev nD} {sm : SemLoc sig} (hi : i < 16) (hl : n < lv ((d : Thread nD τ), sm) i) :
    Above n (tallyAt ((d : Thread nD τ), sm) i k) := fun g u hg => by
  rw [tallyAt_apply] at hg
  by_cases h : g = ((d : Thread nD τ), sm) ∧ u = i
  · rw [h.1, h.2]; exact ⟨mem_L d sm i hi, hl⟩
  · rw [if_neg h] at hg; exact absurd hg (Nat.lt_irrefl 0)

theorem Above.r {n i k : ℕ} {d : Dev nD} {p s : Fin 4} (hi : i < 16) (hl : n < 4 * i + 4) : Above n (tallyAt (rCell d p s) i k) :=
  Above.at hi ((lv_r d p s i).symm ▸ hl)
theorem Above.c {n i k : ℕ} {d : Dev nD} {p : Fin 4} (hi : i < 16) (hl : n < 4 * i + 9) : Above n (tallyAt (cCell d p) i k) :=
  Above.at hi ((lv_c d p i).symm ▸ hl)
theorem Above.b {n i k : ℕ} {d : Dev nD} (hi : i < 16) (hl : n < 1) : Above n (tallyAt (bCell d) i k) :=
  Above.at hi ((lv_b d i).symm ▸ hl)
theorem Above.mr {n i k : ℕ} {d e : Dev nD} (hi : i < 16) (hl : n < 1000) : Above n (tallyAt (mrCell d e) i k) :=
  Above.at hi ((lv_mr d e i).symm ▸ hl)

theorem Above.sum {n : ℕ} {ι : Type} (S : Finset ι) (f : ι → CellTallies nD τ sig ℕ) (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))

/-- The levels, had together. -/
def lvls : sProp 𝕄 := levAts L lv

instance lvls_persistent : BI.Persistent (lvls (F := F)) := by unfold lvls; infer_instance

/-- A device may wait where the level is at or below everything it owes. -/
theorem mayWait (d : Dev nD) (sm : SemLoc sig) (i n : ℕ) (hi : i < 16) (hn : lv ((d : Thread nD τ), sm) i ≤ n) (O : CellTallies nD τ sig ℕ) (hO : Above n O) :
    lvls (F := F) ⊢ MayWait (d : Thread nD τ) sm i O := by
  unfold lvls
  exact MayOwe.of_cut (L := L) (lev := lv) n (fun p hp => by rw [Finset.mem_singleton.mp hp]; exact mem_L d sm i hi)
    (fun g u hg => (hO g u hg).1) (fun p hp => by rw [Finset.mem_singleton.mp hp]; exact hn) (fun g u hg => (hO g u hg).2)

/-! ## What everyone knows -/

/-- The semaphores of the call that the protocol uses, counted. -/
def csem (i : Fin 68) : SemLoc sig :=
  if h : i.val < 5 then .reg ⟨i.val, h⟩ else .dma ⟨i.val - 2, by have := i.isLt; show _ < 66; omega⟩

def kCell (x : Dev nD × Fin 68) : GSem nD τ sig := ((x.1 : Thread nD τ), csem x.2)

section Known

variable (X : Dev nD → Fin 2 → S256x2048.Idx → Elt F .bf16) (A : Dev nD → S8x128.Idx → Elt F .f32)

/-- A cell is under the protocol. -/
def hasCell (g : GSem nD τ sig) : sProp 𝕄 := iprop((∃ κ, cellInv ER (sched X A) κ g) ∗ reached ER g 0)
/-- A slot is under the discipline of releases. -/
def hasSlot (k : Key) : sProp 𝕄 := iprop(∃ ι, slotInv ES ι k (keySlot (F := F) k))

instance hasCell_persistent (g : GSem nD τ sig) : BI.Persistent (hasCell X A g) := by unfold hasCell; infer_instance
instance hasSlot_persistent (k : Key) : BI.Persistent (hasSlot (F := F) k) := by unfold hasSlot; infer_instance

/-- All cells and slots, and the levels. -/
def known : sProp 𝕄 :=
  iprop((bigSep Finset.univ fun x : Dev nD × Fin 68 => hasCell X A (kCell x)) ∗ (bigSep Finset.univ fun k : Key => hasSlot (F := F) k) ∗ lvls (F := F))

instance known_persistent : BI.Persistent (known X A) := by unfold known; infer_instance

theorem known_mayWait (d : Dev nD) (sm : SemLoc sig) (i n : ℕ) (hi : i < 16) (hn : lv ((d : Thread nD τ), sm) i ≤ n) (O : CellTallies nD τ sig ℕ)
    (hO : Above n O) : known X A ⊢ MayWait (d : Thread nD τ) sm i O := by
  unfold known
  iintro ⟨-, -, H⟩
  iapply (mayWait (F := F) d sm i n hi hn O hO)
  iexact H

theorem known_slot (k : Key) : known X A ⊢ hasSlot (F := F) k := by
  unfold known; exact (sep_elim_right.trans sep_elim_left).trans (bigSep_elim (Finset.mem_univ k))

theorem known_cell (d : Dev nD) (sm : SemLoc sig) (i : Fin 68) (h : csem i = sm) : known X A ⊢ hasCell X A ((d : Thread nD τ), sm) := by
  subst h
  unfold known
  exact sep_elim_left.trans (bigSep_elim (Φ := fun x : Dev nD × Fin 68 => hasCell X A (kCell x)) (Finset.mem_univ (d, i)))

theorem csem_b : csem 4 = .reg barrier0 := by decide +kernel
theorem csem_c (p : Fin 4) : csem ⟨p.val, by omega⟩ = .reg (creditSem p) := by revert p; decide +kernel
theorem csem_s (p s : Fin 4) : csem ⟨5 + 8 * p.val + s.val, by omega⟩ = .dma (semAt (sendSems p) s) := by revert p s; decide +kernel
theorem csem_r (p s : Fin 4) : csem ⟨9 + 8 * p.val + s.val, by omega⟩ = .dma (semAt (recvSems p) s) := by revert p s; decide +kernel
theorem csem_ms (o : Fin 15) : csem ⟨37 + o.val, by omega⟩ = .dma (maxSendSem o) := by revert o; decide +kernel
theorem csem_mr (e : Dev nD) : csem ⟨52 + e.val, by have : e.val < 16 := e.isLt; omega⟩ = .dma (rowSem e) := by revert e; decide +kernel

theorem known_b (d : Dev nD) : known X A ⊢ hasCell X A (bCell d) := known_cell X A d _ _ csem_b
theorem known_c (d : Dev nD) (p : Fin 4) : known X A ⊢ hasCell X A (cCell d p) := known_cell X A d _ _ (csem_c p)
theorem known_s (d : Dev nD) (p s : Fin 4) : known X A ⊢ hasCell X A (sCell d p s) := known_cell X A d _ _ (csem_s p s)
theorem known_r (d : Dev nD) (p s : Fin 4) : known X A ⊢ hasCell X A (rCell d p s) := known_cell X A d _ _ (csem_r p s)
theorem known_ms (d : Dev nD) (o : Fin 15) : known X A ⊢ hasCell X A (msCell d o) := known_cell X A d _ _ (csem_ms o)
theorem known_mr (d e : Dev nD) : known X A ⊢ hasCell X A (mrCell d e) := known_cell X A d _ _ (csem_mr e)

end Known

end Cert.KernelIdeal.Proof

end
-- ==== Proof.Ideal.Pipe.lean ====
/- One pipe of the ring on one device: what the device holds of it before each hop, and that a hop
   carries this from one hop to the next. -/
module

public import proofs.«01_k».proof.Proof.Ideal.Protocol
public import Idealize.SL.BI.BigOpNat

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- A program run by device `d`. -/
abbrev Wp (d : Dev nD) (P : Prog (TpuEff nD τ sig (Elt F) Λ₀ .tc) PUnit) (Q : PUnit → sProp 𝕄) : sProp 𝕄 :=
  wp frame (wpE (defs₀ (F := F)) 𝒱₀ (d : Thread nD τ) none) Set.univ P Q

/-- What device `d` still owes, whatever it has waited for. -/
def Owes (d : Dev nD) (O : CellTallies nD τ sig ℕ) : sProp 𝕄 := iprop(∃ W, owes (d : Thread nD τ) O W)

theorem slot_credit (p s : Fin 4) : (slotRef p s).view.dmaCredit = N := by revert p s; decide +kernel
theorem half_credit (h : Fin 2) : (halfRef h).view.dmaCredit = N := by revert h; decide +kernel
theorem src_credit (p : Fin 4) (j : ℕ) : (srcRef p j).view.dmaCredit = N := by
  cases j
  · exact half_credit _
  · exact slot_credit _ _

section

variable (X : Dev nD → Fin 2 → S256x2048.Idx → Elt F .bf16) (A : Dev nD → S8x128.Idx → Elt F .f32)

/-! ## What a device holds of a pipe -/

/-- The rights with which `d` starts hop `i`: the two raises it may make, and, from the fifth hop on,
    the credit it awaits first and its turn to write the slot. -/
def startTok (d : Dev nD) (p : Fin 4) (i : ℕ) : sProp 𝕄 :=
  iprop(dutyTok ER (sCell d p (slotOf i)) (i / 4) 0 ∗ dutyTok ER (rCell (down p d) p (slotOf i)) (i / 4) 0
    ∗ if i < 4 then iprop(emp) else iprop(cred (tallyAt (cCell d p) (i - 4) 1) ∗ writeTok ES (.inl (down p d, p, slotOf (i - 4))) 1))

/-- The rights with which `d` lets slot `k` go and gives the credit for it. -/
def creditTok (d : Dev nD) (p : Fin 4) (k : ℕ) : sProp 𝕄 :=
  iprop(readerAt ES (.inl (d, p, slotOf k)) 0 ∗ dutyTok ER (cCell (up p d) p) 0 k)

/-- The units of hop `i`'s landing. -/
def recvTok (d : Dev nD) (p : Fin 4) (i : ℕ) : sProp 𝕄 := cred (tallyAt (rCell d p (slotOf i)) i N)

/-- Where `d` stands at the two semaphores of the slot of hop `i`. -/
def posAt (d : Dev nD) (p : Fin 4) (i : ℕ) : sProp 𝕄 :=
  iprop((atPos ER (rCell d p (slotOf i)) (i / 4) ∅ 0 ∗ reached ER (rCell d p (slotOf i)) (i / 4))
    ∗ atPos ER (sCell d p (slotOf i)) (i / 4) ∅ 0 ∗ reached ER (sCell d p (slotOf i)) (i / 4))

/-- Where `d` stands at the pipe's credits after `n` of them. -/
def creditPos (d : Dev nD) (p : Fin 4) (n : ℕ) : sProp 𝕄 :=
  iprop(∃ T : Finset ℕ, ⌜T ⊆ Finset.range (hops p - 4) ∧ n ≤ T.card⌝ ∗ atPos ER (cCell d p) 0 T n
    ∗ bigSep T fun k => freedTo (down p d) p (k + 1))

/-- The slot of the last landing: its other half is lent to the hop that passes it on. -/
def curSlot (d : Dev nD) (p : Fin 4) : ℕ → sProp 𝕄
  | 0 => iprop(emp)
  | j + 1 => if j + 1 < hops p then slotHeld X d p j fullShare.right else slotHeld X d p j fullShare

/-- The device's own half, back from the first hop. -/
def halfBack (d : Dev nD) (p : Fin 4) : ℕ → sProp 𝕄
  | 0 => iprop(emp)
  | _ + 1 => srcHeld X d p 0

/-- Before hop `j`: hops up to `j` are started, the hops below `j` done. -/
def pipeSt (d : Dev nD) (p : Fin 4) (j : ℕ) : sProp 𝕄 :=
  iprop((bigSep (Finset.Ico j (hops p)) fun i => recvTok (F := F) d p i)
    ∗ (bigSep (Finset.Ico (j + 1) (hops p)) fun i => startTok (F := F) d p i)
    ∗ (bigSep (Finset.Ico (j + 1) 4) fun i => heldAny (F := F) (down p d) (slotRef p (slotOf i)))
    ∗ (bigSep (Finset.Ico (j - 1) (hops p - 4)) fun k => creditTok (F := F) d p k)
    ∗ (bigSep (Finset.Ico j (j + 4)) fun i => posAt (F := F) d p i)
    ∗ creditPos (F := F) d p (min (j + 1) (hops p) - 4)
    ∗ (if j < hops p then cred (tallyAt (sCell d p (slotOf j)) 0 N) else iprop(emp))
    ∗ (bigSep (Finset.Ico (hops p - 4) (j - 1)) fun i => slotHeld X d p i fullShare)
    ∗ curSlot X d p j
    ∗ freedTo (F := F) d p (min (j - 1) (hops p - 4))
    ∗ halfBack X d p j
    ∗ bigSep (Finset.range j) fun i => opened (F := F) (origin p i d))

/-- What `d` owes of a pipe: the landings of the hops from `s` on, the credits from `g` on. -/
def owedPipe (d : Dev nD) (p : Fin 4) (s g : ℕ) : CellTallies nD τ sig ℕ :=
  (∑ i ∈ Finset.Ico s (hops p), tallyAt (rCell (down p d) p (slotOf i)) i N) + ∑ k ∈ Finset.Ico g (hops p - 4), tallyAt (cCell (up p d) p) k 1

/-- The same before hop `j`. -/
def owedAt (d : Dev nD) (p : Fin 4) (j : ℕ) : CellTallies nD τ sig ℕ := owedPipe d p (j + 1) (j - 1)

theorem above_owedPipe (d : Dev nD) (p : Fin 4) (n s g : ℕ) (hs : n < 4 * s + 4) (hg : n < 4 * g + 9) : Above n (owedPipe d p s g) := by
  have := hops_le p
  refine Above.add (Above.sum _ _ fun i hi => ?_) (Above.sum _ _ fun k hk => ?_)
  · rw [Finset.mem_Ico] at hi
    exact Above.r (by omega) (by omega)
  · rw [Finset.mem_Ico] at hk
    exact Above.c (by omega) (by omega)

theorem above_owedAt (d : Dev nD) (p : Fin 4) (j j' : ℕ) (h : j ≤ j') : Above (4 * j + 4) (owedAt d p j') :=
  above_owedPipe d p _ _ _ (by omega) (by omega)

theorem sum_Ico_bot {M : Type} [AddCommMonoid M] {a b : ℕ} (h : a < b) (f : ℕ → M) :
    ∑ i ∈ Finset.Ico a b, f i = (∑ i ∈ Finset.Ico (a + 1) b, f i) + f a := by
  rw [show Finset.Ico a b = insert a (Finset.Ico (a + 1) b) by ext x; simp only [Finset.mem_Ico, Finset.mem_insert]; omega,
    Finset.sum_insert (by rw [Finset.mem_Ico]; omega), add_comm]

theorem owedPipe_start (d : Dev nD) (p : Fin 4) (s g : ℕ) (h : s < hops p) :
    owedPipe d p s g = owedPipe d p (s + 1) g + tallyAt (rCell (down p d) p (slotOf s)) s N := by
  unfold owedPipe
  rw [sum_Ico_bot h, add_right_comm]

theorem owedPipe_credit (d : Dev nD) (p : Fin 4) (s g : ℕ) (h : g < hops p - 4) :
    owedPipe d p s g = owedPipe d p s (g + 1) + tallyAt (cCell (up p d) p) g 1 := by
  unfold owedPipe
  rw [sum_Ico_bot h, add_assoc]

theorem owedPipe_start_end (d : Dev nD) (p : Fin 4) (s g : ℕ) (h : hops p ≤ s) : owedPipe d p s g = owedPipe d p (s + 1) g := by
  unfold owedPipe
  rw [Finset.Ico_eq_empty_of_le h, Finset.Ico_eq_empty_of_le (by omega : hops p ≤ s + 1)]

theorem owedPipe_credit_end (d : Dev nD) (p : Fin 4) (s g : ℕ) (h : hops p - 4 ≤ g) : owedPipe d p s g = owedPipe d p s (g + 1) := by
  unfold owedPipe
  rw [Finset.Ico_eq_empty_of_le h, Finset.Ico_eq_empty_of_le (by omega : hops p - 4 ≤ g + 1)]

/-! ## The steps of a hop -/

theorem div_add_four (j : ℕ) : (j + 4) / 4 = j / 4 + 1 := by omega

theorem duties_r_hop (d : Dev nD) (p : Fin 4) (i : ℕ) (h : i < hops p) : (sched X A).duties (rCell d p (slotOf i)) (i / 4) = {0} := by
  rw [duties_r, div_mod_slot, if_pos h]
theorem duties_s_hop (d : Dev nD) (p : Fin 4) (i : ℕ) (h : i < hops p) : (sched X A).duties (sCell d p (slotOf i)) (i / 4) = {0} := by
  rw [duties_s, div_mod_slot, if_pos h]
theorem payload_r_hop (d : Dev nD) (p : Fin 4) (i : ℕ) : (sched X A).payload (rCell d p (slotOf i)) (i / 4) 0
    = iprop(slotHeld X d p i fullShare ∗ opened (origin p i d)) := by rw [payload_r, div_mod_slot]
theorem payload_s_hop (d : Dev nD) (p : Fin 4) (i : ℕ) : (sched X A).payload (sCell d p (slotOf i)) (i / 4) 0 = srcHeld X d p i := by
  rw [payload_s, div_mod_slot]

/-- Awaiting the one raise of a round of a transfer semaphore. -/
theorem wp_dmaWait (d : Dev nD) (sm : DmaSem sig) (c : Fin 68) (hc : csem c = .dma sm) (i n R : ℕ) (hi : i < 16)
    (hn : lv ((d : Thread nD τ), .dma sm) i ≤ n) (hd : (sched X A).duties ((d : Thread nD τ), .dma sm) R = {0})
    {P : sProp 𝕄} (hP : (sched X A).payload ((d : Thread nD τ), .dma sm) R 0 = P) (O : CellTallies nD τ sig ℕ) (hO : Above n O)
    {sp sp' : Space} {s : Shape} {e : EltTy} {src : Memref sig .tc sp s e} {dst : Memref sig .tc sp' s e} {h1 : src.view.WordExact} {h2 : dst.view.WordExact}
    (u : ℕ) (hu : dst.view.dmaCredit = u) (hk : (sched X A).amount ((d : Thread nD τ), .dma sm) R 0 = u)
    {k : PUnit → Prog (TpuEff nD τ sig (Elt F) Λ₀ .tc) PUnit} {Q : PUnit → sProp 𝕄} :
    iprop(known X A ∗ cred (tallyAt ((d : Thread nD τ), .dma sm) i u) ∗ Owes d O ∗ atPos ER ((d : Thread nD τ), .dma sm) R ∅ 0)
      ⊢ iprop(((Owes d O ∗ atPos ER ((d : Thread nD τ), .dma sm) (R + 1) ∅ 0 ∗ reached ER ((d : Thread nD τ), .dma sm) (R + 1) ∗ P) -∗ Wp d (k ⟨⟩) Q)
          -∗ Wp d (.op (.waitDma2 sm src dst h1 h2) k) Q) := by
  have hexp : 0 + dst.view.dmaCredit = (sched X A).expect ((d : Thread nD τ), .dma sm) R := by
    unfold Schedule.expect Schedule.amountOf
    rw [hd, Finset.sum_singleton, hk, hu, zero_add]
  subst hP
  have hpay : (bigSep ((sched X A).duties ((d : Thread nD τ), .dma sm) R \ ∅) fun b => (sched X A).payload ((d : Thread nD τ), .dma sm) R b)
      = (sched X A).payload ((d : Thread nD τ), .dma sm) R 0 := by
    rw [Finset.sdiff_empty, hd, bigSep_singleton]
  unfold Owes
  iintro ⟨#HK, Hc, ⟨%W, HO⟩, Hat⟩ Hk
  ihave #Hcell := (known_cell X A d _ c hc) $$ HK
  unfold hasCell
  icases Hcell with ⟨⟨%κ, #Hinv⟩, -⟩
  iapply (Rounds.wp_wait_rest_token 𝒱₀ ER (sched X A) (d : Thread nD τ) none (κ := κ)
      (wpE_waitDma2_eq 𝒱₀ (d : Thread nD τ) none Set.univ) (Set.mem_univ _) i (O := O) (W := W) (R := R) (m := 0) (T := ∅) hexp) $$ [Hc HO Hat]
  · isplitr; · iexact Hinv
    isplitl [Hc]; · rw [hu]; iexact Hc
    isplitl [HO]; · iexact HO
    isplitr; · iapply (known_mayWait X A d (.dma sm) i n hi hn O hO); iexact HK
    iexact Hat
  iintro ⟨HO, Hat, #Hr, Hpay⟩
  iapply Hk
  isplitl [HO]; · iexists _; iexact HO
  isplitl [Hat]; · iexact Hat
  isplitr; · iexact Hr
  iapply (Entails.of_eq hpay)
  iexact Hpay

/-- Awaiting hop `j`'s landing. -/
theorem wp_recv (d : Dev nD) (p : Fin 4) (j : ℕ) (hj : j < hops p) (O : CellTallies nD τ sig ℕ) (hO : Above (4 * j + 4) O)
    {src : Memref sig .tc .vmem S256x2048 .bf16} {h1 : src.view.WordExact} {h2 : (slotRef p (slotOf j)).view.WordExact}
    {k : PUnit → Prog (TpuEff nD τ sig (Elt F) Λ₀ .tc) PUnit} {Q : PUnit → sProp 𝕄} :
    iprop(known X A ∗ recvTok d p j ∗ Owes d O ∗ atPos ER (rCell d p (slotOf j)) (j / 4) ∅ 0)
      ⊢ iprop(((Owes d O ∗ atPos ER (rCell d p (slotOf (j + 4))) ((j + 4) / 4) ∅ 0 ∗ reached ER (rCell d p (slotOf (j + 4))) ((j + 4) / 4)
              ∗ slotHeld X d p j fullShare ∗ opened (origin p j d)) -∗ Wp d (k ⟨⟩) Q)
          -∗ Wp d (.op (.waitDma2 (semAt (recvSems p) (slotOf j)) src (slotRef p (slotOf j)) h1 h2) k) Q) := by
  have h8 := hops_le p
  rw [slotOf_add_four, div_add_four]
  exact wp_dmaWait X A d _ _ (csem_r p (slotOf j)) j (4 * j + 4) (j / 4) (by omega) (le_of_eq (lv_r d p (slotOf j) j)) (duties_r_hop X A d p j hj)
    (payload_r_hop X A d p j) O hO N (slot_credit _ _) (amount_r X A d p (slotOf j) _ _)

/-- Awaiting that hop `j`'s source has been read. -/
theorem wp_sent (d : Dev nD) (p : Fin 4) (j : ℕ) (hj : j < hops p) (O : CellTallies nD τ sig ℕ) (hO : Above 0 O)
    {src : Memref sig .tc .vmem S256x2048 .bf16} {h1 : src.view.WordExact} {h2 : (srcRef p j).view.WordExact}
    {k : PUnit → Prog (TpuEff nD τ sig (Elt F) Λ₀ .tc) PUnit} {Q : PUnit → sProp 𝕄} :
    iprop(known X A ∗ cred (tallyAt (sCell d p (slotOf j)) 0 N) ∗ Owes d O ∗ atPos ER (sCell d p (slotOf j)) (j / 4) ∅ 0)
      ⊢ iprop(((Owes d O ∗ atPos ER (sCell d p (slotOf (j + 4))) ((j + 4) / 4) ∅ 0 ∗ reached ER (sCell d p (slotOf (j + 4))) ((j + 4) / 4)
              ∗ srcHeld X d p j) -∗ Wp d (k ⟨⟩) Q)
          -∗ Wp d (.op (.waitDma2 (semAt (sendSems p) (slotOf j)) src (srcRef p j) h1 h2) k) Q) := by
  rw [slotOf_add_four, div_add_four]
  exact wp_dmaWait X A d _ _ (csem_s p (slotOf j)) 0 0 (j / 4) (by omega) (le_of_eq (lv_s d p (slotOf j) 0)) (duties_s_hop X A d p j hj)
    (payload_s_hop X A d p j) O hO N (src_credit _ _) (amount_s X A d p (slotOf j) _ _)

/-- The share of hop `i`'s source that is lent to it. -/
def srcShare (p : Fin 4) : ℕ → PosShare TreeShare
  | 0 => lent p
  | _ + 1 => fullShare.left

theorem srcHeld_eq (d : Dev nD) (p : Fin 4) (i : ℕ) : srcHeld X d p i = held d (srcRef p i) (srcShare p i) (chunkAt X p i (down p d)) := by
  cases i
  · unfold chunkAt; rw [origin_down_zero]; rfl
  · unfold chunkAt; rw [origin_down_succ]; rfl

/-- Starting hop `i`. -/
theorem wp_startHop (d : Dev nD) (p : Fin 4) (i : ℕ) (hi : i < hops p) (O : CellTallies nD τ sig ℕ)
    {k : PUnit → Prog (TpuEff nD τ sig (Elt F) Λ₀ .tc) PUnit} {Q : PUnit → sProp 𝕄} :
    iprop(known X A ∗ srcHeld X d p i ∗ heldAny (down p d) (slotRef p (slotOf i)) ∗ opened (origin p i (down p d))
        ∗ Owes d (O + tallyAt (rCell (down p d) p (slotOf i)) i N)
        ∗ dutyTok ER (sCell d p (slotOf i)) (i / 4) 0 ∗ reached ER (sCell d p (slotOf i)) (i / 4)
        ∗ dutyTok ER (rCell (down p d) p (slotOf i)) (i / 4) 0 ∗ reached ER (rCell (down p d) p (slotOf i)) (i / 4))
      ⊢ iprop(((cred (tallyAt (sCell d p (slotOf i)) 0 N) ∗ Owes d O) -∗ Wp d (k ⟨⟩) Q) -∗ Wp d (startHop p d i >>= k) Q) := by
  have hd1 : 0 ∈ (sched X A).duties (sCell d p (slotOf i)) (i / 4) := by rw [duties_s_hop X A d p i hi]; exact Finset.mem_singleton_self 0
  have hd2 : 0 ∈ (sched X A).duties (rCell (down p d) p (slotOf i)) (i / 4) := by
    rw [duties_r_hop X A (down p d) p i hi]; exact Finset.mem_singleton_self 0
  have hp1 : held d (srcRef p i) (srcShare p i) (chunkAt X p i (down p d)) ⊢ (sched X A).payload (sCell d p (slotOf i)) (i / 4) 0 := by
    rw [payload_s_hop, srcHeld_eq]
  have hp2 (fd) : iprop(((slotRef p (slotOf i)).view.loc (down p d : Thread nD τ) ↦[(slotRef p (slotOf i)).view.set]{fullShare}
      ((slotRef p (slotOf i)).view.write (Elt F) fd ((srcRef p i).view.read (Elt F) ((srcRef p i).view.rep (chunkAt X p i (down p d)))) Finset.univ))
        ∗ opened (origin p i (down p d))) ⊢ (sched X A).payload (rCell (down p d) p (slotOf i)) (i / 4) 0 := by
    rw [payload_r_hop]
    unfold slotHeld
    rw [held_of_read (down p d) (slotRef p (slotOf i)) fullShare _ (chunkAt X p i (down p d))
      (by rw [View.read_write_univ, View.read_rep])]
  rw [srcHeld_eq]
  unfold held at hp1 ⊢
  unfold Owes heldAny startHop
  simp only [Prog.lift, Prog.bind_op, Prog.bind_ret]
  iintro ⟨#HK, Hs, ⟨%fd, Hd⟩, #Hop, ⟨%W, HO⟩, Ht1, #Hr1, Ht2, #Hr2⟩ Hk
  ihave #Hc1 := (known_s X A d p (slotOf i)) $$ HK
  ihave #Hc2 := (known_r X A (down p d) p (slotOf i)) $$ HK
  unfold hasCell
  icases Hc1 with ⟨⟨%κ1, #Hi1⟩, -⟩
  icases Hc2 with ⟨⟨%κ2, #Hi2⟩, -⟩
  iapply (Rounds.wp_send_pointsTo_with 𝒱₀ ER (sched X A) (d : Thread nD τ) none (c' := ((down p d : Dev nD) : Thread nD τ)) (κ₁ := κ1) (κ₂ := κ2)
      (r₁ := i / 4) (r₂ := i / 4) (d₁ := 0) (d₂ := 0) (fd := fd) (F := opened (origin p i (down p d)))
      (sS := .dma (semAt (sendSems p) (slotOf i))) (sem := .dma (semAt (recvSems p) (slotOf i)))
      hd1 hd2 i 0 N (slot_credit p (slotOf i))
      (amount_s X A d p (slotOf i) _ _) (amount_r X A (down p d) p (slotOf i) _ _) O rfl (W := W) hp1 (hp2 fd)) $$ [Hs Hd HO Ht1 Ht2]
  · isplitr; · iexact Hi1
    isplitr; · iexact Hi2
    isplitl [Hs]; · iexact Hs
    isplitl [Hd]
    · isplitl [Hd]; · iexact Hd
      iexact Hop
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem keySlot_inl (d : Dev nD) (p s : Fin 4) : keySlot (F := F) (.inl (d, p, s)) = heldAny d (slotRef p s) := rfl

/-- Awaiting the credit for slot `n`: some slot not below it has been let go, so slot `n` has. -/
theorem wp_credit (d : Dev nD) (p : Fin 4) (n : ℕ) (O : CellTallies nD τ sig ℕ) (hO : Above (4 * n + 9) O) (hn : n < hops p - 4)
    {k : PUnit → Prog (TpuEff nD τ sig (Elt F) Λ₀ .tc) PUnit} {Q : PUnit → sProp 𝕄} :
    iprop(known X A ∗ cred (tallyAt (cCell d p) n 1) ∗ creditPos d p n ∗ Owes d O)
      ⊢ iprop(((creditPos d p (n + 1) ∗ freed (down p d) p n ∗ Owes d O) -∗ Wp d (k ⟨⟩) Q) -∗ Wp d (semWaitWord (creditSem p) 1#32 >>= k) Q) := by
  have h8 := hops_le p
  unfold Owes creditPos
  simp only [semWaitWord, Prog.bind_op, Prog.bind_ret]
  iintro ⟨#HK, Hc, ⟨%T, %hT, Hat, #Hfr⟩, ⟨%W, HO⟩⟩ Hk
  ihave #Hcell := (known_c X A d p) $$ HK
  unfold hasCell
  icases Hcell with ⟨⟨%κ, #Hinv⟩, -⟩
  iapply (Rounds.wp_wait 𝒱₀ ER (sched X A) (d : Thread nD τ) none (κ := κ)
      (wpE_semWait_eq 𝒱₀ (d : Thread nD τ) none Set.univ) (Set.mem_univ _) (cr := Finsupp.single n 1) (O := O) (W := W)
      {((.reg (creditSem p) : SemLoc sig), n)} (R := 0) (m := n) (T := T)
      (by rw [Util.total_single]; decide) (image_single_subset _ n 1)) $$ [Hc HO Hat]
  · isplitr; · iexact Hinv
    isplitl [Hc]; · iexact Hc
    isplitl [HO]; · iexact HO
    isplitr
    · iapply (known_mayWait X A d (.reg (creditSem p)) n (4 * n + 9) (by omega) (le_of_eq (lv_c d p n)) O hO); iexact HK
    iexact Hat
  iintro %S ⟨%hS, HO, Hat, Hnew⟩
  obtain ⟨hTS, hSd, hcard⟩ := hS
  have hd : (sched X A).duties ((d : Thread nD τ), .reg (creditSem p)) 0 = Finset.range (hops p - 4) := duties_c X A d p
  have he : (sched X A).expect ((d : Thread nD τ), .reg (creditSem p)) 0 = hops p - 4 := expect_c X A d p
  rw [hd] at hSd hcard
  rw [he] at hcard
  have hcard' : n + 1 ≤ S.card := by
    have h1 := Finset.card_sdiff_of_subset hSd
    have h2 := Finset.card_le_card hSd
    rw [Finset.card_range] at h1 h2
    have h3 : (1#32 : BitVec 32).toNat = 1 := by decide
    omega
  obtain ⟨b, hb, hbn⟩ : ∃ b ∈ S, n ≤ b := by
    by_contra hne
    push Not at hne
    have := Finset.card_le_card (show S ⊆ Finset.range n from fun x hx => Finset.mem_range.mpr (hne x hx))
    rw [Finset.card_range] at this
    omega
  have hall : iprop((bigSep T fun k => freedTo (F := F) (down p d) p (k + 1))
      ∗ bigSep (S \ T) fun b => (sched X A).payload ((d : Thread nD τ), .reg (creditSem p)) 0 b)
      ⊢ bigSep S fun k => freedTo (F := F) (down p d) p (k + 1) := by
    rw [show (bigSep (S \ T) fun b => (sched X A).payload ((d : Thread nD τ), .reg (creditSem p)) 0 b)
      = bigSep (S \ T) fun k => freedTo (F := F) (down p d) p (k + 1) from congrArg _ (funext fun b => payload_c X A d p b)]
    exact (Entails.of_eq (bigSep_union (Φ := fun k => freedTo (F := F) (down p d) p (k + 1)) Finset.disjoint_sdiff).symm).trans
      (Entails.of_eq (by rw [Finset.union_sdiff_of_subset hTS]))
  have hone : (bigSep S fun k => freedTo (F := F) (down p d) p (k + 1)) ⊢ freed (F := F) (down p d) p n := by
    refine (bigSep_elim hb).trans ?_
    unfold freedTo
    exact bigSep_elim (Finset.mem_range.mpr (Nat.lt_succ_of_le hbn))
  ihave #Hall := hall $$ [Hnew]
  · isplitr; · iexact Hfr
    iexact Hnew
  iapply Hk
  isplitl [Hat]
  · iexists S
    isplitr; · ipureintro; exact ⟨hSd, hcard'⟩
    isplitl [Hat]; · iexact Hat
    iexact Hall
  isplitr; · iapply hone; iexact Hall
  iexists _; iexact HO

/-- The next hop of a pipe, once hop `j` has landed. -/
theorem wp_next (d : Dev nD) (p : Fin 4) (j : ℕ) (hj : j < hops p) (Rest : CellTallies nD τ sig ℕ) (hR : Above (4 * j + 4) Rest)
    {k : PUnit → Prog (TpuEff nD τ sig (Elt F) Λ₀ .tc) PUnit} {Q : PUnit → sProp 𝕄} :
    iprop(known X A ∗ (bigSep (Finset.Ico (j + 1) (hops p)) fun i => startTok (F := F) d p i)
        ∗ (bigSep (Finset.Ico (j + 1) 4) fun i => heldAny (F := F) (down p d) (slotRef p (slotOf i)))
        ∗ (bigSep (Finset.Ico (j + 1) (j + 4)) fun i => posAt (F := F) d p i)
        ∗ creditPos d p (min (j + 1) (hops p) - 4) ∗ slotHeld X d p j fullShare ∗ opened (origin p j d) ∗ Owes d (Rest + owedPipe d p (j + 1) (j - 1)))
      ⊢ iprop((((bigSep (Finset.Ico (j + 1 + 1) (hops p)) fun i => startTok (F := F) d p i)
          ∗ (bigSep (Finset.Ico (j + 1 + 1) 4) fun i => heldAny (F := F) (down p d) (slotRef p (slotOf i)))
          ∗ (bigSep (Finset.Ico (j + 1) (j + 4)) fun i => posAt (F := F) d p i)
          ∗ creditPos d p (min (j + 1 + 1) (hops p) - 4) ∗ curSlot X d p (j + 1)
          ∗ (if j + 1 < hops p then cred (tallyAt (sCell d p (slotOf (j + 1))) 0 N) else iprop(emp))
          ∗ Owes d (Rest + owedPipe d p (j + 1 + 1) (j - 1))) -∗ Wp d (k ⟨⟩) Q)
        -∗ Wp d ((bif Nat.blt (j + 1) (hops p) then (do
              bif Nat.ble 3 j then semWaitWord (creditSem p) 1#32 else pure ⟨⟩
              startHop p d (j + 1)) else pure ⟨⟩) >>= k) Q) := by
  have h8 := hops_le p
  have h7 := hops_ge p
  have hcur : curSlot X d p (j + 1) = if j + 1 < hops p then slotHeld X d p j fullShare.right else slotHeld X d p j fullShare := rfl
  by_cases h : j + 1 < hops p
  · rw [show Nat.blt (j + 1) (hops p) = true from Nat.blt_eq.mpr h, cond_true]
    simp only [Prog.bind_assoc]
    have hO : Rest + owedPipe d p (j + 1) (j - 1) = (Rest + owedPipe d p (j + 1 + 1) (j - 1)) + tallyAt (rCell (down p d) p (slotOf (j + 1))) (j + 1) N := by
      rw [owedPipe_start d p (j + 1) (j - 1) h]; exact (add_assoc _ _ _).symm
    have hab : Above (4 * j + 4) (Rest + owedPipe d p (j + 1) (j - 1)) := hR.add (above_owedPipe d p _ _ _ (by omega) (by omega))
    rw [bigSep_Ico_succ_bot h, bigSep_Ico_succ_bot (show j + 1 < j + 4 by omega), if_pos h]
    rw [hcur, if_pos h]
    have hsp : slotHeld X d p j fullShare ⊢ iprop(srcHeld X d p (j + 1) ∗ slotHeld X d p j fullShare.right) :=
      (held_split d (slotRef p (slotOf j)) fullShare (chunkAt X p j d)).mp
    by_cases h3 : 3 ≤ j
    · rw [show Nat.ble 3 j = true from Nat.ble_eq.mpr h3, cond_true, Finset.Ico_eq_empty_of_le (by omega : 4 ≤ j + 1),
        Finset.Ico_eq_empty_of_le (by omega : 4 ≤ j + 1 + 1), show min (j + 1) (hops p) - 4 = j - 3 by omega,
        show min (j + 1 + 1) (hops p) - 4 = j - 3 + 1 by omega]
      obtain ⟨n, rfl⟩ : ∃ n, j = n + 3 := ⟨j - 3, by omega⟩
      rw [show n + 3 - 3 = n by omega]
      unfold startTok
      rw [if_neg (by omega : ¬n + 3 + 1 < 4), show n + 3 + 1 - 4 = n by omega]
      iintro ⟨#HK, ⟨⟨Ht1, Ht2, Hcr, Hw⟩, Hst⟩, Htg, ⟨Hp, Hps⟩, Hcp, Hs, #Hop, HO⟩ Hk
      iapply (wp_credit X A d p n _ (hab.mono (by omega)) (by omega)) $$ [Hcr Hcp HO]
      · isplitr; · iexact HK
        isplitl [Hcr]; · iexact Hcr
        isplitl [Hcp]; · iexact Hcp
        iexact HO
      unfold freed
      iintro ⟨Hcp, ⟨#Hrel, #Hreach⟩, HO⟩
      ihave #Hsl := (known_slot X A (.inl (down p d, p, slotOf n))) $$ HK
      unfold hasSlot
      icases Hsl with ⟨%ι, #Hsi⟩
      imod ((slot_take ES (Set.mem_univ ι) 1).trans (fupd_mono (Entails.of_eq (keySlot_inl (down p d) p (slotOf n))))) $$ [Hw] with Hfree
      · isplitr; · iexact Hsi
        isplitr; · iexact Hrel
        iexact Hw
      ihave Hsh := hsp $$ Hs
      icases Hsh with ⟨Hl, Hr⟩
      unfold posAt
      icases Hp with ⟨⟨Ha, #Hra⟩, Hb, #Hrb⟩
      rw [hO]
      iapply (wp_startHop X A d p (n + 3 + 1) h _) $$ [Hl Hfree HO Ht1 Ht2]
      · isplitr; · iexact HK
        isplitl [Hl]; · iexact Hl
        isplitl [Hfree]; · rw [show n + 3 + 1 = n + 4 from rfl, slotOf_add_four]; iexact Hfree
        isplitr; · rw [origin_down_succ]; iexact Hop
        isplitl [HO]; · iexact HO
        isplitl [Ht1]; · iexact Ht1
        isplitr; · iexact Hrb
        isplitl [Ht2]; · iexact Ht2
        rw [show n + 3 + 1 = n + 4 from rfl, slotOf_add_four, show (n + 4) / 4 = 1 by omega]
        iexact Hreach
      iintro ⟨Hcs, HO⟩
      iapply Hk
      isplitl [Hst]; · iexact Hst
      isplitl [Htg]; · iexact Htg
      isplitl [Ha Hb Hps]
      · isplitr [Hps]
        · isplitl [Ha]
          · isplitl [Ha]; · iexact Ha
            iexact Hra
          isplitl [Hb]; · iexact Hb
          iexact Hrb
        iexact Hps
      isplitl [Hcp]; · iexact Hcp
      isplitl [Hr]; · iexact Hr
      isplitl [Hcs]; · iexact Hcs
      iexact HO
    · rw [show Nat.ble 3 j = false from by rw [Bool.eq_false_iff, ne_eq, Nat.ble_eq]; exact h3, cond_false, bigSep_Ico_succ_bot (by omega : j + 1 < 4),
        show min (j + 1) (hops p) - 4 = 0 by omega, show min (j + 1 + 1) (hops p) - 4 = 0 by omega]
      simp only [Prog.pure_eq_ret, Prog.bind_ret]
      unfold startTok
      iintro ⟨#HK, ⟨⟨Ht1, Ht2, -⟩, Hst⟩, ⟨Hfree, Htg⟩, ⟨Hp, Hps⟩, Hcp, Hs, #Hop, HO⟩ Hk
      ihave Hsh := hsp $$ Hs
      icases Hsh with ⟨Hl, Hr⟩
      unfold posAt
      icases Hp with ⟨⟨Ha, #Hra⟩, Hb, #Hrb⟩
      ihave #Hc := (known_r X A (down p d) p (slotOf (j + 1))) $$ HK
      unfold hasCell
      icases Hc with ⟨-, #Hreach⟩
      rw [hO]
      iapply (wp_startHop X A d p (j + 1) h _) $$ [Hl Hfree HO Ht1 Ht2]
      · isplitr; · iexact HK
        isplitl [Hl]; · iexact Hl
        isplitl [Hfree]; · iexact Hfree
        isplitr; · rw [origin_down_succ]; iexact Hop
        isplitl [HO]; · iexact HO
        isplitl [Ht1]; · iexact Ht1
        isplitr; · iexact Hrb
        isplitl [Ht2]; · iexact Ht2
        rw [show (j + 1) / 4 = 0 by omega]
        iexact Hreach
      iintro ⟨Hcs, HO⟩
      iapply Hk
      isplitl [Hst]; · iexact Hst
      isplitl [Htg]; · iexact Htg
      isplitl [Ha Hb Hps]
      · isplitr [Hps]
        · isplitl [Ha]
          · isplitl [Ha]; · iexact Ha
            iexact Hra
          isplitl [Hb]; · iexact Hb
          iexact Hrb
        iexact Hps
      isplitl [Hcp]; · iexact Hcp
      isplitl [Hr]; · iexact Hr
      isplitl [Hcs]; · iexact Hcs
      iexact HO
  · rw [show Nat.blt (j + 1) (hops p) = false from by rw [Bool.eq_false_iff, ne_eq, Nat.blt_eq]; exact h, cond_false,
      Finset.Ico_eq_empty_of_le (by omega : hops p ≤ j + 1), Finset.Ico_eq_empty_of_le (by omega : hops p ≤ j + 1 + 1),
      Finset.Ico_eq_empty_of_le (by omega : 4 ≤ j + 1), Finset.Ico_eq_empty_of_le (by omega : 4 ≤ j + 1 + 1), hcur, if_neg h, if_neg h,
      show min (j + 1) (hops p) = hops p by omega, show min (j + 1 + 1) (hops p) = hops p by omega,
      owedPipe_start_end d p (j + 1) (j - 1) (by omega)]
    simp only [Prog.pure_eq_ret, Prog.bind_ret]
    iintro ⟨#HK, Hst, Htg, Hps, Hcp, Hs, #Hop, HO⟩ Hk
    iapply Hk
    isplitl [Hst]; · iexact Hst
    isplitl [Htg]; · iexact Htg
    isplitl [Hps]; · iexact Hps
    isplitl [Hcp]; · iexact Hcp
    isplitl [Hs]; · iexact Hs
    isplitr; · iempintro
    iexact HO

/-- The slot that a hop passed on, whole again. -/
def slotBack (d : Dev nD) (p : Fin 4) : ℕ → sProp 𝕄
  | 0 => iprop(emp)
  | i + 1 => slotHeld X d p i fullShare

theorem join_back (d : Dev nD) (p : Fin 4) (j : ℕ) (hj : j < hops p) :
    iprop(srcHeld X d p j ∗ curSlot X d p j ∗ halfBack X d p j) ⊢ iprop(slotBack X d p j ∗ halfBack X d p (j + 1)) := by
  cases j with
  | zero =>
    unfold slotBack halfBack curSlot
    iintro ⟨H, -, -⟩
    isplitr; · iempintro
    iexact H
  | succ i =>
    have hcur : curSlot X d p (i + 1) = if i + 1 < hops p then slotHeld X d p i fullShare.right else slotHeld X d p i fullShare := rfl
    rw [hcur, if_pos hj]
    have hsp : iprop(srcHeld X d p (i + 1) ∗ slotHeld X d p i fullShare.right) ⊢ slotBack X d p (i + 1) :=
      (held_split d (slotRef p (slotOf i)) fullShare (chunkAt X p i d)).mpr
    unfold halfBack
    iintro ⟨Hl, Hr, Hh⟩
    isplitl [Hl Hr]
    · iapply hsp; isplitl [Hl]; · iexact Hl
      iexact Hr
    iexact Hh

theorem slot_nonempty (p s : Fin 4) : (slotRef p s).view.set.Nonempty := ⟨_, View.emb_mem_set _ (fun a => ⟨0, by revert a; decide⟩)⟩

/-- Letting go of the slot that hop `j` passed on, and the credit for it. -/
theorem wp_give (d : Dev nD) (p : Fin 4) (j : ℕ) (hj : j < hops p) (Rest : CellTallies nD τ sig ℕ)
    {k : PUnit → Prog (TpuEff nD τ sig (Elt F) Λ₀ .tc) PUnit} {Q : PUnit → sProp 𝕄} :
    iprop(known X A ∗ slotBack X d p j ∗ (bigSep (Finset.Ico (j - 1) (hops p - 4)) fun i => creditTok (F := F) d p i)
        ∗ (bigSep (Finset.Ico (j + 1) (j + 4)) fun i => posAt (F := F) d p i)
        ∗ (bigSep (Finset.Ico (hops p - 4) (j - 1)) fun i => slotHeld X d p i fullShare)
        ∗ freedTo d p (min (j - 1) (hops p - 4)) ∗ Owes d (Rest + owedPipe d p (j + 1 + 1) (j - 1)))
      ⊢ iprop((((bigSep (Finset.Ico j (hops p - 4)) fun i => creditTok (F := F) d p i)
          ∗ (bigSep (Finset.Ico (j + 1) (j + 4)) fun i => posAt (F := F) d p i)
          ∗ (bigSep (Finset.Ico (hops p - 4) j) fun i => slotHeld X d p i fullShare)
          ∗ freedTo d p (min j (hops p - 4)) ∗ Owes d (Rest + owedPipe d p (j + 1 + 1) j)) -∗ Wp d (k ⟨⟩) Q)
        -∗ Wp d ((bif Nat.ble 1 j && Nat.ble (j + 4) (hops p) then semSignalWord (up p d) (creditSem p) 1#32 else pure ⟨⟩) >>= k) Q) := by
  have h8 := hops_le p
  have h7 := hops_ge p
  cases j with
  | zero =>
    rw [show (Nat.ble 1 0 && Nat.ble (0 + 4) (hops p)) = false from rfl, cond_false]
    simp only [Prog.pure_eq_ret, Prog.bind_ret]
    unfold slotBack
    iintro ⟨#HK, -, H1, H2, H3, H4, H5⟩ Hk
    iapply Hk
    isplitl [H1]; · iexact H1
    isplitl [H2]; · iexact H2
    isplitl [H3]; · iexact H3
    isplitl [H4]; · iexact H4
    iexact H5
  | succ i =>
    rw [show i + 1 - 1 = i by omega]
    have hb : slotBack X d p (i + 1) = slotHeld X d p i fullShare := rfl
    rw [hb]
    by_cases h : i + 1 + 4 ≤ hops p
    · rw [show (Nat.ble 1 (i + 1) && Nat.ble (i + 1 + 4) (hops p)) = true from by
          rw [Bool.and_eq_true, Nat.ble_eq, Nat.ble_eq]; exact ⟨by omega, h⟩, cond_true,
        Finset.Ico_eq_empty_of_le (by omega : i ≤ hops p - 4), Finset.Ico_eq_empty_of_le (by omega : i + 1 ≤ hops p - 4),
        bigSep_Ico_succ_bot (by omega : i < hops p - 4), show min i (hops p - 4) = i by omega, show min (i + 1) (hops p - 4) = i + 1 by omega,
        bigSep_Ico_succ_top (by omega : i + 1 + 1 ≤ i + 1 + 3)]
      have hO : Rest + owedPipe d p (i + 1 + 1 + 1) i = (Rest + owedPipe d p (i + 1 + 1 + 1) (i + 1)) + tallyAt (cCell (up p d) p) i 1 := by
        rw [owedPipe_credit d p (i + 1 + 1 + 1) i (by omega)]; exact (add_assoc _ _ _).symm
      have hd : i ∈ (sched X A).duties (cCell (up p d) p) 0 := by rw [duties_c]; exact Finset.mem_range.mpr (by omega)
      have hfree : slotHeld X d p i fullShare ⊢ keySlot (F := F) (.inl (d, p, slotOf i)) := held_any d _ _
      have hpay : freedTo (F := F) d p (i + 1) ⊢ (sched X A).payload (((up p d : Dev nD) : Thread nD τ), .reg (creditSem p)) 0 i :=
        Entails.of_eq (((payload_c X A (up p d) p i).trans (by rw [down_up])).symm)
      have hex : iprop(keySlot (F := F) (.inl (d, p, slotOf i)) ∗ keySlot (F := F) (.inl (d, p, slotOf i))) ⊢ (False : sProp 𝕄) :=
        slot_slot_false (ℓ := (slotRef p (slotOf i)).view.loc (d : Thread nD τ)) (I := (slotRef p (slotOf i)).view.set) (slot_nonempty p (slotOf i))
      have hgrow : iprop(freed (F := F) d p i ∗ freedTo d p i) ⊢ freedTo (F := F) d p (i + 1) := by
        unfold freedTo; rw [bigSep_range_succ]
      unfold Owes creditTok posAt
      simp only [semSignalWord, Prog.bind_op, Prog.bind_ret]
      iintro ⟨#HK, Hs, ⟨⟨Hrd, Hdt⟩, Hct⟩, ⟨⟨⟨Ha, #Hra⟩, Hb⟩, Hps⟩, Hsl, #Hf, ⟨%W, HO⟩⟩ Hk
      ihave #Hks := (known_slot X A (.inl (d, p, slotOf i))) $$ HK
      unfold hasSlot
      icases Hks with ⟨%ι, #Hsi⟩
      ihave Hfree := hfree $$ Hs
      imod (slot_release ES (Set.mem_univ ι) hex 0) $$ [Hrd Hfree] with ⟨-, #Hrel⟩
      · isplitr; · iexact Hsi
        isplitl [Hrd]; · iexact Hrd
        iexact Hfree
      ihave #Hfr := hgrow $$ []
      · isplitr
        · unfold freed
          isplitr; · iexact Hrel
          rw [show slotOf (i + 1 + 3) = slotOf i from slotOf_add_four i, show (i + 1 + 3) / 4 = 1 by omega]
          iexact Hra
        iexact Hf
      ihave #Hcell := (known_c X A (up p d) p) $$ HK
      unfold hasCell
      icases Hcell with ⟨⟨%κ, #Hinv⟩, #Hreach⟩
      rw [hO]
      iapply (Rounds.wp_signal 𝒱₀ ER (sched X A) (d : Thread nD τ) none (dst := ((up p d : Dev nD) : Thread nD τ)) (κ := κ) (r := 0)
        (d := i) hd ((amount_c X A (up p d) p 0 i).trans (by decide)) i (Rest + owedPipe d p (i + 1 + 1 + 1) (i + 1)) rfl) $$ [HO Hdt]
      · isplitr; · iexact Hinv
        isplitl [HO]; · iexact HO
        isplitl [Hdt]; · iexact Hdt
        isplitr; · iapply hpay; iexact Hfr
        iexact Hreach
      iintro HO
      iapply Hk
      isplitl [Hct]; · iexact Hct
      isplitl [Ha Hb Hps]
      · isplitr [Hps]
        · isplitl [Ha]
          · isplitl [Ha]; · iexact Ha
            iexact Hra
          iexact Hb
        iexact Hps
      isplitl [Hsl]; · iexact Hsl
      isplitr; · iexact Hfr
      iexists W; iexact HO
    · rw [show (Nat.ble 1 (i + 1) && Nat.ble (i + 1 + 4) (hops p)) = false from by
          rw [Bool.and_eq_false_iff, Bool.eq_false_iff, Bool.eq_false_iff, ne_eq, ne_eq, Nat.ble_eq, Nat.ble_eq]; exact Or.inr h, cond_false,
        Finset.Ico_eq_empty_of_le (by omega : hops p - 4 ≤ i), Finset.Ico_eq_empty_of_le (by omega : hops p - 4 ≤ i + 1),
        bigSep_Ico_succ_top (by omega : hops p - 4 ≤ i), show min i (hops p - 4) = hops p - 4 by omega, show min (i + 1) (hops p - 4) = hops p - 4 by omega,
        owedPipe_credit_end d p (i + 1 + 1 + 1) i (by omega)]
      simp only [Prog.pure_eq_ret, Prog.bind_ret]
      iintro ⟨#HK, Hs, H1, H2, H3, H4, H5⟩ Hk
      iapply Hk
      isplitl [H1]; · iexact H1
      isplitl [H2]; · iexact H2
      isplitl [Hs H3]
      · isplitl [Hs]; · iexact Hs
        iexact H3
      isplitl [H4]; · iexact H4
      iexact H5

/-- A hop carries the state of its pipe to the next one. -/
theorem wp_hop (d : Dev nD) (p : Fin 4) (j : ℕ) (hj : j < hops p) (Rest : CellTallies nD τ sig ℕ) (hR : Above (4 * j + 4) Rest)
    {k : PUnit → Prog (TpuEff nD τ sig (Elt F) Λ₀ .tc) PUnit} {Q : PUnit → sProp 𝕄} :
    iprop(known X A ∗ pipeSt X d p j ∗ Owes d (Rest + owedAt d p j))
      ⊢ iprop(((pipeSt X d p (j + 1) ∗ Owes d (Rest + owedAt d p (j + 1))) -∗ Wp d (k ⟨⟩) Q) -∗ Wp d (hop p d j >>= k) Q) := by
  have h8 := hops_le p
  have h7 := hops_ge p
  have hab : Above (4 * j + 4) (Rest + owedPipe d p (j + 1) (j - 1)) := hR.add (above_owedPipe d p _ _ _ (by omega) (by omega))
  have hab' : Above 0 (Rest + owedPipe d p (j + 1 + 1) (j - 1)) := (hR.mono (by omega)).add (above_owedPipe d p _ _ _ (by omega) (by omega))
  unfold pipeSt owedAt
  rw [bigSep_Ico_succ_bot hj, bigSep_Ico_succ_bot (show j < j + 4 by omega), if_pos hj, show j + 1 + 4 = (j + 4) + 1 by omega,
    bigSep_Ico_succ_top (show j + 1 ≤ j + 4 by omega), show j + 1 - 1 = j by omega, bigSep_range_succ]
  unfold hop
  simp only [Prog.lift, Prog.bind_op, Prog.bind_ret, Prog.bind_assoc]
  iintro ⟨#HK, ⟨⟨Hrt, Hrts⟩, Hst, Htg, Hct, ⟨Hp, Hps⟩, Hcp, Hsc, Hsl, Hcur, #Hfr, Hhb, #Hop⟩, HO⟩ Hk
  unfold posAt
  icases Hp with ⟨⟨Ha, -⟩, Hb, -⟩
  iapply (wp_recv X A d p j hj _ hab) $$ [Hrt HO Ha]
  · isplitr; · iexact HK
    isplitl [Hrt]; · iexact Hrt
    isplitl [HO]; · iexact HO
    iexact Ha
  iintro ⟨HO, Ha, #Hra, Hslot, #Hopj⟩
  iapply (wp_next X A d p j hj Rest hR) $$ [Hst Htg Hps Hcp Hslot HO]
  · isplitr; · iexact HK
    isplitl [Hst]; · iexact Hst
    isplitl [Htg]; · iexact Htg
    isplitl [Hps]; · iexact Hps
    isplitl [Hcp]; · iexact Hcp
    isplitl [Hslot]; · iexact Hslot
    isplitr; · iexact Hopj
    iexact HO
  iintro ⟨Hst, Htg, Hps, Hcp, Hnew, Hsc', HO⟩
  iapply (wp_sent X A d p j hj _ hab') $$ [Hsc HO Hb]
  · isplitr; · iexact HK
    isplitl [Hsc]; · iexact Hsc
    isplitl [HO]; · iexact HO
    iexact Hb
  iintro ⟨HO, Hb, #Hrb, Hsrc⟩
  ihave Hj := (join_back X d p j hj) $$ [Hsrc Hcur Hhb]
  · isplitl [Hsrc]; · iexact Hsrc
    isplitl [Hcur]; · iexact Hcur
    iexact Hhb
  icases Hj with ⟨Hback, Hhb⟩
  iapply (wp_give X A d p j hj Rest) $$ [Hback Hct Hps Hsl HO]
  · isplitr; · iexact HK
    isplitl [Hback]; · iexact Hback
    isplitl [Hct]; · iexact Hct
    isplitl [Hps]; · iexact Hps
    isplitl [Hsl]; · iexact Hsl
    isplitr; · iexact Hfr
    iexact HO
  iintro ⟨Hct, Hps, Hsl, #Hfr', HO⟩
  iapply Hk
  isplitr [HO]
  · isplitl [Hrts]; · iexact Hrts
    isplitl [Hst]; · iexact Hst
    isplitl [Htg]; · iexact Htg
    isplitl [Hct]; · iexact Hct
    isplitl [Ha Hb Hps]
    · isplitr [Hps]
      · isplitl [Ha]
        · isplitl [Ha]; · iexact Ha
          iexact Hra
        isplitl [Hb]; · iexact Hb
        iexact Hrb
      iexact Hps
    isplitl [Hcp]; · iexact Hcp
    isplitl [Hsc']; · iexact Hsc'
    isplitl [Hsl]; · iexact Hsl
    isplitl [Hnew]; · iexact Hnew
    isplitr; · iexact Hfr'
    isplitl [Hhb]; · iexact Hhb
    isplitr; · iexact Hopj
    iexact Hop
  iexact HO

end

end Cert.KernelIdeal.Proof

end
-- ==== Proof.Ideal.Ends.lean ====
/- The two ends of a pipe on one device: its first hop, and what the device has when all hops are done;
   and the reading of a slot in between. -/
module

public import proofs.«01_k».proof.Proof.Ideal.Pipe
public import Idealize.ShloMosaic.Lib.Pipeline.Value

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

variable (X : Dev nD → Fin 2 → S256x2048.Idx → Elt F .bf16) (A : Dev nD → S8x128.Idx → Elt F .f32)

/-! ## Reading a slot -/

/-- A matrix as the slab of one that a load of a slot gives. -/
def asSlab (v : S256x2048.Idx → Elt F .bf16) : Vec F S1x256x2048 .bf16 := shapeCast S1x256x2048 v (by decide)

/-- Loading a slab of a buffer of which just that slab is held, as a matrix. -/
theorem wp_loadSlab (d : Dev nD) {s s' : Shape} {e : EltTy} (M : Memref sig .tc .vmem s e) {off size : Fin s.rank → ℕ} (inb : ∀ a, off a + size a ≤ s.size a)
    (hq : (Rect.unit off size inb).shape.Squeezes s') (q : PosShare TreeShare) (v : s'.Idx → Elt F e)
    (hc : s'.ShapeCasts (Rect.unit off size inb).shape) (hc' : (Rect.unit off size inb).shape.ShapeCasts s') {hl : M.view.LoadsAt (Rect.unit off size inb).toLoadRect}
    {k : ((Rect.unit off size inb).shape.Idx → Elt F e) → Prog (TpuEff nD τ sig (Elt F) Λ₀ .tc) PUnit} {Q : PUnit → sProp 𝕄} :
    held d ((M.slice (Rect.unit off size inb) (fun _ => rfl)).squeeze s' hq) q v
      ⊢ iprop((held d ((M.slice (Rect.unit off size inb) (fun _ => rfl)).squeeze s' hq) q v -∗ Wp d (k (shapeCast _ v hc)) Q)
        -∗ Wp d (.op (.load M (Rect.unit off size inb).toLoadRect hl) k) Q) := by
  have hv : M.view.readAt (Elt F) (Rect.unit off size inb).toLoadRect (((M.slice (Rect.unit off size inb) (fun _ => rfl)).squeeze s' hq).view.rep v)
      = shapeCast _ v hc := by
    have h := View.read_rep ((M.slice (Rect.unit off size inb) (fun _ => rfl)).squeeze s' hq).view v
    rw [Memref.read_squeeze_slice M _ (fun _ => rfl) hq hc'] at h
    rw [← h, shapeCast_shapeCast]
    rw [h]
  have hS : M.view.setOn (Rect.unit off size inb).toLoadRect.set ⊆ ((M.slice (Rect.unit off size inb) (fun _ => rfl)).squeeze s' hq).view.set := by
    rw [show ((M.slice (Rect.unit off size inb) (fun _ => rfl)).squeeze s' hq).view.set = (M.view.slice (Rect.unit off size inb)).set from
      View.set_reshape _ _, View.set_slice]
    exact Finset.Subset.refl _
  rw [← hv]
  exact wp_load 𝒱₀ (d : Thread nD τ) none Set.univ (m := M) hS

theorem wp_loadHeld (d : Dev nD) (p : Fin 4) (j : ℕ) (q : PosShare TreeShare)
    {k : Vec F S1x256x2048 .bf16 → Prog (TpuEff nD τ sig (Elt F) Λ₀ .tc) PUnit} {Q : PUnit → sProp 𝕄} :
    (slotHeld X d p j q : sProp 𝕄) ⊢ iprop((slotHeld X d p j q -∗ Wp d (k (asSlab (chunkAt X p j d))) Q) -∗ Wp d (loadSlot p j >>= k) Q) :=
  wp_loadSlab d (bufRef p) (slot_inb (slotOf j)) squeezes_S1x256x2048_S256x2048 q (chunkAt X p j d)
    (by decide : S256x2048.ShapeCasts S1x256x2048) (by decide : S1x256x2048.ShapeCasts S256x2048)

theorem curSlot_succ (d : Dev nD) (p : Fin 4) (j : ℕ) :
    curSlot X d p (j + 1) = slotHeld X d p j (if j + 1 < hops p then fullShare.right else fullShare) := by
  show (if j + 1 < hops p then slotHeld X d p j fullShare.right else slotHeld X d p j fullShare) = _
  split_ifs <;> rfl

/-- Reading the slot that the last hop filled. -/
theorem wp_loadSlot (d : Dev nD) (p : Fin 4) (j : ℕ)
    {k : Vec F S1x256x2048 .bf16 → Prog (TpuEff nD τ sig (Elt F) Λ₀ .tc) PUnit} {Q : PUnit → sProp 𝕄} :
    (pipeSt X d p (j + 1) : sProp 𝕄) ⊢ iprop((pipeSt X d p (j + 1) -∗ Wp d (k (asSlab (chunkAt X p j d))) Q) -∗ Wp d (loadSlot p j >>= k) Q) := by
  unfold pipeSt
  rw [curSlot_succ]
  iintro ⟨H1, H2, H3, H4, H5, H6, H7, H8, Hcur, H9⟩ Hk
  iapply (wp_loadHeld X d p j _) $$ Hcur
  iintro Hcur
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hcur]; · iexact Hcur
  iexact H9

/-! ## The first hop -/

/-- What a device has of a pipe when the kernel starts. -/
def pipeStart (d : Dev nD) (p : Fin 4) : sProp 𝕄 :=
  iprop((bigSep (Finset.Ico 0 (hops p)) fun i => recvTok (F := F) d p i)
    ∗ (bigSep (Finset.Ico 0 (hops p)) fun i => startTok (F := F) d p i)
    ∗ (bigSep (Finset.Ico 0 (hops p - 4)) fun k => creditTok (F := F) d p k)
    ∗ (bigSep (Finset.Ico 0 (0 + 4)) fun i => posAt (F := F) d p i)
    ∗ atPos ER (cCell d p) 0 ∅ 0)

/-- The first hop starts when the receiver's slots have been handed over. -/
theorem wp_first (d : Dev nD) (p : Fin 4) (O : CellTallies nD τ sig ℕ)
    {k : PUnit → Prog (TpuEff nD τ sig (Elt F) Λ₀ .tc) PUnit} {Q : PUnit → sProp 𝕄} :
    iprop(known X A ∗ pipeStart d p ∗ slotsAny (down p d) p ∗ srcHeld X d p 0 ∗ opened d ∗ Owes d (O + owedPipe d p 0 0))
      ⊢ iprop(((pipeSt X d p 0 ∗ Owes d (O + owedAt d p 0)) -∗ Wp d (k ⟨⟩) Q) -∗ Wp d (startHop p d 0 >>= k) Q) := by
  have h8 := hops_le p
  have h7 := hops_ge p
  have hO : O + owedPipe d p 0 0 = (O + owedAt d p 0) + tallyAt (rCell (down p d) p (slotOf 0)) 0 N := by
    rw [owedPipe_start d p 0 0 (by omega)]; exact (add_assoc _ _ _).symm
  have hcp : (atPos ER (cCell d p) 0 ∅ 0 : sProp 𝕄) ⊢ creditPos d p 0 := by
    unfold creditPos
    iintro H
    iexists ∅
    isplitr; · ipureintro; exact ⟨Finset.empty_subset _, Nat.zero_le _⟩
    isplitl [H]; · iexact H
    rw [bigSep_empty]; iempintro
  have hfr : (iprop(emp) : sProp 𝕄) ⊢ freedTo d p 0 := by
    unfold freedTo; rw [Finset.range_zero, bigSep_empty]; exact Entails.rfl
  unfold pipeStart slotsAny
  rw [hO, Finset.range_eq_Ico, bigSep_Ico_succ_bot (show 0 < 4 by omega) (fun i => heldAny (down p d) (slotRef p (slotOf i))),
    bigSep_Ico_succ_bot (show 0 < hops p by omega) (fun i => startTok d p i), bigSep_Ico_succ_bot (show 0 < 0 + 4 by omega) (fun i => posAt d p i)]
  unfold pipeSt
  rw [show min (0 + 1) (hops p) - 4 = 0 by omega, show 0 - 1 = 0 from rfl, if_pos (show 0 < hops p by omega), show min 0 (hops p - 4) = 0 by omega,
    Finset.Ico_eq_empty_of_le (show 0 ≤ hops p - 4 by omega), Finset.range_zero, bigSep_empty, bigSep_empty,
    bigSep_Ico_succ_bot (show 0 < 0 + 4 by omega) (fun i => posAt d p i)]
  unfold startTok posAt curSlot halfBack
  iintro ⟨#HK, ⟨H1, ⟨⟨Ht1, Ht2, -⟩, Hst⟩, Hct, ⟨⟨⟨Ha, #Hra⟩, Hb, #Hrb⟩, Hps⟩, Hcp⟩, ⟨Htg, Htgs⟩, Hsrc, #Hop, HO⟩ Hk
  ihave #Hc := (known_r X A (down p d) p (slotOf 0)) $$ HK
  unfold hasCell
  icases Hc with ⟨-, #Hreach⟩
  iapply (wp_startHop X A d p 0 (by omega) _) $$ [Hsrc Htg HO Ht1 Ht2]
  · isplitr; · iexact HK
    isplitl [Hsrc]; · iexact Hsrc
    isplitl [Htg]; · iexact Htg
    isplitr; · rw [origin_down_zero]; iexact Hop
    isplitl [HO]; · iexact HO
    isplitl [Ht1]; · iexact Ht1
    isplitr; · iexact Hrb
    isplitl [Ht2]; · iexact Ht2
    iexact Hreach
  iintro ⟨Hcs, HO⟩
  iapply Hk
  isplitr [HO]
  · isplitl [H1]; · iexact H1
    isplitl [Hst]; · iexact Hst
    isplitl [Htgs]; · iexact Htgs
    isplitl [Hct]; · iexact Hct
    isplitl [Ha Hb Hps]
    · isplitr [Hps]
      · isplitl [Ha]
        · isplitl [Ha]; · iexact Ha
          iexact Hra
        isplitl [Hb]; · iexact Hb
        iexact Hrb
      iexact Hps
    isplitl [Hcp]; · iapply hcp; iexact Hcp
    isplitl [Hcs]; · iexact Hcs
    isplitr; · iempintro
    isplitr; · iempintro
    isplitr; · iapply hfr; iempintro
    isplitr; · iempintro
    iempintro
  iexact HO

/-! ## After the last hop -/

theorem slots_image (n : ℕ) : (Finset.Ico n (n + 4)).image slotOf = Finset.univ := by
  refine Finset.eq_univ_of_card _ ?_
  rw [Finset.card_image_of_injOn, Nat.card_Ico, Fintype.card_fin]; · omega
  intro a ha b hb hab
  rw [Finset.coe_Ico, Set.mem_Ico] at ha hb
  have := congrArg Fin.val hab
  unfold slotOf at this
  dsimp only at this
  omega

/-- Four hops in a row use the four slots. -/
theorem bigSep_slots (n : ℕ) (Φ : Fin 4 → sProp 𝕄) : bigSep (Finset.Ico n (n + 4)) (fun i => Φ (slotOf i)) = bigSep Finset.univ Φ := by
  rw [← slots_image n, bigSep_image_of_injOn]
  intro a ha b hb hab
  rw [Finset.coe_Ico, Set.mem_Ico] at ha hb
  have := congrArg Fin.val hab
  unfold slotOf at this
  dsimp only at this
  omega

/-- A semaphore that nobody raises any more is at zero for good. -/
theorem close_cell (d : Dev nD) (sm : SemLoc sig) (c : Fin 68) (hc : csem c = sm) (R : ℕ)
    (h : ∀ r, R ≤ r → (sched X A).duties ((d : Thread nD τ), sm) r = ∅) :
    iprop(known X A ∗ atPos ER ((d : Thread nD τ), sm) R ∅ 0) ⊢ iprop(|={Set.univ}=> semVal ((d : Thread nD τ), sm) 0) := by
  iintro ⟨#HK, Hat⟩
  ihave #Hc := (known_cell X A d sm c hc) $$ HK
  unfold hasCell
  icases Hc with ⟨⟨%κ, #Hi⟩, -⟩
  iapply (cell_close ER (sched X A) (Set.mem_univ κ) id (R := R) h)
  isplitr; · iexact Hi
  iexact Hat

theorem close_r (d : Dev nD) (p : Fin 4) (i : ℕ) (hi : hops p ≤ i) :
    iprop(known X A ∗ atPos ER (rCell d p (slotOf i)) (i / 4) ∅ 0) ⊢ iprop(|={Set.univ}=> semVal (rCell d p (slotOf i)) 0) :=
  close_cell X A d _ _ (csem_r p (slotOf i)) _ fun r hr => (duties_r X A d p (slotOf i) r).trans (if_neg (by have := div_mod_slot i; omega))

theorem close_s (d : Dev nD) (p : Fin 4) (i : ℕ) (hi : hops p ≤ i) :
    iprop(known X A ∗ atPos ER (sCell d p (slotOf i)) (i / 4) ∅ 0) ⊢ iprop(|={Set.univ}=> semVal (sCell d p (slotOf i)) 0) :=
  close_cell X A d _ _ (csem_s p (slotOf i)) _ fun r hr => (duties_s X A d p (slotOf i) r).trans (if_neg (by have := div_mod_slot i; omega))

theorem close_pos (d : Dev nD) (p : Fin 4) (i : ℕ) (hi : hops p ≤ i) : iprop(known X A ∗ posAt d p i)
    ⊢ iprop(|={Set.univ}=> (semVal (rCell d p (slotOf i)) 0 ∗ semVal (sCell d p (slotOf i)) 0)) := by
  unfold posAt
  iintro ⟨#HK, ⟨Ha, -⟩, Hb, -⟩
  imod (close_r X A d p i hi) $$ [Ha] with H1
  · isplitr; · iexact HK
    iexact Ha
  imod (close_s X A d p i hi) $$ [Hb] with H2
  · isplitr; · iexact HK
    iexact Hb
  imodintro
  isplitl [H1]; · iexact H1
  iexact H2

theorem close_slots (d : Dev nD) (p : Fin 4) : iprop(known X A ∗ bigSep (Finset.Ico (hops p) (hops p + 4)) fun i => posAt d p i)
    ⊢ iprop(|={Set.univ}=> bigSep Finset.univ fun s => iprop(semVal (rCell d p s) 0 ∗ semVal (sCell d p s) 0)) := by
  rw [← bigSep_slots (hops p)]
  exact (bigSep_with_persistent fun i hi => close_pos X A d p i (Finset.mem_Ico.mp hi).1).trans (bigSep_fupd _ _)

theorem close_credit (d : Dev nD) (p : Fin 4) : iprop(known X A ∗ creditPos d p (hops p - 4)) ⊢ iprop(|={Set.univ}=> semVal (cCell d p) 0) := by
  have hd (r : ℕ) (hr : 0 + 1 ≤ r) : (sched X A).duties (cCell d p) r = ∅ := by
    unfold cCell; rw [duties_tc, role_c]; exact if_neg (by omega)
  have hcl := close_cell X A d _ _ (csem_c p) (0 + 1) hd
  unfold creditPos
  iintro ⟨#HK, %T, %hT, Hat, -⟩
  ihave #Hc := (known_c X A d p) $$ HK
  unfold hasCell
  icases Hc with ⟨⟨%κ, #Hi⟩, -⟩
  have hTe : T = Finset.range (hops p - 4) := Finset.eq_of_subset_of_card_le hT.1 (by rw [Finset.card_range]; exact hT.2)
  have hsub : (sched X A).duties (cCell d p) 0 ⊆ T := by rw [duties_c, hTe]
  imod (fupd_skip ER (sched X A) (g := cCell d p) (κ := κ) (R := 0) (m := hops p - 4) (T := T) hsub (expect_c X A d p).symm (Set.mem_univ κ)) $$ [Hat] with ⟨Hat, -⟩
  · isplitr; · iexact Hi
    iexact Hat
  iapply hcl
  isplitr; · iexact HK
  iexact Hat

theorem slots_back (d : Dev nD) (p : Fin 4) :
    iprop(slotHeld X d p (hops p - 1) fullShare ∗ bigSep (Finset.Ico (hops p - 4) (hops p - 1)) fun i => slotHeld X d p i fullShare)
      ⊢ bigSep Finset.univ fun s => heldAny (F := F) d (slotRef p s) := by
  have h7 := hops_ge p
  rw [← bigSep_slots (hops p - 4), show hops p - 4 + 4 = (hops p - 1) + 1 by omega]
  exact (Entails.of_eq (bigSep_Ico_succ_top (show hops p - 4 ≤ hops p - 1 by omega) (fun i => slotHeld X d p i fullShare)).symm).trans
    (bigSep_mono fun i _ => held_any d _ _)

theorem pipeSt_end (d : Dev nD) (p : Fin 4) : pipeSt X d p (hops p) ⊢ iprop((slotHeld X d p (hops p - 1) fullShare ∗ bigSep (Finset.Ico (hops p - 4) (hops p - 1)) fun i => slotHeld X d p i fullShare)
    ∗ srcHeld X d p 0 ∗ (bigSep (Finset.range (hops p)) fun i => opened (F := F) (origin p i d))
    ∗ (bigSep (Finset.Ico (hops p) (hops p + 4)) fun i => posAt d p i) ∗ creditPos d p (hops p - 4)) := by
  have h7 := hops_ge p
  obtain ⟨j, hj⟩ : ∃ j, hops p = j + 1 := ⟨hops p - 1, by omega⟩
  unfold pipeSt
  rw [hj, curSlot_succ, hj, if_neg (show ¬j + 1 < j + 1 by omega), if_neg (show ¬j + 1 < j + 1 by omega), show min (j + 1 + 1) (j + 1) = j + 1 by omega, show j + 1 - 1 = j by omega]
  unfold halfBack
  iintro ⟨-, -, -, -, Hp, Hc, -, Hs, Hcur, -, Hh, Hop⟩
  isplitl [Hs Hcur]
  · isplitl [Hcur]; · iexact Hcur
    iexact Hs
  isplitl [Hh]; · iexact Hh
  isplitl [Hop]; · iexact Hop
  isplitl [Hp]; · iexact Hp
  iexact Hc

/-- What is left of a pipe when its hops are done. -/
def pipeEnd (d : Dev nD) (p : Fin 4) : sProp 𝕄 :=
  iprop((bigSep Finset.univ fun s => heldAny (F := F) d (slotRef p s)) ∗ srcHeld X d p 0
    ∗ (bigSep (Finset.range (hops p)) fun i => opened (F := F) (origin p i d))
    ∗ (bigSep Finset.univ fun s => iprop(semVal (rCell d p s) 0 ∗ semVal (sCell d p s) 0)) ∗ semVal (cCell d p) 0)

/-- The slots come back, and the pipe's semaphores are at zero for good. -/
theorem pipe_end (d : Dev nD) (p : Fin 4) : iprop(known X A ∗ pipeSt X d p (hops p)) ⊢ iprop(|={Set.univ}=> pipeEnd X d p) := by
  unfold pipeEnd
  iintro ⟨#HK, H⟩
  ihave H := (pipeSt_end X d p) $$ H
  icases H with ⟨Hs, Hh, Hop, Hp, Hc⟩
  imod (close_slots X A d p) $$ [Hp] with H1
  · isplitr; · iexact HK
    iexact Hp
  imod (close_credit X A d p) $$ [Hc] with H2
  · isplitr; · iexact HK
    iexact Hc
  imodintro
  isplitl [Hs]; · iapply (slots_back X d p); iexact Hs
  isplitl [Hh]; · iexact Hh
  isplitl [Hop]; · iexact Hop
  isplitl [H1]; · iexact H1
  iexact H2

end

end Cert.KernelIdeal.Proof

end
-- ==== Proof.Ideal.Max.lean ====
/- The exchange of the maxima: each device sends its block to the fifteen others, awaits theirs, and
   awaits that its own has been read by every copy. -/
module

public import proofs.«01_k».proof.Proof.Ideal.Ends

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

variable (X : Dev nD → Fin 2 → S256x2048.Idx → Elt F .bf16) (A : Dev nD → S8x128.Idx → Elt F .f32)

/-! ## A step for each distance -/

/-- The fifteen distances, in the order of the program. -/
abbrev dists : List (Fin 15) := [0, 1, 2, 3, 4, 5, 6, 7, 8, 9, 10, 11, 12, 13, 14]

theorem bigSep_dists (Φ : Fin 15 → sProp 𝕄) : bigSep Finset.univ Φ = bigSepL dists Φ :=
  bigSep_univ_eq_bigSepL _ (by decide) (by decide) Φ

/-- A step with an invariant over the distances still to come, run for each of them. -/
theorem wp_forEach (d : Dev nD) (f : Fin 15 → Prog (TpuEff nD τ sig (Elt F) Λ₀ .tc) PUnit) {Q : PUnit → sProp 𝕄} (I : List (Fin 15) → sProp 𝕄)
    (Pre Post : Fin 15 → sProp 𝕄)
    (h : ∀ o l (k : PUnit → Prog (TpuEff nD τ sig (Elt F) Λ₀ .tc) PUnit),
      iprop(I (o :: l) ∗ Pre o) ⊢ iprop(((I l ∗ Post o) -∗ Wp d (k ⟨⟩) Q) -∗ Wp d (f o >>= k) Q)) (k : PUnit → Prog (TpuEff nD τ sig (Elt F) Λ₀ .tc) PUnit) :
    ∀ l, iprop(I l ∗ bigSepL l Pre) ⊢ iprop(((I [] ∗ bigSepL l Post) -∗ Wp d (k ⟨⟩) Q) -∗ Wp d (forEach f l >>= k) Q)
  | [] => by
    simp only [forEach, Prog.pure_eq_ret, Prog.bind_ret, bigSepL_nil]
    iintro ⟨HI, -⟩ Hk
    iapply Hk
    isplitl [HI]; · iexact HI
    iempintro
  | o :: l => by
    rw [show bigSepL (o :: l) Pre = iprop(Pre o ∗ bigSepL l Pre) from bigSepL_cons o l Pre,
      show bigSepL (o :: l) Post = iprop(Post o ∗ bigSepL l Post) from bigSepL_cons o l Post]
    unfold forEach
    simp only [Prog.bind_assoc]
    iintro ⟨HI, Ho, Hl⟩ Hk
    iapply (h o l _) $$ [HI Ho]
    · isplitl [HI]; · iexact HI
      iexact Ho
    iintro ⟨HI, Ho⟩
    iapply (wp_forEach d f I Pre Post h k l) $$ [HI Hl]
    · isplitl [HI]; · iexact HI
      iexact Hl
    iintro ⟨HI, Hl⟩
    iapply Hk
    isplitl [HI]; · iexact HI
    isplitl [Ho]; · iexact Ho
    iexact Hl

/-! ## The other devices -/

theorem away_ne : ∀ (d : Dev nD) (o : Fin 15), away d o ≠ d := by decide +kernel

/-- Every other device's chunk comes to a device through the first or the third pipe. -/
theorem away_origin : ∀ (d : Dev nD) (o : Fin 15), (∃ i : Fin 8, away d o = origin 0 i.val d) ∨ ∃ i : Fin 7, away d o = origin 2 i.val d := by
  decide +kernel

theorem farRow_eq (d : Dev nD) (o : Fin 15) : farRow d o = rowRef (away d o) := by
  unfold farRow rowRef ownRow
  rw [Memref.slice_unit_congr (Memref.whole cc0_scratch14)
    (show k0_off6 d (BitVec.ofNat 32 (1 + o.val)) = k0_off4 (away d o) by
      rw [k0_off6_eq, k0_off4_eq]; unfold away; dsimp only; rw [add_assoc])
    (k0_off6_inb d o) (k0_off4_inb (away d o))]

theorem farRowSem_eq : ∀ (d : Dev nD) (o : Fin 15), farRowSem d o = rowSem (away d o) := by decide +kernel

theorem row_credit (e : Dev nD) : (rowRef e).view.dmaCredit = NM := rfl
theorem asend_credit : (Memref.whole (sig := sig) cc0_scratch13).view.dmaCredit = NM := by decide +kernel

/-- What a device owes of the maxima: a landing at each distance still to come. -/
def owedMax (d : Dev nD) : List (Fin 15) → CellTallies nD τ sig ℕ
  | [] => 0
  | o :: l => owedMax d l + tallyAt (mrCell (away d o) d) 0 NM

theorem above_owedMax (d : Dev nD) (n : ℕ) (h : n < 1000) : ∀ l, Above n (owedMax d l)
  | [] => Above.zero n
  | o :: l => (above_owedMax d n h l).add (Above.mr (by decide) h)

/-! ## The three kinds of step -/

/-- The rights with which the maximum is sent to distance `o + 1`. -/
def maxTok (d : Dev nD) (o : Fin 15) : sProp 𝕄 :=
  iprop(dutyTok ER (msCell d o) 0 0 ∗ dutyTok ER (mrCell (away d o) d) 0 0 ∗ writeTok ES (.inr (away d o, d)) 1)

/-- A share of the maximum lent to the copy to distance `o + 1`. -/
def maxShare (d : Dev nD) (o : Fin 15) : sProp 𝕄 := held d (Memref.whole cc0_scratch13) (Transfers.shareTok fullShare 15 o) (A d)

theorem keySlot_inr (d e : Dev nD) : keySlot (F := F) (.inr (d, e)) = heldAny d (rowRef e) := rfl

/-- Sending the maximum to one device. -/
theorem wp_sendMax (d : Dev nD) (o : Fin 15) (O : CellTallies nD τ sig ℕ)
    {k : PUnit → Prog (TpuEff nD τ sig (Elt F) Λ₀ .tc) PUnit} {Q : PUnit → sProp 𝕄} :
    iprop(known X A ∗ opened (away d o) ∗ maxShare A d o ∗ maxTok d o ∗ Owes d (O + tallyAt (mrCell (away d o) d) 0 NM))
      ⊢ iprop(((cred (tallyAt (msCell d o) 0 NM) ∗ Owes d O) -∗ Wp d (k ⟨⟩) Q) -∗ Wp d (sendMax d o (maxDst d o) >>= k) Q) := by
  have hd1 : 0 ∈ (sched X A).duties (msCell d o) 0 := by rw [duties_ms]; exact Finset.mem_singleton_self 0
  have hd2 : 0 ∈ (sched X A).duties (mrCell (away d o) d) 0 := by
    rw [duties_mr X A _ _ (away_ne d o).symm]; exact Finset.mem_singleton_self 0
  have hp1 : held d (Memref.whole cc0_scratch13) (Transfers.shareTok fullShare 15 o) (A d) ⊢ (sched X A).payload (msCell d o) 0 0 :=
    Entails.of_eq (payload_ms X A d o 0).symm
  have hp2 (fd) : ((rowRef d).view.loc (away d o : Thread nD τ) ↦[(rowRef d).view.set]{fullShare}
      ((rowRef d).view.write (Elt F) fd ((Memref.whole cc0_scratch13).view.read (Elt F) ((Memref.whole cc0_scratch13).view.rep (A d))) Finset.univ))
        ⊢ (sched X A).payload (mrCell (away d o) d) 0 0 := by
    rw [payload_mr]
    rw [held_of_read (away d o) (rowRef d) fullShare _ (A d) (by rw [View.read_write_univ, View.read_rep])]
  have hrel : opened (F := F) (away d o) ⊢ released ES (.inr (away d o, d)) 1 := by
    unfold opened
    exact bigSep_elim (Φ := fun t => released ES (.inr (away d o, t)) 1) (Finset.mem_erase.mpr ⟨(away_ne d o).symm, Finset.mem_univ d⟩)
  rw [maxDst_eq]
  unfold held at hp1
  unfold maxShare maxTok held
  unfold Owes sendMax
  simp only [Prog.lift, Prog.bind_op, Prog.bind_ret]
  iintro ⟨#HK, #Hop, Hs, ⟨Ht1, Ht2, Hw⟩, ⟨%W, HO⟩⟩ Hk
  ihave #Hsl := (known_slot X A (.inr (away d o, d))) $$ HK
  unfold hasSlot
  icases Hsl with ⟨%ι, #Hsi⟩
  imod ((slot_take ES (Set.mem_univ ι) 1).trans (fupd_mono (Entails.of_eq (keySlot_inr (away d o) d)))) $$ [Hw] with Hd
  · isplitr; · iexact Hsi
    isplitr; · iapply hrel; iexact Hop
    iexact Hw
  unfold heldAny
  icases Hd with ⟨%fd, Hd⟩
  ihave #Hc1 := (known_ms X A d o) $$ HK
  ihave #Hc2 := (known_mr X A (away d o) d) $$ HK
  unfold hasCell
  icases Hc1 with ⟨⟨%κ1, #Hi1⟩, #Hr1⟩
  icases Hc2 with ⟨⟨%κ2, #Hi2⟩, #Hr2⟩
  iapply (Rounds.wp_send_pointsTo 𝒱₀ ER (sched X A) (d : Thread nD τ) none (c' := ((away d o : Dev nD) : Thread nD τ)) (κ₁ := κ1) (κ₂ := κ2)
      (r₁ := 0) (r₂ := 0) (d₁ := 0) (d₂ := 0) (fd := fd)
      (sS := .dma (maxSendSem o)) (sem := .dma (rowSem d))
      hd1 hd2 0 0 NM (row_credit d)
      (amount_ms X A d o _ _) (amount_mr X A (away d o) d _ _) O rfl (W := W) hp1 (hp2 fd)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem duties_ms_later (d : Dev nD) (o : Fin 15) (r : ℕ) (h : 1 ≤ r) : (sched X A).duties (msCell d o) r = ∅ := by
  unfold msCell; rw [duties_tc, role_ms]; exact if_neg (by omega)
theorem duties_mr_later (d e : Dev nD) (r : ℕ) (h : 1 ≤ r) : (sched X A).duties (mrCell d e) r = ∅ := by
  unfold mrCell; rw [duties_tc, role_mr]; exact if_neg (by omega)
theorem duties_mr_own (d : Dev nD) (r : ℕ) : (sched X A).duties (mrCell d d) r = ∅ := by
  unfold mrCell; rw [duties_tc, role_mr]; exact if_neg (fun h => h.2 rfl)
theorem duties_b_later (d : Dev nD) (r : ℕ) (h : 1 ≤ r) : (sched X A).duties (bCell d) r = ∅ := by
  unfold bCell; rw [duties_tc, role_b]; exact if_neg (by omega)

/-- The right to await the maximum from distance `o + 1`. -/
def maxWait (d : Dev nD) (o : Fin 15) : sProp 𝕄 :=
  iprop(cred (tallyAt (mrCell d (away d o)) 0 NM) ∗ atPos ER (mrCell d (away d o)) 0 ∅ 0)

/-- Awaiting the maximum of one device. -/
theorem wp_recvMax (d : Dev nD) (o : Fin 15)
    {k : PUnit → Prog (TpuEff nD τ sig (Elt F) Λ₀ .tc) PUnit} {Q : PUnit → sProp 𝕄} :
    iprop((known X A ∗ Owes d 0) ∗ maxWait d o)
      ⊢ iprop((((known X A ∗ Owes d 0) ∗ (held d (rowRef (away d o)) fullShare (A (away d o)) ∗ semVal (mrCell d (away d o)) 0)) -∗ Wp d (k ⟨⟩) Q)
          -∗ Wp d (recvMax d o >>= k) Q) := by
  unfold recvMax maxWait
  rw [farRowSem_eq]
  simp only [Prog.lift, Prog.bind_op, Prog.bind_ret]
  iintro ⟨⟨#HK, HO⟩, Hc, Hat⟩ Hk
  iapply (wp_dmaWait X A d (rowSem (away d o)) _ (csem_mr (away d o)) 0 1000 0 (by decide) (le_of_eq (lv_mr d (away d o) 0)) (duties_mr X A d _ (away_ne d o))
    (payload_mr X A d (away d o) 0) 0 (Above.zero _) NM ((congrArg (fun M : Memref sig .tc .vmem S8x128 .f32 => M.view.dmaCredit) (farRow_eq d o)).trans (row_credit _))
    (amount_mr X A d (away d o) 0 0) (src := Memref.whole cc0_scratch13) (dst := farRow d o) (h1 := (Memref.isWhole_whole cc0_scratch13).wordExact)
    (h2 := (View.wordExact_bits rfl).reshape _ _)) $$ [HO Hc Hat]
  · isplitr; · iexact HK
    isplitl [Hc]; · iexact Hc
    isplitl [HO]; · iexact HO
    iexact Hat
  iintro ⟨HO, Hat, -, Hrow⟩
  imod (close_cell X A d (.dma (rowSem (away d o))) _ (csem_mr (away d o)) 1 (fun r hr => duties_mr_later X A d (away d o) r hr)) $$ [Hat] with Hz
  · isplitr; · iexact HK
    iexact Hat
  iapply Hk
  isplitl [HO]
  · isplitr; · iexact HK
    iexact HO
  isplitl [Hrow]; · iexact Hrow
  iexact Hz

/-- Awaiting that a copy of the maximum has been made. -/
theorem wp_drainMax (d : Dev nD) (o : Fin 15)
    {k : PUnit → Prog (TpuEff nD τ sig (Elt F) Λ₀ .tc) PUnit} {Q : PUnit → sProp 𝕄} :
    iprop((known X A ∗ Owes d 0) ∗ (cred (tallyAt (msCell d o) 0 NM) ∗ atPos ER (msCell d o) 0 ∅ 0))
      ⊢ iprop((((known X A ∗ Owes d 0) ∗ (maxShare A d o ∗ semVal (msCell d o) 0)) -∗ Wp d (k ⟨⟩) Q)
          -∗ Wp d (drainMax d o >>= k) Q) := by
  unfold drainMax
  simp only [Prog.lift, Prog.bind_op, Prog.bind_ret]
  iintro ⟨⟨#HK, HO⟩, Hc, Hat⟩ Hk
  iapply (wp_dmaWait X A d (maxSendSem o) _ (csem_ms o) 0 1000 0 (by decide) ((le_of_eq (lv_ms d o 0)).trans (by decide)) (duties_ms X A d o)
    (payload_ms X A d o 0) 0 (Above.zero _) NM asend_credit
    (amount_ms X A d o 0 0) (src := ownRow d) (dst := Memref.whole cc0_scratch13) (h1 := (View.wordExact_bits rfl).reshape _ _)
    (h2 := (Memref.isWhole_whole cc0_scratch13).wordExact)) $$ [HO Hc Hat]
  · isplitr; · iexact HK
    isplitl [Hc]; · iexact Hc
    isplitl [HO]; · iexact HO
    iexact Hat
  iintro ⟨HO, Hat, -, Hrow⟩
  imod (close_cell X A d (.dma (maxSendSem o)) _ (csem_ms o) 1 (fun r hr => duties_ms_later X A d o r hr)) $$ [Hat] with Hz
  · isplitr; · iexact HK
    iexact Hat
  iapply Hk
  isplitl [HO]
  · isplitr; · iexact HK
    iexact HO
  isplitl [Hrow]; · unfold maxShare; iexact Hrow
  iexact Hz

/-! ## The exchange -/

/-- The rights a device has in the exchange of the maxima. -/
def maxRights (d : Dev nD) : sProp 𝕄 :=
  iprop((bigSep Finset.univ fun o => maxTok (F := F) d o) ∗ (bigSep Finset.univ fun o => maxWait (F := F) d o)
    ∗ bigSep Finset.univ fun o => atPos ER (msCell d o) 0 ∅ 0)

/-- What the exchange leaves: the rows received, the shares returned, and the semaphores at zero. -/
def maxDone (d : Dev nD) : sProp 𝕄 :=
  iprop((bigSep Finset.univ fun o => iprop(held d (rowRef (away d o)) fullShare (A (away d o)) ∗ semVal (mrCell d (away d o)) 0))
    ∗ bigSep Finset.univ fun o => iprop(maxShare A d o ∗ semVal (msCell d o) 0))

theorem wp_sends (d : Dev nD) {k : PUnit → Prog (TpuEff nD τ sig (Elt F) Λ₀ .tc) PUnit} {Q : PUnit → sProp 𝕄} :
    iprop((known X A ∗ Owes d (owedMax d dists)) ∗ bigSep Finset.univ fun o => iprop(opened (away d o) ∗ maxShare A d o ∗ maxTok d o))
      ⊢ iprop((((known X A ∗ Owes d 0) ∗ bigSep Finset.univ fun o => cred (tallyAt (msCell d o) 0 NM)) -∗ Wp d (k ⟨⟩) Q)
          -∗ Wp d (forEach (fun o => sendMax d o (maxDst d o)) dists >>= k) Q) := by
  rw [bigSep_dists, bigSep_dists]
  refine wp_forEach d _ (fun l => iprop(known X A ∗ Owes d (owedMax d l))) _ _ (fun o l k => ?_) k dists
  iintro ⟨⟨#HK, HO⟩, Hop, Hs, Ht⟩ Hk
  iapply (wp_sendMax X A d o (owedMax d l)) $$ [HO Hop Hs Ht]
  · isplitr; · iexact HK
    isplitl [Hop]; · iexact Hop
    isplitl [Hs]; · iexact Hs
    isplitl [Ht]; · iexact Ht
    iexact HO
  iintro ⟨Hc, HO⟩
  iapply Hk
  isplitr [Hc]
  · isplitr; · iexact HK
    iexact HO
  iexact Hc

theorem wp_recvs (d : Dev nD) {k : PUnit → Prog (TpuEff nD τ sig (Elt F) Λ₀ .tc) PUnit} {Q : PUnit → sProp 𝕄} :
    iprop((known X A ∗ Owes d 0) ∗ bigSep Finset.univ fun o => maxWait (F := F) d o)
      ⊢ iprop((((known X A ∗ Owes d 0) ∗ bigSep Finset.univ fun o => iprop(held d (rowRef (away d o)) fullShare (A (away d o)) ∗ semVal (mrCell d (away d o)) 0))
            -∗ Wp d (k ⟨⟩) Q)
          -∗ Wp d (forEach (recvMax d) dists >>= k) Q) := by
  rw [bigSep_dists, bigSep_dists]
  exact wp_forEach d _ (fun _ => iprop(known X A ∗ Owes d 0)) _ _ (fun o l k => wp_recvMax X A d o) k dists

theorem wp_drains (d : Dev nD) {k : PUnit → Prog (TpuEff nD τ sig (Elt F) Λ₀ .tc) PUnit} {Q : PUnit → sProp 𝕄} :
    iprop((known X A ∗ Owes d 0) ∗ bigSep Finset.univ fun o => iprop(cred (tallyAt (msCell d o) 0 NM) ∗ atPos ER (msCell d o) 0 ∅ 0))
      ⊢ iprop((((known X A ∗ Owes d 0) ∗ bigSep Finset.univ fun o => iprop(maxShare A d o ∗ semVal (msCell d o) 0)) -∗ Wp d (k ⟨⟩) Q)
          -∗ Wp d (forEach (drainMax d) dists >>= k) Q) := by
  rw [bigSep_dists, bigSep_dists]
  exact wp_forEach d _ (fun _ => iprop(known X A ∗ Owes d 0)) _ _ (fun o l k => wp_drainMax X A d o) k dists

end

end Cert.KernelIdeal.Proof

end
-- ==== Proof.Ideal.Buffers.lean ====
/- The buffers of the call: loads and stores of buffers held with their values, and a buffer held
   slab by slab. -/
module

public import proofs.«01_k».proof.Proof.Ideal.Max
public import Idealize.ShloMosaic.Lib.VecWindow
public import Idealize.ShloMosaic.Lib.Ring

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

/-! ## Loads and stores of a buffer held with its values -/

/-- A load reads a window of the values. -/
theorem wp_loadWin (d : Dev nD) {s : Shape} {e : EltTy} (M : Memref sig .tc .vmem s e) {off size : Fin s.rank → ℕ} (inb : ∀ a, off a + size a ≤ s.size a)
    (q : PosShare TreeShare) (v : s.Idx → Elt F e) {hl : M.view.LoadsAt (Rect.unit off size inb).toLoadRect}
    {k : ((Rect.unit off size inb).shape.Idx → Elt F e) → Prog (TpuEff nD τ sig (Elt F) Λ₀ .tc) PUnit} {Q : PUnit → sProp 𝕄} :
    held d M q v ⊢ iprop((held d M q v -∗ Wp d (k (VecWindow.window v off size inb)) Q)
        -∗ Wp d (.op (.load M (Rect.unit off size inb).toLoadRect hl) k) Q) := by
  have hv : M.view.readAt (Elt F) (Rect.unit off size inb).toLoadRect (M.view.rep v) = VecWindow.window v off size inb :=
    View.readAt_rep_unit M.view v inb rfl inb
  rw [← hv]
  exact wp_load 𝒱₀ (d : Thread nD τ) none Set.univ (m := M) (View.setOn_subset_set _ _)

/-- A store puts a window in place. -/
theorem wp_storeWin (d : Dev nD) {s : Shape} {e : EltTy} (M : Memref sig .tc .vmem s e) {off size : Fin s.rank → ℕ} (inb : ∀ a, off a + size a ≤ s.size a)
    (v : s.Idx → Elt F e) (w : (Rect.unit off size inb).shape.Idx → Elt F e) {hx : (M.access (Rect.unit off size inb)).Stores Finset.univ}
    {hm : Finset.univ = Finset.univ ∨ ∀ a, (Rect.unit off size inb).stride a = 1}
    {k : PUnit → Prog (TpuEff nD τ sig (Elt F) Λ₀ .tc) PUnit} {Q : PUnit → sProp 𝕄} :
    held d M fullShare v ⊢ iprop((held d M fullShare (VecWindow.put v off size w) -∗ Wp d (k ⟨⟩) Q)
        -∗ Wp d (.op (.store M (Rect.unit off size inb) w Finset.univ hx hm) k) Q) := by
  have hv : M.view.read (Elt F) ((M.access (Rect.unit off size inb)).write (Elt F) (M.view.rep v) w Finset.univ) = VecWindow.put v off size w :=
    View.read_writes_rep_unit M.view v inb w rfl
  rw [← held_of_read d M fullShare _ _ hv]
  exact wp_store 𝒱₀ (d : Thread nD τ) none Set.univ (m := M) (r := Rect.unit off size inb) (Mk := Finset.univ)
    (View.set_slice_subset (v := M.view) (Rect.unit off size inb))

theorem window_full {s : Shape} {α : Type} (v : s.Idx → α) {off : Fin s.rank → ℕ} (inb : ∀ a, off a + s.size a ≤ s.size a) :
    VecWindow.window v off s.size inb = v :=
  funext fun y => congrArg v (Rect.emb_unit_full inb y)

theorem put_full {s : Shape} {α : Type} (v w : s.Idx → α) {off : Fin s.rank → ℕ} (inb : ∀ a, off a + s.size a ≤ s.size a) :
    VecWindow.put v off s.size w = w :=
  (window_full _ inb).symm.trans (VecWindow.window_put_same v off s.size inb w)

/-- A load of all the values. -/
theorem wp_loadAll (d : Dev nD) {s : Shape} {e : EltTy} (M : Memref sig .tc .vmem s e) {off : Fin s.rank → ℕ} (inb : ∀ a, off a + s.size a ≤ s.size a)
    (q : PosShare TreeShare) (v : s.Idx → Elt F e) {hl : M.view.LoadsAt (Rect.unit off s.size inb).toLoadRect}
    {k : (s.Idx → Elt F e) → Prog (TpuEff nD τ sig (Elt F) Λ₀ .tc) PUnit} {Q : PUnit → sProp 𝕄} :
    held d M q v ⊢ iprop((held d M q v -∗ Wp d (k v) Q)
        -∗ Wp d (.op (.load M (Rect.unit off s.size inb).toLoadRect hl) k) Q) := by
  have h := wp_loadWin d M inb q v (hl := hl) (k := k) (Q := Q)
  rw [window_full] at h
  exact h

/-- A store of all the values. -/
theorem wp_storeAll (d : Dev nD) {s : Shape} {e : EltTy} (M : Memref sig .tc .vmem s e) {off : Fin s.rank → ℕ} (inb : ∀ a, off a + s.size a ≤ s.size a)
    (v w : s.Idx → Elt F e) {hx : (M.access (Rect.unit off s.size inb)).Stores Finset.univ}
    {hm : Finset.univ = Finset.univ ∨ ∀ a, (Rect.unit off s.size inb).stride a = 1}
    {k : PUnit → Prog (TpuEff nD τ sig (Elt F) Λ₀ .tc) PUnit} {Q : PUnit → sProp 𝕄} :
    held d M fullShare v ⊢ iprop((held d M fullShare w -∗ Wp d (k ⟨⟩) Q)
        -∗ Wp d (.op (.store M (Rect.unit off s.size inb) w Finset.univ hx hm) k) Q) := by
  have h := wp_storeWin d M inb v w (hx := hx) (hm := hm) (k := k) (Q := Q)
  rw [put_full v w inb] at h
  exact h

/-- A store of a slab of a buffer of which just that slab is held, as a matrix. -/
theorem wp_storeSlab (d : Dev nD) {s s' : Shape} {e : EltTy} (M : Memref sig .tc .vmem s e) {off size : Fin s.rank → ℕ} (inb : ∀ a, off a + size a ≤ s.size a)
    (hq : (Rect.unit off size inb).shape.Squeezes s') (v : s'.Idx → Elt F e) (w : (Rect.unit off size inb).shape.Idx → Elt F e)
    (hc' : (Rect.unit off size inb).shape.ShapeCasts s') {hx : (M.access (Rect.unit off size inb)).Stores Finset.univ}
    {hm : Finset.univ = Finset.univ ∨ ∀ a, (Rect.unit off size inb).stride a = 1}
    {k : PUnit → Prog (TpuEff nD τ sig (Elt F) Λ₀ .tc) PUnit} {Q : PUnit → sProp 𝕄} :
    held d ((M.slice (Rect.unit off size inb) (fun _ => rfl)).squeeze s' hq) fullShare v
      ⊢ iprop((held d ((M.slice (Rect.unit off size inb) (fun _ => rfl)).squeeze s' hq) fullShare (shapeCast s' w hc') -∗ Wp d (k ⟨⟩) Q)
        -∗ Wp d (.op (.store M (Rect.unit off size inb) w Finset.univ hx hm) k) Q) := by
  have hset : ((M.slice (Rect.unit off size inb) (fun _ => rfl)).squeeze s' hq).view.set = (M.access (Rect.unit off size inb)).set := View.set_reshape _ _
  have hv : ((M.slice (Rect.unit off size inb) (fun _ => rfl)).squeeze s' hq).view.read (Elt F)
      ((M.access (Rect.unit off size inb)).write (Elt F) (((M.slice (Rect.unit off size inb) (fun _ => rfl)).squeeze s' hq).view.rep v) w Finset.univ)
        = shapeCast s' w hc' := by
    rw [Memref.read_squeeze_slice M _ (fun _ => rfl) hq hc']
    exact congrArg (fun u => shapeCast s' u hc') (View.read_write_univ (v := M.view.slice (Rect.unit off size inb)) _ _)
  rw [← held_of_read d _ fullShare _ _ hv]
  exact wp_store 𝒱₀ (d : Thread nD τ) none Set.univ (m := M) (r := Rect.unit off size inb) (Mk := Finset.univ) (le_of_eq hset.symm)

theorem heldAny_iff {sp : Space} {s : Shape} {e : EltTy} (d : Dev nD) (M : Memref sig .tc sp s e) :
    (heldAny (F := F) d M : sProp 𝕄) ⊢ iprop(∃ v, held d M fullShare v) := by
  unfold heldAny
  iintro ⟨%f, H⟩
  iexists M.view.read (Elt F) f
  iapply (Entails.of_eq (held_of_read d M fullShare f _ rfl))
  iexact H

/-! ## Slab by slab -/

section Slabs

variable {n : ℕ} (b : Ref sig .tc) (off : Fin n → Fin b.ty.shape.rank → ℕ) (size : Fin b.ty.shape.rank → ℕ)
  (inb : ∀ i a, off i a + size a ≤ b.ty.shape.size a) {s' : Shape} (hq : ∀ i, (Rect.unit (off i) size (inb i)).shape.Squeezes s')
  (hd : ∀ i j, i ≠ j → Disjoint (Rect.unit (off i) size (inb i)).set (Rect.unit (off j) size (inb j)).set)
  (hcov : Finset.univ.biUnion (fun i => (Rect.unit (off i) size (inb i)).set) = Finset.univ)

/-- One slab of a whole buffer. -/
abbrev slab (i : Fin n) := ((Memref.whole b).slice (Rect.unit (off i) size (inb i)) (fun _ => rfl)).squeeze s' (hq i)

theorem slab_set (i : Fin n) : (slab b off size inb hq i).view.set = (Rect.unit (off i) size (inb i)).set :=
  (View.set_reshape _ _).trans (View.set_slice_whole b _)

include hd hcov in
/-- A buffer held with its values is held slab by slab. -/
theorem held_slabs (d : Dev nD) (q : PosShare TreeShare) (v : b.ty.shape.Idx → Elt F b.ty.elt) (v' : Fin n → s'.Idx → Elt F b.ty.elt)
    (hc : ∀ i, (Rect.unit (off i) size (inb i)).shape.ShapeCasts s')
    (hv : ∀ i, shapeCast s' (VecWindow.window v (off i) size (inb i)) (hc i) = v' i) :
    (held d (Memref.whole b) q v : sProp 𝕄) = bigSep Finset.univ fun i => held d (slab b off size inb hq i) q (v' i) := by
  have h : ∀ i, (held d (slab b off size inb hq i) q (v' i) : sProp 𝕄)
      = ((d : Thread nD τ).loc b ↦[(Rect.unit (off i) size (inb i)).set]{q} (Memref.whole b).view.rep v) := fun i => by
    have hr : (slab b off size inb hq i).view.read (Elt F) ((Memref.whole b).view.rep v) = v' i := by
      rw [Memref.read_squeeze_slice _ _ (fun _ => rfl) (hq i) (hc i), ← hv i]
      exact congrArg (fun u => shapeCast s' u (hc i)) (View.readAt_rep_unit (Memref.whole b).view v (inb i) rfl (inb i))
    rw [← held_of_read d (slab b off size inb hq i) q ((Memref.whole b).view.rep v) (v' i) hr, slab_set]
  rw [show (bigSep Finset.univ fun i => held d (slab b off size inb hq i) q (v' i) : sProp 𝕄)
    = bigSep Finset.univ fun i => ((d : Thread nD τ).loc b ↦[(Rect.unit (off i) size (inb i)).set]{q} (Memref.whole b).view.rep v) from
      congrArg _ (funext h), ← Idealize.ShloMosaic.Ring.pointsTo_blocks _ hd hcov]
  unfold held
  rw [show (Memref.whole b).view.set = Finset.univ from View.set_whole b]

include hd hcov in
theorem heldAny_slabs (d : Dev nD) (hc : ∀ i, (Rect.unit (off i) size (inb i)).shape.ShapeCasts s') :
    (heldAny (F := F) d (Memref.whole b) : sProp 𝕄) ⊢ bigSep Finset.univ fun i => heldAny d (slab b off size inb hq i) := by
  refine (heldAny_iff d _).trans ?_
  iintro ⟨%v, H⟩
  iapply ((Entails.of_eq (held_slabs b off size inb hq hd hcov d fullShare v _ hc (fun _ => rfl))).trans (bigSep_mono fun i _ => held_any d _ _))
  iexact H

include hd hcov in
/-- Slabs with any values make a buffer with some values. -/
theorem slabs_any (d : Dev nD) : (bigSep Finset.univ fun i => heldAny (F := F) d (slab b off size inb hq i)) ⊢ heldAny (F := F) d (Memref.whole b) := by
  have h : ∀ i, (heldAny (F := F) d (slab b off size inb hq i) : sProp 𝕄)
      = iprop(∃ f : Buf (Elt F) ((d : Thread nD τ).loc b), (d : Thread nD τ).loc b ↦[(Rect.unit (off i) size (inb i)).set]{fullShare} f) := fun i => by
    unfold heldAny; rw [slab_set]
  rw [show (bigSep Finset.univ fun i => heldAny (F := F) d (slab b off size inb hq i))
    = bigSep Finset.univ fun i => iprop(∃ f : Buf (Elt F) ((d : Thread nD τ).loc b), (d : Thread nD τ).loc b ↦[(Rect.unit (off i) size (inb i)).set]{fullShare} f) from
      congrArg _ (funext h)]
  refine (Idealize.ShloMosaic.Ring.pointsTo_blocks_join_exists _ hd hcov ((Memref.whole b).view.rep (Classical.arbitrary _))).trans ?_
  unfold heldAny
  rw [show (Memref.whole b).view.set = Finset.univ from View.set_whole b]

end Slabs

/-! ## The buffers of the call -/

section Call

theorem slot_disj (i j : Fin 4) (h : i ≠ j) : Disjoint (Rect.unit (s := S4x256x2048) ![i.val, 0, 0] S1x256x2048.size (slot_inb i)).set
    (Rect.unit (s := S4x256x2048) ![j.val, 0, 0] S1x256x2048.size (slot_inb j)).set :=
  Idealize.ShloMosaic.Ring.lead_disjoint (s := S4x256x2048) 0 1 (fun i : Fin 4 => ![i.val, 0, 0]) S1x256x2048.size slot_inb (fun b => (Nat.one_mul _).symm) rfl i j h

theorem slot_cover : Finset.univ.biUnion (fun i : Fin 4 => (Rect.unit (s := S4x256x2048) ![i.val, 0, 0] S1x256x2048.size (slot_inb i)).set) = Finset.univ :=
  Idealize.ShloMosaic.Ring.lead_cover (s := S4x256x2048) 0 1 (fun i : Fin 4 => ![i.val, 0, 0]) S1x256x2048.size slot_inb (fun b => (Nat.one_mul _).symm)
    (by decide) rfl (by decide) (by decide)

theorem half_disj (i j : Fin 2) (h : i ≠ j) : Disjoint (Rect.unit (s := S2x256x2048) ![i.val, 0, 0] S1x256x2048.size (half_inb i)).set
    (Rect.unit (s := S2x256x2048) ![j.val, 0, 0] S1x256x2048.size (half_inb j)).set :=
  Idealize.ShloMosaic.Ring.lead_disjoint (s := S2x256x2048) 0 1 (fun i : Fin 2 => ![i.val, 0, 0]) S1x256x2048.size half_inb (fun b => (Nat.one_mul _).symm) rfl i j h

theorem half_cover : Finset.univ.biUnion (fun i : Fin 2 => (Rect.unit (s := S2x256x2048) ![i.val, 0, 0] S1x256x2048.size (half_inb i)).set) = Finset.univ :=
  Idealize.ShloMosaic.Ring.lead_cover (s := S2x256x2048) 0 1 (fun i : Fin 2 => ![i.val, 0, 0]) S1x256x2048.size half_inb (fun b => (Nat.one_mul _).symm)
    (by decide) rfl (by decide) (by decide)

theorem row_off (e : Dev nD) : k0_off4 e 0 = 1 * e.val := by rw [k0_off4_eq, Nat.one_mul]; rfl
theorem row_off_ne (e : Dev nD) (a : Fin 3) (h : a ≠ 0) : k0_off4 e a = 0 := by
  rw [k0_off4_eq]
  match a, h with
  | 0, h => exact absurd rfl h
  | 1, _ => rfl
  | 2, _ => rfl

theorem row_disj (i j : Dev nD) (h : i ≠ j) : Disjoint (Rect.unit (s := S16x8x128) (k0_off4 i) S1x8x128.size (k0_off4_inb i)).set
    (Rect.unit (s := S16x8x128) (k0_off4 j) S1x8x128.size (k0_off4_inb j)).set :=
  Idealize.ShloMosaic.Ring.lead_disjoint (s := S16x8x128) 0 1 (fun i : Fin 16 => k0_off4 i) S1x8x128.size k0_off4_inb row_off rfl i j h

theorem row_cover : Finset.univ.biUnion (fun i : Dev nD => (Rect.unit (s := S16x8x128) (k0_off4 i) S1x8x128.size (k0_off4_inb i)).set) = Finset.univ :=
  Idealize.ShloMosaic.Ring.lead_cover (s := S16x8x128) 0 1 (fun i : Fin 16 => k0_off4 i) S1x8x128.size k0_off4_inb row_off row_off_ne rfl (by decide) (by decide)

theorem slotsAny_eq (d : Dev nD) (p : Fin 4) : (slotsAny (F := F) d p : sProp 𝕄) = bigSep Finset.univ fun s => heldAny d (slotRef p s) := by
  unfold slotsAny
  rw [Finset.range_eq_Ico]
  exact bigSep_slots 0 (fun s => heldAny d (slotRef p s))

/-- A pipe's buffer is its four slots, -/
theorem pipe_slots : ∀ (p : Fin 4) (d : Dev nD), (heldAny (F := F) d (bufRef p) : sProp 𝕄) ⊢ slotsAny d p
  | 0, d => (heldAny_slabs cc0_scratch1 _ _ slot_inb (fun _ => squeezes_S1x256x2048_S256x2048) slot_disj slot_cover d (fun _ => (by decide : S1x256x2048.ShapeCasts S256x2048))).trans
      (Entails.of_eq (slotsAny_eq d 0).symm)
  | 1, d => (heldAny_slabs cc0_scratch2 _ _ slot_inb (fun _ => squeezes_S1x256x2048_S256x2048) slot_disj slot_cover d (fun _ => (by decide : S1x256x2048.ShapeCasts S256x2048))).trans
      (Entails.of_eq (slotsAny_eq d 1).symm)
  | 2, d => (heldAny_slabs cc0_scratch3 _ _ slot_inb (fun _ => squeezes_S1x256x2048_S256x2048) slot_disj slot_cover d (fun _ => (by decide : S1x256x2048.ShapeCasts S256x2048))).trans
      (Entails.of_eq (slotsAny_eq d 2).symm)
  | 3, d => (heldAny_slabs cc0_scratch4 _ _ slot_inb (fun _ => squeezes_S1x256x2048_S256x2048) slot_disj slot_cover d (fun _ => (by decide : S1x256x2048.ShapeCasts S256x2048))).trans
      (Entails.of_eq (slotsAny_eq d 3).symm)

/-- and back. -/
theorem slots_pipe : ∀ (p : Fin 4) (d : Dev nD), (bigSep Finset.univ fun s => heldAny (F := F) d (slotRef p s)) ⊢ (heldAny d (bufRef p) : sProp 𝕄)
  | 0, d => slabs_any cc0_scratch1 _ _ slot_inb (fun _ => squeezes_S1x256x2048_S256x2048) slot_disj slot_cover d
  | 1, d => slabs_any cc0_scratch2 _ _ slot_inb (fun _ => squeezes_S1x256x2048_S256x2048) slot_disj slot_cover d
  | 2, d => slabs_any cc0_scratch3 _ _ slot_inb (fun _ => squeezes_S1x256x2048_S256x2048) slot_disj slot_cover d
  | 3, d => slabs_any cc0_scratch4 _ _ slot_inb (fun _ => squeezes_S1x256x2048_S256x2048) slot_disj slot_cover d

theorem bigSep_two (Φ : Fin 2 → sProp 𝕄) : bigSep Finset.univ Φ = iprop(Φ 0 ∗ Φ 1) :=
  bigSep_univ_eq_bigSepL [0, 1] (by decide) (by decide) Φ

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The device's own chunk is its two halves, -/
theorem chunk_halves (d : Dev nD) : (heldAny (F := F) d (Memref.whole cc0_scratch0) : sProp 𝕄) ⊢ iprop(heldAny d (halfRef 0) ∗ heldAny d (halfRef 1)) :=
  (heldAny_slabs cc0_scratch0 _ _ half_inb (fun _ => squeezes_S1x256x2048_S256x2048) half_disj half_cover d (fun _ => (by decide : S1x256x2048.ShapeCasts S256x2048))).trans
    (Entails.of_eq (bigSep_two fun i => heldAny d (halfRef i)))

/-- and back. -/
theorem halves_chunk (d : Dev nD) : iprop(heldAny (F := F) d (halfRef 0) ∗ heldAny d (halfRef 1)) ⊢ (heldAny d (Memref.whole cc0_scratch0) : sProp 𝕄) :=
  (Entails.of_eq (bigSep_two fun i => heldAny d (halfRef i)).symm).trans
    (slabs_any cc0_scratch0 _ _ half_inb (fun _ => squeezes_S1x256x2048_S256x2048) half_disj half_cover d)

/-- A place in a slab of one row. -/
def inRow (y : Fin 8) (z : Fin 128) : S1x8x128.Idx
  | 0 => (0 : Fin 1)
  | 1 => y
  | 2 => z

/-- Sixteen rows as one array. -/
def rowsOf (r : Dev nD → S8x128.Idx → Elt F .f32) : S16x8x128.Idx → Elt F .f32 := fun i =>
  shapeCast S1x8x128 (r (i 0)) (by decide) (inRow (i 1) (i 2))

theorem rows_eq (d : Dev nD) (r : Dev nD → S8x128.Idx → Elt F .f32) :
    (held d (Memref.whole cc0_scratch14) fullShare (rowsOf r) : sProp 𝕄) = bigSep Finset.univ fun e => held d (rowRef e) fullShare (r e) :=
  held_slabs cc0_scratch14 _ _ k0_off4_inb (fun _ => squeezes_S1x8x128_S8x128) row_disj row_cover d fullShare (rowsOf r) r (fun _ => (by decide : S1x8x128.ShapeCasts S8x128)) fun e => by
    have h : VecWindow.window (rowsOf r) (k0_off4 e) S1x8x128.size (k0_off4_inb e) = shapeCast S1x8x128 (r e) (by decide) := by
      funext y
      have h0 : (Rect.unit (s := S16x8x128) (k0_off4 e) S1x8x128.size (k0_off4_inb e)).emb y 0 = e := Fin.ext (by
        have e0 : ((Rect.unit (s := S16x8x128) (k0_off4 e) S1x8x128.size (k0_off4_inb e)).emb y 0).val = k0_off4 e 0 + 1 * (y 0).val := rfl
        have := (y 0).isLt
        have hs : (Rect.unit (s := S16x8x128) (k0_off4 e) S1x8x128.size (k0_off4_inb e)).shape.size 0 = 1 := rfl
        have := row_off e
        omega)
      have h1 : inRow ((Rect.unit (s := S16x8x128) (k0_off4 e) S1x8x128.size (k0_off4_inb e)).emb y 1)
          ((Rect.unit (s := S16x8x128) (k0_off4 e) S1x8x128.size (k0_off4_inb e)).emb y 2) = y := by
        funext a
        refine Fin.ext ?_
        match a with
        | 0 =>
          have := (y 0).isLt
          have hs : (Rect.unit (s := S16x8x128) (k0_off4 e) S1x8x128.size (k0_off4_inb e)).shape.size 0 = 1 := rfl
          show 0 = (y 0).val
          omega
        | 1 =>
          show k0_off4 e 1 + 1 * (y 1).val = (y 1).val
          rw [row_off_ne e 1 (by decide)]; omega
        | 2 =>
          show k0_off4 e 2 + 1 * (y 2).val = (y 2).val
          rw [row_off_ne e 2 (by decide)]; omega
      show shapeCast S1x8x128 (r ((Rect.unit (s := S16x8x128) (k0_off4 e) S1x8x128.size (k0_off4_inb e)).emb y 0)) _
        (inRow ((Rect.unit (s := S16x8x128) (k0_off4 e) S1x8x128.size (k0_off4_inb e)).emb y 1)
          ((Rect.unit (s := S16x8x128) (k0_off4 e) S1x8x128.size (k0_off4_inb e)).emb y 2)) = _
      rw [h0, h1]
    rw [h]
    exact shapeCast_shapeCast (r e) _ _

end Call

end

end Cert.KernelIdeal.Proof

end
-- ==== Proof.Ideal.Values.lean ====
/- The values: a device's chunk in two halves, the blocks of the product in the order in which a device
   forms them, and the largest magnitude so far. -/
module

public import proofs.«01_k».proof.Proof.Ideal.Buffers

@[expose] public section

noncomputable section

namespace Cert.KernelIdeal.Proof

open Cert.KernelIdeal.Gen
open Idealize.ShloMosaic Idealize.ShloMosaic.TcCoe

variable {F : FTy → Type} [FloatOps F]

section

variable (xs : Dev nD → S256x4096.Idx → Elt F .bf16) (ws : Dev nD → S4096x128.Idx → Elt F .bf16)

/-- The two halves of a device's chunk, as the pipes carry them. -/
def chunk (d : Dev nD) : Fin 2 → S256x2048.Idx → Elt F .bf16
  | 0 => shapeCast S256x2048 (k0_pay2 (VecWindow.window (xs d) ![0, 0] S256x2048.size inb_S256x4096_S256x2048_0_0)) (by decide)
  | 1 => shapeCast S256x2048 (k0_pay3 (VecWindow.window (xs d) ![0, 2048] S256x2048.size inb_S256x4096_S256x2048_0_2048)) (by decide)

/-- The device whose chunk the `u`-th block of a device comes from. -/
def place (d : Dev nD) (u : ℕ) : Dev nD := if u = 0 then d else if u % 2 = 1 then origin 0 (u / 2) d else origin 2 (u / 2 - 1) d

theorem place_zero (d : Dev nD) : place d 0 = d := if_pos rfl
theorem place_odd (d : Dev nD) (j : ℕ) : place d (2 * j + 1) = origin 0 j d := by
  unfold place; rw [if_neg (by omega), if_pos (by omega), show (2 * j + 1) / 2 = j by omega]
theorem place_even (d : Dev nD) (j : ℕ) : place d (2 * j + 2) = origin 2 j d := by
  unfold place; rw [if_neg (by omega), if_neg (by omega), show (2 * j + 2) / 2 - 1 = j by omega]

theorem place_injective : ∀ (d : Dev nD) (u u' : Fin 16), place d u.val = place d u'.val → u = u' := by decide +kernel
theorem place_surjective : ∀ (d e : Dev nD), ∃ u : Fin 16, place d u.val = e := by decide +kernel

/-- A block of the product: the two halves of the contraction added. -/
def straight (d e : Dev nD) : FVec F S256x128 .f32 :=
  addf (prod (topHalf (ws d)) (asSlab (chunk xs e 0))) (prod (botHalf (ws d)) (asSlab (chunk xs e 1)))

/-- The same, added in the other order. -/
def swapped (d e : Dev nD) : FVec F S256x128 .f32 :=
  addf (prod (botHalf (ws d)) (asSlab (chunk xs e 1))) (prod (topHalf (ws d)) (asSlab (chunk xs e 0)))

/-- The `u`-th block of a device. -/
def valAt (d : Dev nD) (u : ℕ) : FVec F S256x128 .f32 := if u = 0 ∨ u % 2 = 1 then straight xs ws d (place d u) else swapped xs ws d (place d u)

theorem valAt_zero (d : Dev nD) : valAt xs ws d 0 = straight xs ws d d := by
  unfold valAt; rw [if_pos (Or.inl rfl), place_zero]
theorem valAt_odd (d : Dev nD) (j : ℕ) : valAt xs ws d (2 * j + 1) = straight xs ws d (origin 0 j d) := by
  unfold valAt; rw [if_pos (Or.inr (by omega)), place_odd]
theorem valAt_even (d : Dev nD) (j : ℕ) : valAt xs ws d (2 * j + 2) = swapped xs ws d (origin 2 j d) := by
  unfold valAt; rw [if_neg (by omega), place_even]

/-- The largest magnitude in the blocks up to the `u`-th. -/
def maxUpTo (d : Dev nD) : ℕ → F .f32
  | 0 => blockMax (valAt xs ws d 0)
  | u + 1 => accMax (maxUpTo d u) (valAt xs ws d (u + 1))

/-- A block put at the rows of device `e`. -/
def putBlock (e : Dev nD) (v : S4096x128.Idx → Elt F .f32) (b : FVec F S256x128 .f32) : S4096x128.Idx → Elt F .f32 :=
  VecWindow.put v ![256 * e.val, 0] S256x128.size b

/-- The result array after the first `u` blocks. -/
def fill (v : S4096x128.Idx → Elt F .f32) (d : Dev nD) : ℕ → S4096x128.Idx → Elt F .f32
  | 0 => v
  | u + 1 => putBlock (place d u) (fill v d u) (valAt xs ws d u)

/-- What a device sends out as its maximum. -/
def maxBlock (d : Dev nD) : S8x128.Idx → Elt F .f32 :=
  shapeCast S8x128 (mulf (broadcast S8x128 (maxUpTo xs ws d 15)) (broadcast S8x128 (Scalar.ofBits .f32 0x3F800000#32))) shapeCasts_S8x128_S8x128

/-- A row in which nothing has been received. -/
def zeroRow : S8x128.Idx → Elt F .f32 := shapeCast S8x128 (VecWindow.window (k0_pay4 (F := F)) ![0, 0, 0] S1x8x128.size (by decide)) (by decide)

/-- The row that device `d` holds for device `e`. -/
def rowAt (d e : Dev nD) : S8x128.Idx → Elt F .f32 := if e = d then zeroRow else maxBlock xs ws e

/-- The matrix of all the blocks of a device. -/
def whole (d : Dev nD) : S4096x128.Idx → Elt F .f32 := fill xs ws (fun _ => Scalar.ofBits .f32 0#32) d 16

/-- The result of a device. -/
def result (d : Dev nD) : S4096x128.Idx → Elt F .f32 :=
  k0_pay1 (k0_pay62 (maxUpTo xs ws d 15) (rowsOf (rowAt xs ws d))) (k0_pay63 (maxUpTo xs ws d 15) (rowsOf (rowAt xs ws d))) (whole xs ws d)

/-- All rows of the result array belong to some block, so that what was there before is gone. -/
theorem fill_all (v v' : S4096x128.Idx → Elt F .f32) (d : Dev nD) : fill xs ws v d 16 = fill xs ws v' d 16 := by
  have step : ∀ (u : ℕ) (y : S4096x128.Idx), (fill xs ws v d u y = fill xs ws v' d u y ∨ ∀ t < u, (y 0).val / 256 ≠ (place d t).val) := by
    intro u y
    induction u with
    | zero => exact Or.inr fun t ht => absurd ht (Nat.not_lt_zero t)
    | succ u ih =>
      show putBlock _ _ _ y = putBlock _ _ _ y ∨ _
      unfold putBlock VecWindow.put
      by_cases h : ∀ a, (![256 * (place d u).val, 0] : Fin 2 → ℕ) a ≤ (y a).val ∧ (y a).val < (![256 * (place d u).val, 0] : Fin 2 → ℕ) a + S256x128.size a
      · left; rw [dif_pos h, dif_pos h]
      · rw [dif_neg h, dif_neg h]
        rcases ih with ih | ih
        · exact Or.inl ih
        · right
          intro t ht
          rcases Nat.lt_succ_iff_lt_or_eq.mp ht with h1 | h1
          · exact ih t h1
          · subst h1
            intro h2
            apply h
            intro a
            match a with
            | 0 =>
              show 256 * (place d t).val ≤ (y 0).val ∧ (y 0).val < 256 * (place d t).val + 256
              omega
            | 1 =>
              have := (y 1).isLt
              exact ⟨Nat.zero_le _, by show (y 1).val < 0 + 128; rw [Nat.zero_add]; exact this⟩
  funext y
  rcases step 16 y with h | h
  · exact h
  · have hy : (y 0).val < 4096 := (y 0).isLt
    obtain ⟨t, ht⟩ := place_surjective d ⟨(y 0).val / 256, by show _ < 16; omega⟩
    exact absurd (congrArg Fin.val ht).symm (h t.val t.isLt)

theorem off1_place (d : Dev nD) : k0_off1 d = ![256 * (place d 0).val, 0] := by rw [k0_off1_eq, place_zero]
theorem off2_odd : ∀ (d : Dev nD) (j : Fin 8), k0_off2 d (BitVec.ofNat 32 (1 + (14 - j.val))) = ![256 * (origin 0 j.val d).val, 0] := by decide +kernel
theorem off2_even : ∀ (d : Dev nD) (j : Fin 7), k0_off2 d (BitVec.ofNat 32 (1 + j.val)) = ![256 * (origin 2 j.val d).val, 0] := by decide +kernel
theorem origin_last : ∀ d : Dev nD, origin 3 7 d = origin 0 7 d := by decide +kernel

end

end Cert.KernelIdeal.Proof

end
-- ==== Proof.Ideal.Ring.lean ====
/- The iterations of the ring: each moves the four pipes one hop on and puts two blocks of results in
   place; the last one moves two pipes and puts one block. -/
module

public import proofs.«01_k».proof.Proof.Ideal.Values
public import proofs.«01_k».proof.Proof.Ideal.Max

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

variable (xs : Dev nD → S256x4096.Idx → Elt F .bf16) (ws : Dev nD → S4096x128.Idx → Elt F .bf16) (A : Dev nD → S8x128.Idx → Elt F .f32)

/-- A hop, when the debts are named otherwise. -/
theorem wp_hop_at (d : Dev nD) (p : Fin 4) (j : ℕ) (hj : j < hops p) (O O' Rest : CellTallies nD τ sig ℕ) (hR : Above (4 * j + 4) Rest)
    (hO : O = Rest + owedAt d p j) (hO' : Rest + owedAt d p (j + 1) = O')
    {k : PUnit → Prog (TpuEff nD τ sig (Elt F) Λ₀ .tc) PUnit} {Q : PUnit → sProp 𝕄} :
    iprop(known (chunk xs) A ∗ pipeSt (chunk xs) d p j ∗ Owes d O)
      ⊢ iprop(((pipeSt (chunk xs) d p (j + 1) ∗ Owes d O') -∗ Wp d (k ⟨⟩) Q) -∗ Wp d (hop p d j >>= k) Q) := by
  subst hO hO'
  exact wp_hop (chunk xs) A d p j hj Rest hR

/-- Putting a block of results at the rows of device `e`. -/
theorem wp_storeBlock (d : Dev nD) (r : Fin 15) (e : Dev nD) (he : k0_off2 d (BitVec.ofNat 32 (1 + r.val)) = ![256 * e.val, 0])
    (v : S4096x128.Idx → Elt F .f32) (b : FVec F S256x128 .f32)
    {k : PUnit → Prog (TpuEff nD τ sig (Elt F) Λ₀ .tc) PUnit} {Q : PUnit → sProp 𝕄} :
    (held d (Memref.whole cc0_stg2_0) fullShare v : sProp 𝕄)
      ⊢ iprop((held d (Memref.whole cc0_stg2_0) fullShare (putBlock e v b) -∗ Wp d (k ⟨⟩) Q) -∗ Wp d (storeBlock d r b >>= k) Q) := by
  have hs := wp_storeWin d (Memref.whole cc0_stg2_0) (k0_off2_inb d r) v b (hx := View.stores_vmem_bits_univ h_S256x128 rfl) (hm := .inl rfl) (k := k) (Q := Q)
  unfold putBlock
  rw [← he]
  iintro H Hk
  iapply (wp_loadWin d (Memref.whole cc0_stg2_0) (k0_off2_inb d r) fullShare v) $$ H
  iintro H
  iapply hs $$ H
  iexact Hk

/-- The four pipes before their hops `j`. -/
def ring (d : Dev nD) (j : ℕ) : sProp 𝕄 :=
  iprop(pipeSt (chunk xs) d 0 j ∗ pipeSt (chunk xs) d 1 j ∗ pipeSt (chunk xs) d 2 j ∗ pipeSt (chunk xs) d 3 j)

/-- What is owed of the four pipes before their hops `j`. -/
def owedRing (d : Dev nD) (j : ℕ) : CellTallies nD τ sig ℕ := owedAt d 0 j + owedAt d 1 j + owedAt d 2 j + owedAt d 3 j

set_option maxHeartbeats 1000000 in
theorem wp_iter (d : Dev nD) (j : ℕ) (hj : j < 7) (r r' : Fin 15) (hr : k0_off2 d (BitVec.ofNat 32 (1 + r.val)) = ![256 * (origin 0 j d).val, 0])
    (hr' : k0_off2 d (BitVec.ofNat 32 (1 + r'.val)) = ![256 * (origin 2 j d).val, 0]) (v : S4096x128.Idx → Elt F .f32)
    (Om : CellTallies nD τ sig ℕ) (hOm : Above (4 * j + 4) Om)
    {k : F .f32 → Prog (TpuEff nD τ sig (Elt F) Λ₀ .tc) PUnit} {Q : PUnit → sProp 𝕄} :
    iprop(known (chunk xs) A ∗ ring xs d j ∗ held d (Memref.whole cc0_stg2_0) fullShare (fill xs ws v d (2 * j + 1)) ∗ Owes d (Om + owedRing d j))
      ⊢ iprop(((ring xs d (j + 1) ∗ held d (Memref.whole cc0_stg2_0) fullShare (fill xs ws v d (2 * (j + 1) + 1)) ∗ Owes d (Om + owedRing d (j + 1)))
          -∗ Wp d (k (maxUpTo xs ws d (2 * (j + 1)))) Q) -∗ Wp d (iter d (ws d) j r r' (maxUpTo xs ws d (2 * j)) >>= k) Q) := by
  have hb1 : addf (prod (topHalf (ws d)) (asSlab (chunkAt (chunk xs) 0 j d))) (prod (botHalf (ws d)) (asSlab (chunkAt (chunk xs) 1 j d))) = valAt xs ws d (2 * j + 1) :=
    (valAt_odd xs ws d j).symm
  have hb2 : addf (prod (botHalf (ws d)) (asSlab (chunkAt (chunk xs) 3 j d))) (prod (topHalf (ws d)) (asSlab (chunkAt (chunk xs) 2 j d))) = valAt xs ws d (2 * j + 2) :=
    (valAt_even xs ws d j).symm
  have hf1 : putBlock (origin 0 j d) (fill xs ws v d (2 * j + 1)) (valAt xs ws d (2 * j + 1)) = fill xs ws v d (2 * j + 2) := by
    rw [← place_odd]; rfl
  have hf2 : putBlock (origin 2 j d) (fill xs ws v d (2 * j + 2)) (valAt xs ws d (2 * j + 2)) = fill xs ws v d (2 * (j + 1) + 1) := by
    rw [← place_even]; rfl
  have hm : accMax (accMax (maxUpTo xs ws d (2 * j)) (valAt xs ws d (2 * j + 1))) (valAt xs ws d (2 * j + 2)) = maxUpTo xs ws d (2 * (j + 1)) := rfl
  have ab (p : Fin 4) : Above (4 * j + 4) (owedAt d p j) := above_owedAt d p j j (Nat.le_refl j)
  have ab' (p : Fin 4) : Above (4 * j + 4) (owedAt d p (j + 1)) := above_owedAt d p j (j + 1) (Nat.le_succ j)
  unfold iter ring owedRing
  simp only [Prog.bind_assoc]
  iintro ⟨#HK, ⟨H0, H1, H2, H3⟩, Hy, HO⟩ Hk
  iapply (wp_hop_at xs A d 0 j (Nat.lt_of_lt_of_le hj (hops_ge 0)) (Om + (owedAt d 0 j + owedAt d 1 j + owedAt d 2 j + owedAt d 3 j)) _ (Om + owedAt d 1 j + owedAt d 2 j + owedAt d 3 j)
    (((hOm.add (ab 1)).add (ab 2)).add (ab 3)) (by ac_rfl) rfl) $$ [H0 HO]
  · isplitr; · iexact HK
    isplitl [H0]; · iexact H0
    iexact HO
  iintro ⟨H0, HO⟩
  iapply (wp_loadSlot (chunk xs) d 0 j) $$ H0
  iintro H0
  iapply (wp_hop_at xs A d 3 j (Nat.lt_of_lt_of_le hj (hops_ge 3)) (Om + owedAt d 1 j + owedAt d 2 j + owedAt d 3 j + owedAt d 0 (j + 1)) _ (Om + owedAt d 1 j + owedAt d 2 j + owedAt d 0 (j + 1))
    (((hOm.add (ab 1)).add (ab 2)).add (ab' 0)) (by ac_rfl) rfl) $$ [H3 HO]
  · isplitr; · iexact HK
    isplitl [H3]; · iexact H3
    iexact HO
  iintro ⟨H3, HO⟩
  iapply (wp_loadSlot (chunk xs) d 3 j) $$ H3
  iintro H3
  iapply (wp_hop_at xs A d 1 j hj (Om + owedAt d 1 j + owedAt d 2 j + owedAt d 0 (j + 1) + owedAt d 3 (j + 1)) _ (Om + owedAt d 2 j + owedAt d 0 (j + 1) + owedAt d 3 (j + 1))
    (((hOm.add (ab 2)).add (ab' 0)).add (ab' 3)) (by ac_rfl) rfl) $$ [H1 HO]
  · isplitr; · iexact HK
    isplitl [H1]; · iexact H1
    iexact HO
  iintro ⟨H1, HO⟩
  iapply (wp_loadSlot (chunk xs) d 1 j) $$ H1
  iintro H1
  rw [hb1]
  iapply (wp_storeBlock d r (origin 0 j d) hr) $$ Hy
  iintro Hy
  rw [hf1]
  iapply (wp_hop_at xs A d 2 j hj (Om + owedAt d 2 j + owedAt d 0 (j + 1) + owedAt d 3 (j + 1) + owedAt d 1 (j + 1)) _ (Om + owedAt d 0 (j + 1) + owedAt d 3 (j + 1) + owedAt d 1 (j + 1))
    (((hOm.add (ab' 0)).add (ab' 3)).add (ab' 1)) (by ac_rfl) (by ac_rfl : _ = Om + (owedAt d 0 (j + 1) + owedAt d 1 (j + 1) + owedAt d 2 (j + 1) + owedAt d 3 (j + 1)))) $$ [H2 HO]
  · isplitr; · iexact HK
    isplitl [H2]; · iexact H2
    iexact HO
  iintro ⟨H2, HO⟩
  iapply (wp_loadSlot (chunk xs) d 2 j) $$ H2
  iintro H2
  rw [hb2]
  iapply (wp_storeBlock d r' (origin 2 j d) hr') $$ Hy
  iintro Hy
  rw [hf2, Prog.pure_eq_ret, Prog.bind_ret, hm]
  iapply Hk
  isplitl [H0 H1 H2 H3]
  · isplitl [H0]; · iexact H0
    isplitl [H1]; · iexact H1
    isplitl [H2]; · iexact H2
    iexact H3
  isplitl [Hy]; · iexact Hy
  iexact HO

/-- A pipe without further hops owes nothing. -/
theorem owedAt_done (d : Dev nD) (p : Fin 4) (j : ℕ) (h : hops p ≤ j + 1) : owedAt d p j = 0 := by
  have := hops_ge p
  unfold owedAt owedPipe
  rw [Finset.Ico_eq_empty_of_le h, Finset.Ico_eq_empty_of_le (by omega : hops p - 4 ≤ j - 1), Finset.sum_empty, Finset.sum_empty, add_zero]

set_option maxHeartbeats 1000000 in
theorem wp_lastIter (d : Dev nD) (v : S4096x128.Idx → Elt F .f32) (Om : CellTallies nD τ sig ℕ) (hOm : Above 32 Om)
    {k : F .f32 → Prog (TpuEff nD τ sig (Elt F) Λ₀ .tc) PUnit} {Q : PUnit → sProp 𝕄} :
    iprop(known (chunk xs) A ∗ ring xs d 7 ∗ held d (Memref.whole cc0_stg2_0) fullShare (fill xs ws v d 15) ∗ Owes d (Om + owedRing d 7))
      ⊢ iprop(((pipeSt (chunk xs) d 0 (hops 0) ∗ pipeSt (chunk xs) d 1 (hops 1) ∗ pipeSt (chunk xs) d 2 (hops 2) ∗ pipeSt (chunk xs) d 3 (hops 3)
            ∗ held d (Memref.whole cc0_stg2_0) fullShare (fill xs ws v d 16) ∗ Owes d Om)
          -∗ Wp d (k (maxUpTo xs ws d 15)) Q) -∗ Wp d (lastIter d (ws d) (maxUpTo xs ws d 14) >>= k) Q) := by
  have hb : addf (prod (topHalf (ws d)) (asSlab (chunkAt (chunk xs) 0 7 d))) (prod (botHalf (ws d)) (asSlab (chunkAt (chunk xs) 3 7 d))) = valAt xs ws d 15 := by
    rw [show (15 : ℕ) = 2 * 7 + 1 from rfl, valAt_odd]
    show addf _ (prod _ (asSlab (chunk xs (origin 3 7 d) 1))) = _
    rw [origin_last]; rfl
  have hf : putBlock (origin 0 7 d) (fill xs ws v d 15) (valAt xs ws d 15) = fill xs ws v d 16 := by
    rw [← place_odd]; rfl
  have hm : accMax (maxUpTo xs ws d 14) (valAt xs ws d 15) = maxUpTo xs ws d 15 := rfl
  have hr : k0_off2 d (BitVec.ofNat 32 (1 + (7 : Fin 15).val)) = ![256 * (origin 0 7 d).val, 0] := off2_odd d 7
  have z (p : Fin 4) : owedAt d p 7 = 0 := owedAt_done d p 7 (hops_le p)
  have z' (p : Fin 4) : owedAt d p (7 + 1) = 0 := owedAt_done d p _ (Nat.le_succ_of_le (hops_le p))
  unfold lastIter ring owedRing
  simp only [Prog.bind_assoc]
  rw [z, z, z, z, add_zero, add_zero, add_zero, add_zero]
  iintro ⟨#HK, ⟨H0, H1, H2, H3⟩, Hy, HO⟩ Hk
  iapply (wp_hop_at xs A d 0 7 (show 7 < 8 by decide) Om Om Om hOm (by rw [z, add_zero]) (by rw [z', add_zero])) $$ [H0 HO]
  · isplitr; · iexact HK
    isplitl [H0]; · iexact H0
    iexact HO
  iintro ⟨H0, HO⟩
  iapply (wp_loadSlot (chunk xs) d 0 7) $$ H0
  iintro H0
  iapply (wp_hop_at xs A d 3 7 (show 7 < 8 by decide) Om Om Om hOm (by rw [z, add_zero]) (by rw [z', add_zero])) $$ [H3 HO]
  · isplitr; · iexact HK
    isplitl [H3]; · iexact H3
    iexact HO
  iintro ⟨H3, HO⟩
  iapply (wp_loadSlot (chunk xs) d 3 7) $$ H3
  iintro H3
  rw [hb]
  iapply (wp_storeBlock d 7 (origin 0 7 d) hr) $$ Hy
  iintro Hy
  rw [hf, Prog.pure_eq_ret, Prog.bind_ret, hm]
  iapply Hk
  isplitl [H0]; · iexact H0
  isplitl [H1]; · iexact H1
  isplitl [H2]; · iexact H2
  isplitl [H3]; · iexact H3
  isplitl [Hy]; · iexact Hy
  iexact HO

end

end Cert.KernelIdeal.Proof

end
-- ==== Proof.Ideal.Opening.lean ====
/- The opening: the meeting of neighbours, which hands over the buffers of the pipes; the device's own
   chunk and the empty rows put in place; and the first hops with the device's own block of results. -/
module

public import proofs.«01_k».proof.Proof.Ideal.Ring

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

variable (xs : Dev nD → S256x4096.Idx → Elt F .bf16) (ws : Dev nD → S4096x128.Idx → Elt F .bf16)

/-! ## The meeting -/

section Meeting

variable (X : Dev nD → Fin 2 → S256x2048.Idx → Elt F .bf16) (A : Dev nD → S8x128.Idx → Elt F .f32)

/-- Telling a neighbour that the buffers it writes here are free. -/
theorem wp_tell (d e : Dev nD) (b : ℕ) (hb : b ∈ ({0, 1} : Finset ℕ)) (P : sProp 𝕄) (hP : P ⊢ (sched X A).payload (bCell e) 0 b) (O : CellTallies nD τ sig ℕ)
    {k : PUnit → Prog (TpuEff nD τ sig (Elt F) Λ₀ .tc) PUnit} {Q : PUnit → sProp 𝕄} :
    iprop(known X A ∗ dutyTok ER (bCell e) 0 b ∗ P ∗ Owes d (O + tallyAt (bCell e) 0 1))
      ⊢ iprop((Owes d O -∗ Wp d (k ⟨⟩) Q) -∗ Wp d (semSignalWord e barrier0 1#32 >>= k) Q) := by
  have hd : b ∈ (sched X A).duties (bCell e) 0 := by rw [duties_b]; exact hb
  have hP' : P ⊢ (sched X A).payload (((e : Dev nD) : Thread nD τ), .reg barrier0) 0 b := hP
  unfold Owes
  simp only [semSignalWord, Prog.bind_op, Prog.bind_ret]
  iintro ⟨#HK, Ht, HP, ⟨%W, HO⟩⟩ Hk
  ihave #Hcell := (known_b X A e) $$ HK
  unfold hasCell
  icases Hcell with ⟨⟨%κ, #Hinv⟩, #Hr⟩
  iapply (Rounds.wp_signal 𝒱₀ ER (sched X A) (d : Thread nD τ) none (dst := ((e : Dev nD) : Thread nD τ)) (κ := κ) (r := 0)
      (d := b) hd ((amount_b X A e 0 b).trans (by decide)) 0 O rfl) $$ [Ht HP HO]
  · isplitr; · iexact Hinv
    isplitl [HO]; · iexact HO
    isplitl [Ht]; · iexact Ht
    isplitl [HP]; · iapply hP'; iexact HP
    iexact Hr
  iintro HO
  iapply Hk
  iexists W; iexact HO

/-- Awaiting both neighbours: the buffers a device writes are its to write. -/
theorem wp_meet (d : Dev nD) (O : CellTallies nD τ sig ℕ) (hO : Above 1 O)
    {k : PUnit → Prog (TpuEff nD τ sig (Elt F) Λ₀ .tc) PUnit} {Q : PUnit → sProp 𝕄} :
    iprop(known X A ∗ cred (tallyAt (bCell d) 0 2) ∗ Owes d O ∗ atPos ER (bCell d) 0 ∅ 0)
      ⊢ iprop(((Owes d O ∗ atPos ER (bCell d) 1 ∅ 0 ∗ slotsAny (down 0 d) 0 ∗ slotsAny (down 1 d) 1 ∗ slotsAny (down 2 d) 2 ∗ slotsAny (down 3 d) 3) -∗ Wp d (k ⟨⟩) Q)
          -∗ Wp d (semWaitWord barrier0 2#32 >>= k) Q) := by
  have hexp : 0 + (2#32 : BitVec 32).toNat = (sched X A).expect (bCell d) 0 := by rw [expect_b]; decide
  have hpay : (bigSep ((sched X A).duties ((d : Thread nD τ), .reg barrier0) 0 \ ∅) fun b => (sched X A).payload ((d : Thread nD τ), .reg barrier0) 0 b)
      = iprop((slotsAny (down 0 d) 0 ∗ slotsAny (down 1 d) 1) ∗ slotsAny (down 2 d) 2 ∗ slotsAny (down 3 d) 3) := by
    have h1 := duties_b X A d
    have h2 := payload_b0 X A d
    have h3 := payload_b1 X A d
    unfold bCell at h1 h2 h3
    rw [Finset.sdiff_empty, h1, show ({0, 1} : Finset ℕ) = insert 0 {1} from rfl, SparseCore.bigSep_insert' (by decide), bigSep_singleton, h2, h3]
    rfl
  unfold Owes
  simp only [semWaitWord, Prog.bind_op, Prog.bind_ret]
  iintro ⟨#HK, Hc, ⟨%W, HO⟩, Hat⟩ Hk
  ihave #Hcell := (known_b X A d) $$ HK
  unfold hasCell
  icases Hcell with ⟨⟨%κ, #Hinv⟩, -⟩
  iapply (Rounds.wp_wait_rest_token 𝒱₀ ER (sched X A) (d : Thread nD τ) none (κ := κ)
      (wpE_semWait_eq 𝒱₀ (d : Thread nD τ) none Set.univ) (Set.mem_univ _) 0 (O := O) (W := W) (R := 0) (m := 0) (T := ∅) hexp) $$ [Hc HO Hat]
  · isplitr; · iexact Hinv
    isplitl [Hc]; · iexact Hc
    isplitl [HO]; · iexact HO
    isplitr; · iapply (known_mayWait X A d (.reg barrier0) 0 1 (by decide) (le_of_eq (lv_b d 0)) O hO); iexact HK
    iexact Hat
  iintro ⟨HO, Hat, -, Hpay⟩
  ihave Hpay := (Entails.of_eq hpay) $$ Hpay
  icases Hpay with ⟨⟨H0, H1⟩, H2, H3⟩
  iapply Hk
  isplitl [HO]; · iexists _; iexact HO
  isplitl [Hat]; · iexact Hat
  isplitl [H0]; · iexact H0
  isplitl [H1]; · iexact H1
  isplitl [H2]; · iexact H2
  iexact H3

end Meeting

/-! ## Loads and stores of the two halves -/

section Halves

variable (d : Dev nD) (q : PosShare TreeShare) (v : S256x2048.Idx → Elt F .bf16) (w : Vec F S1x256x2048 .bf16)

theorem wp_load0 {k : Vec F S1x256x2048 .bf16 → Prog (TpuEff nD τ sig (Elt F) Λ₀ .tc) PUnit} {Q : PUnit → sProp 𝕄}
    {hl : (Memref.whole cc0_scratch0).view.LoadsAt (Rect.unit (s := S2x256x2048) ![0, 0, 0] S1x256x2048.size inb_S2x256x2048_S1x256x2048_0_0_0).toLoadRect} :
    (held d (halfRef 0) q v : sProp 𝕄) ⊢ iprop((held d (halfRef 0) q v -∗ Wp d (k (asSlab v)) Q)
      -∗ Wp d (.op (.load (Memref.whole cc0_scratch0) (Rect.unit (s := S2x256x2048) ![0, 0, 0] S1x256x2048.size inb_S2x256x2048_S1x256x2048_0_0_0).toLoadRect hl) k) Q) :=
  wp_loadSlab d (Memref.whole cc0_scratch0) inb_S2x256x2048_S1x256x2048_0_0_0 squeezes_S1x256x2048_S256x2048 q v
    (by decide : S256x2048.ShapeCasts S1x256x2048) (by decide : S1x256x2048.ShapeCasts S256x2048)

theorem wp_load1 {k : Vec F S1x256x2048 .bf16 → Prog (TpuEff nD τ sig (Elt F) Λ₀ .tc) PUnit} {Q : PUnit → sProp 𝕄}
    {hl : (Memref.whole cc0_scratch0).view.LoadsAt (Rect.unit (s := S2x256x2048) ![1, 0, 0] S1x256x2048.size inb_S2x256x2048_S1x256x2048_1_0_0).toLoadRect} :
    (held d (halfRef 1) q v : sProp 𝕄) ⊢ iprop((held d (halfRef 1) q v -∗ Wp d (k (asSlab v)) Q)
      -∗ Wp d (.op (.load (Memref.whole cc0_scratch0) (Rect.unit (s := S2x256x2048) ![1, 0, 0] S1x256x2048.size inb_S2x256x2048_S1x256x2048_1_0_0).toLoadRect hl) k) Q) :=
  wp_loadSlab d (Memref.whole cc0_scratch0) inb_S2x256x2048_S1x256x2048_1_0_0 squeezes_S1x256x2048_S256x2048 q v
    (by decide : S256x2048.ShapeCasts S1x256x2048) (by decide : S1x256x2048.ShapeCasts S256x2048)

theorem wp_store0 {k : PUnit → Prog (TpuEff nD τ sig (Elt F) Λ₀ .tc) PUnit} {Q : PUnit → sProp 𝕄}
    {hx : ((Memref.whole cc0_scratch0).access (Rect.unit (s := S2x256x2048) ![0, 0, 0] S1x256x2048.size inb_S2x256x2048_S1x256x2048_0_0_0)).Stores Finset.univ}
    {hm : Finset.univ = Finset.univ ∨ ∀ a, (Rect.unit (s := S2x256x2048) ![0, 0, 0] S1x256x2048.size inb_S2x256x2048_S1x256x2048_0_0_0).stride a = 1} :
    (held d (halfRef 0) fullShare v : sProp 𝕄) ⊢ iprop((held d (halfRef 0) fullShare (shapeCast S256x2048 w (by decide)) -∗ Wp d (k ⟨⟩) Q)
      -∗ Wp d (.op (.store (Memref.whole cc0_scratch0) (Rect.unit (s := S2x256x2048) ![0, 0, 0] S1x256x2048.size inb_S2x256x2048_S1x256x2048_0_0_0) w Finset.univ hx hm) k) Q) :=
  wp_storeSlab d (Memref.whole cc0_scratch0) inb_S2x256x2048_S1x256x2048_0_0_0 squeezes_S1x256x2048_S256x2048 v w (by decide : S1x256x2048.ShapeCasts S256x2048)

theorem wp_store1 {k : PUnit → Prog (TpuEff nD τ sig (Elt F) Λ₀ .tc) PUnit} {Q : PUnit → sProp 𝕄}
    {hx : ((Memref.whole cc0_scratch0).access (Rect.unit (s := S2x256x2048) ![1, 0, 0] S1x256x2048.size inb_S2x256x2048_S1x256x2048_1_0_0)).Stores Finset.univ}
    {hm : Finset.univ = Finset.univ ∨ ∀ a, (Rect.unit (s := S2x256x2048) ![1, 0, 0] S1x256x2048.size inb_S2x256x2048_S1x256x2048_1_0_0).stride a = 1} :
    (held d (halfRef 1) fullShare v : sProp 𝕄) ⊢ iprop((held d (halfRef 1) fullShare (shapeCast S256x2048 w (by decide)) -∗ Wp d (k ⟨⟩) Q)
      -∗ Wp d (.op (.store (Memref.whole cc0_scratch0) (Rect.unit (s := S2x256x2048) ![1, 0, 0] S1x256x2048.size inb_S2x256x2048_S1x256x2048_1_0_0) w Finset.univ hx hm) k) Q) :=
  wp_storeSlab d (Memref.whole cc0_scratch0) inb_S2x256x2048_S1x256x2048_1_0_0 squeezes_S1x256x2048_S256x2048 v w (by decide : S1x256x2048.ShapeCasts S256x2048)

end Halves

/-! ## The opening -/

/-- The rights with which a device meets its neighbours. -/
def meeting (d : Dev nD) : sProp 𝕄 :=
  iprop(dutyTok ER (bCell (left d)) 0 0 ∗ dutyTok ER (bCell (right d)) 0 1 ∗ cred (tallyAt (bCell d) 0 2) ∗ atPos ER (bCell d) 0 ∅ 0)

variable (A : Dev nD → S8x128.Idx → Elt F .f32)

set_option maxHeartbeats 1000000 in
theorem wp_opening (d : Dev nD) (O : CellTallies nD τ sig ℕ) (hO : Above 1 O)
    {k : Vec F S4096x128 .bf16 → Prog (TpuEff nD τ sig (Elt F) Λ₀ .tc) PUnit} {Q : PUnit → sProp 𝕄} :
    iprop(known (chunk xs) A ∗ meeting d ∗ (heldAny d (bufRef 0) ∗ heldAny d (bufRef 1) ∗ heldAny d (bufRef 2) ∗ heldAny d (bufRef 3))
        ∗ heldAny d (Memref.whole cc0_scratch0) ∗ heldAny d (Memref.whole cc0_scratch14)
        ∗ held d (Memref.whole cc0_stg0_0) fullShare (xs d) ∗ held d (Memref.whole cc0_stg1_0) fullShare (ws d)
        ∗ Owes d (O + tallyAt (bCell (right d)) 0 1 + tallyAt (bCell (left d)) 0 1))
      ⊢ iprop(((atPos ER (bCell d) 1 ∅ 0 ∗ (slotsAny (down 0 d) 0 ∗ slotsAny (down 1 d) 1 ∗ slotsAny (down 2 d) 2 ∗ slotsAny (down 3 d) 3)
            ∗ (held d (halfRef 0) fullShare (chunk xs d 0) ∗ held d (halfRef 1) fullShare (chunk xs d 1))
            ∗ held d (Memref.whole cc0_scratch14) fullShare (k0_pay4 (F := F))
            ∗ held d (Memref.whole cc0_stg0_0) fullShare (xs d) ∗ held d (Memref.whole cc0_stg1_0) fullShare (ws d) ∗ Owes d O) -∗ Wp d (k (ws d)) Q)
          -∗ Wp d (opening d >>= k) Q) := by
  have hl : iprop(slotsAny (F := F) d 0 ∗ slotsAny d 1) ⊢ (sched (chunk xs) A).payload (bCell (left d)) 0 0 := by rw [payload_b0, right_left]
  have hr : iprop(slotsAny (F := F) d 2 ∗ slotsAny d 3) ⊢ (sched (chunk xs) A).payload (bCell (right d)) 0 1 := by rw [payload_b1, left_right]
  unfold opening meeting
  simp only [Prog.bind_assoc]
  iintro ⟨#HK, ⟨Ht0, Ht1, Hc, Hat⟩, ⟨Hb0, Hb1, Hb2, Hb3⟩, Hx, Ha, Hs0, Hs1, HO⟩ Hk
  ihave Hb0 := (pipe_slots 0 d) $$ Hb0
  ihave Hb1 := (pipe_slots 1 d) $$ Hb1
  ihave Hb2 := (pipe_slots 2 d) $$ Hb2
  ihave Hb3 := (pipe_slots 3 d) $$ Hb3
  iapply (wp_tell (chunk xs) A d (left d) 0 (by decide) _ hl _) $$ [Ht0 Hb0 Hb1 HO]
  · isplitr; · iexact HK
    isplitl [Ht0]; · iexact Ht0
    isplitl [Hb0 Hb1]
    · isplitl [Hb0]; · iexact Hb0
      iexact Hb1
    iexact HO
  iintro HO
  iapply (wp_tell (chunk xs) A d (right d) 1 (by decide) _ hr _) $$ [Ht1 Hb2 Hb3 HO]
  · isplitr; · iexact HK
    isplitl [Ht1]; · iexact Ht1
    isplitl [Hb2 Hb3]
    · isplitl [Hb2]; · iexact Hb2
      iexact Hb3
    iexact HO
  iintro HO
  iapply (wp_meet (chunk xs) A d O hO) $$ [Hc HO Hat]
  · isplitr; · iexact HK
    isplitl [Hc]; · iexact Hc
    isplitl [HO]; · iexact HO
    iexact Hat
  iintro ⟨HO, Hat, Hsl⟩
  ihave Hx := (chunk_halves d) $$ Hx
  icases Hx with ⟨Hh0, Hh1⟩
  ihave Hh0 := (heldAny_iff d (halfRef 0)) $$ Hh0
  ihave Hh1 := (heldAny_iff d (halfRef 1)) $$ Hh1
  ihave Ha := (heldAny_iff d _) $$ Ha
  icases Hh0 with ⟨%v0, Hh0⟩
  icases Hh1 with ⟨%v1, Hh1⟩
  icases Ha with ⟨%va, Ha⟩
  simp only [Prog.lift, Prog.bind_op, Prog.bind_ret]
  iapply (wp_loadWin d (Memref.whole cc0_stg0_0) inb_S256x4096_S256x2048_0_0 fullShare (xs d)) $$ Hs0
  iintro Hs0
  iapply (wp_load0 d fullShare v0) $$ Hh0
  iintro Hh0
  iapply (wp_store0 d v0 _) $$ Hh0
  iintro Hh0
  iapply (wp_loadWin d (Memref.whole cc0_stg0_0) inb_S256x4096_S256x2048_0_2048 fullShare (xs d)) $$ Hs0
  iintro Hs0
  iapply (wp_load1 d fullShare v1) $$ Hh1
  iintro Hh1
  iapply (wp_store1 d v1 _) $$ Hh1
  iintro Hh1
  iapply (wp_loadAll d (Memref.whole cc0_scratch14) inb_S16x8x128_S16x8x128_0_0_0 fullShare va) $$ Ha
  iintro Ha
  iapply (wp_storeAll d (Memref.whole cc0_scratch14) inb_S16x8x128_S16x8x128_0_0_0 va _) $$ Ha
  iintro Ha
  iapply (wp_loadAll d (Memref.whole cc0_stg1_0) inb_S4096x128_S4096x128_0_0 fullShare (ws d)) $$ Hs1
  iintro Hs1
  iapply Hk
  isplitl [Hat]; · iexact Hat
  isplitl [Hsl]; · iexact Hsl
  isplitl [Hh0 Hh1]
  · isplitl [Hh0]; · iexact Hh0
    iexact Hh1
  isplitl [Ha]; · iexact Ha
  isplitl [Hs0]; · iexact Hs0
  isplitl [Hs1]; · iexact Hs1
  iexact HO

/-! ## The empty rows -/

theorem others_image : ∀ d : Dev nD, Finset.univ.erase d = Finset.univ.image (away d) := by decide +kernel
theorem away_inj : ∀ d : Dev nD, Function.Injective (away d) := by decide +kernel

/-- All the other devices, by their distance. -/
theorem bigSep_away (d : Dev nD) (Φ : Dev nD → sProp 𝕄) : bigSep (Finset.univ.erase d) Φ = bigSep Finset.univ fun o => Φ (away d o) := by
  rw [others_image]
  exact bigSep_image_of_injOn (away_inj d).injOn Φ

/-- All devices: one, and the others by their distance. -/
theorem bigSep_others (d : Dev nD) (Φ : Dev nD → sProp 𝕄) : bigSep Finset.univ Φ = iprop(Φ d ∗ bigSep Finset.univ fun o => Φ (away d o)) := by
  rw [← bigSep_away]
  exact SparseCore.bigSep_erase' (Finset.mem_univ d)

theorem zero_rows : k0_pay4 (F := F) = rowsOf fun _ => zeroRow := rfl

theorem row_nonempty (e : Dev nD) : (rowRef e).view.set.Nonempty := ⟨_, View.emb_mem_set _ (fun a => ⟨0, by revert a; decide⟩)⟩

/-- The rows of the other devices let go, the device's own row kept. -/
theorem open_rows (X : Dev nD → Fin 2 → S256x2048.Idx → Elt F .bf16) (d : Dev nD) :
    iprop(known X A ∗ held d (Memref.whole cc0_scratch14) fullShare (k0_pay4 (F := F)) ∗ bigSep (Finset.univ.erase d) fun t => readerAt ES (.inr (d, t)) 0)
      ⊢ iprop(|={Set.univ}=> (held d (rowRef d) fullShare zeroRow ∗ opened (F := F) d)) := by
  have hone (t : Dev nD) : iprop(known X A ∗ (held d (rowRef t) fullShare zeroRow ∗ readerAt ES (.inr (d, t)) 0))
      ⊢ iprop(|={Set.univ}=> (released ES (.inr (d, t)) 1 : sProp 𝕄)) := by
    have hex : iprop(keySlot (F := F) (.inr (d, t)) ∗ keySlot (F := F) (.inr (d, t))) ⊢ (False : sProp 𝕄) :=
      slot_slot_false (ℓ := (rowRef t).view.loc (d : Thread nD τ)) (I := (rowRef t).view.set) (row_nonempty t)
    have hfree : held (F := F) d (rowRef t) fullShare zeroRow ⊢ keySlot (F := F) (.inr (d, t)) := held_any d _ _
    iintro ⟨#HK, Hrow, Hr⟩
    ihave #Hks := (known_slot X A (.inr (d, t))) $$ HK
    unfold hasSlot
    icases Hks with ⟨%ι, #Hsi⟩
    ihave Hrow := hfree $$ Hrow
    imod (slot_release ES (Set.mem_univ ι) hex 0) $$ [Hr Hrow] with ⟨-, #Hrel⟩
    · isplitr; · iexact Hsi
      isplitl [Hr]; · iexact Hr
      iexact Hrow
    imodintro
    iexact Hrel
  have hsep : iprop((bigSep (Finset.univ.erase d) fun t => held (F := F) d (rowRef t) fullShare zeroRow) ∗ bigSep (Finset.univ.erase d) fun t => (readerAt ES (.inr (d, t)) 0 : sProp 𝕄))
      ⊢ bigSep (Finset.univ.erase d) fun t => iprop(held (F := F) d (rowRef t) fullShare zeroRow ∗ (readerAt ES (.inr (d, t)) 0 : sProp 𝕄)) :=
    Entails.of_eq (BI.bigSep_sep _ _ _).symm
  have hall : iprop(known X A ∗ bigSep (Finset.univ.erase d) fun t => iprop(held (F := F) d (rowRef t) fullShare zeroRow ∗ (readerAt ES (.inr (d, t)) 0 : sProp 𝕄)))
      ⊢ iprop(|={Set.univ}=> opened (F := F) d) := by
    unfold opened
    exact (bigSep_with_persistent fun t _ => hone t).trans (bigSep_fupd _ _)
  rw [zero_rows, rows_eq]
  iintro ⟨#HK, Hrows, Hr⟩
  ihave Hrows := (Entails.of_eq (SparseCore.bigSep_erase' (Finset.mem_univ d))) $$ Hrows
  icases Hrows with ⟨Hown, Hrows⟩
  ihave H := hsep $$ [Hrows Hr]
  · isplitl [Hrows]; · iexact Hrows
    iexact Hr
  imod hall $$ [H] with #Hop
  · isplitr; · iexact HK
    iexact H
  imodintro
  isplitl [Hown]; · iexact Hown
  iexact Hop

/-! ## The first hops -/

/-- A device's half, in the two shares that the first hops borrow and the share that stays. -/
theorem half_shares (d : Dev nD) (s : Fin 2) (v : S256x2048.Idx → Elt F .bf16) :
    (held d (halfRef s) fullShare v : sProp 𝕄) ⊣⊢ iprop((held d (halfRef s) fullShare.left.left v ∗ held d (halfRef s) fullShare.left.right v)
      ∗ held d (halfRef s) fullShare.right v) := by
  constructor
  · iintro H
    ihave H := (held_split d (halfRef s) fullShare v).mp $$ H
    icases H with ⟨Hl, Hr⟩
    ihave Hl := (held_split d (halfRef s) fullShare.left v).mp $$ Hl
    isplitl [Hl]; · iexact Hl
    iexact Hr
  · iintro ⟨Hl, Hr⟩
    ihave Hl := (held_split d (halfRef s) fullShare.left v).mpr $$ Hl
    iapply (held_split d (halfRef s) fullShare v).mpr
    isplitl [Hl]; · iexact Hl
    iexact Hr

theorem src_0 (d : Dev nD) : (srcHeld (chunk xs) d 0 0 : sProp 𝕄) = held d (halfRef 0) fullShare.left.left (chunk xs d 0) := rfl
theorem src_1 (d : Dev nD) : (srcHeld (chunk xs) d 1 0 : sProp 𝕄) = held d (halfRef 1) fullShare.left.left (chunk xs d 1) := rfl
theorem src_2 (d : Dev nD) : (srcHeld (chunk xs) d 2 0 : sProp 𝕄) = held d (halfRef 0) fullShare.left.right (chunk xs d 0) := rfl
theorem src_3 (d : Dev nD) : (srcHeld (chunk xs) d 3 0 : sProp 𝕄) = held d (halfRef 1) fullShare.left.right (chunk xs d 1) := rfl

/-- What is owed of the four pipes when the kernel starts. -/
def owedStart (d : Dev nD) : CellTallies nD τ sig ℕ := owedPipe d 0 0 0 + owedPipe d 1 0 0 + owedPipe d 2 0 0 + owedPipe d 3 0 0

/-- The first hop of a pipe, when the debts are named otherwise. -/
theorem wp_first_at (d : Dev nD) (p : Fin 4) (O O' Rest : CellTallies nD τ sig ℕ) (hO : O = Rest + owedPipe d p 0 0) (hO' : Rest + owedAt d p 0 = O')
    {k : PUnit → Prog (TpuEff nD τ sig (Elt F) Λ₀ .tc) PUnit} {Q : PUnit → sProp 𝕄} :
    iprop(known (chunk xs) A ∗ pipeStart d p ∗ slotsAny (down p d) p ∗ srcHeld (chunk xs) d p 0 ∗ opened d ∗ Owes d O)
      ⊢ iprop(((pipeSt (chunk xs) d p 0 ∗ Owes d O') -∗ Wp d (k ⟨⟩) Q) -∗ Wp d (startHop p d 0 >>= k) Q) := by
  subst hO hO'
  exact wp_first (chunk xs) A d p Rest

set_option maxHeartbeats 1000000 in
theorem wp_ownBlock (d : Dev nD) (v : S4096x128.Idx → Elt F .f32) (Om : CellTallies nD τ sig ℕ)
    {k : F .f32 → Prog (TpuEff nD τ sig (Elt F) Λ₀ .tc) PUnit} {Q : PUnit → sProp 𝕄} :
    iprop(known (chunk xs) A ∗ (pipeStart d 0 ∗ pipeStart d 1 ∗ pipeStart d 2 ∗ pipeStart d 3)
        ∗ (slotsAny (down 0 d) 0 ∗ slotsAny (down 1 d) 1 ∗ slotsAny (down 2 d) 2 ∗ slotsAny (down 3 d) 3)
        ∗ (held d (halfRef 0) fullShare (chunk xs d 0) ∗ held d (halfRef 1) fullShare (chunk xs d 1)) ∗ opened d
        ∗ held d (Memref.whole cc0_stg2_0) fullShare v ∗ Owes d (Om + owedStart d))
      ⊢ iprop(((ring xs d 0 ∗ (held d (halfRef 0) fullShare.right (chunk xs d 0) ∗ held d (halfRef 1) fullShare.right (chunk xs d 1))
            ∗ held d (Memref.whole cc0_stg2_0) fullShare (fill xs ws v d 1) ∗ Owes d (Om + owedRing d 0)) -∗ Wp d (k (maxUpTo xs ws d 0)) Q)
          -∗ Wp d (ownBlock d (ws d) >>= k) Q) := by
  have hb : addf (prod (topHalf (ws d)) (asSlab (chunk xs d 0))) (prod (botHalf (ws d)) (asSlab (chunk xs d 1))) = valAt xs ws d 0 := (valAt_zero xs ws d).symm
  have hs (w : FVec F S256x128 .f32) := wp_storeWin d (Memref.whole cc0_stg2_0) (k0_off1_inb d) v w
    (hx := View.stores_vmem_bits_univ h_S256x128 rfl) (hm := .inl rfl) (k := fun _ => k (blockMax w)) (Q := Q)
  have hf : VecWindow.put v (k0_off1 d) S256x128.size (valAt xs ws d 0) = fill xs ws v d 1 := by rw [off1_place]; rfl
  unfold ownBlock owedStart owedRing
  simp only [Prog.bind_assoc]
  iintro ⟨#HK, ⟨Hp0, Hp1, Hp2, Hp3⟩, ⟨Hd0, Hd1, Hd2, Hd3⟩, ⟨Hh0, Hh1⟩, #Hop, Hy, HO⟩ Hk
  ihave Hh0 := (half_shares d 0 _).mp $$ Hh0
  icases Hh0 with ⟨⟨Hl0, Hl2⟩, Hr0⟩
  ihave Hh1 := (half_shares d 1 _).mp $$ Hh1
  icases Hh1 with ⟨⟨Hl1, Hl3⟩, Hr1⟩
  iapply (wp_first_at xs A d 0 (Om + (owedPipe d 0 0 0 + owedPipe d 1 0 0 + owedPipe d 2 0 0 + owedPipe d 3 0 0)) _
    (Om + owedPipe d 1 0 0 + owedPipe d 2 0 0 + owedPipe d 3 0 0) (by ac_rfl) rfl) $$ [Hp0 Hd0 Hl0 HO]
  · isplitr; · iexact HK
    isplitl [Hp0]; · iexact Hp0
    isplitl [Hd0]; · iexact Hd0
    isplitl [Hl0]; · iapply (Entails.of_eq (src_0 xs d).symm); iexact Hl0
    isplitr; · iexact Hop
    iexact HO
  iintro ⟨Hp0, HO⟩
  iapply (wp_first_at xs A d 3 (Om + owedPipe d 1 0 0 + owedPipe d 2 0 0 + owedPipe d 3 0 0 + owedAt d 0 0) _
    (Om + owedPipe d 1 0 0 + owedPipe d 2 0 0 + owedAt d 0 0) (by ac_rfl) rfl) $$ [Hp3 Hd3 Hl3 HO]
  · isplitr; · iexact HK
    isplitl [Hp3]; · iexact Hp3
    isplitl [Hd3]; · iexact Hd3
    isplitl [Hl3]; · iapply (Entails.of_eq (src_3 xs d).symm); iexact Hl3
    isplitr; · iexact Hop
    iexact HO
  iintro ⟨Hp3, HO⟩
  iapply (wp_first_at xs A d 1 (Om + owedPipe d 1 0 0 + owedPipe d 2 0 0 + owedAt d 0 0 + owedAt d 3 0) _
    (Om + owedPipe d 2 0 0 + owedAt d 0 0 + owedAt d 3 0) (by ac_rfl) rfl) $$ [Hp1 Hd1 Hl1 HO]
  · isplitr; · iexact HK
    isplitl [Hp1]; · iexact Hp1
    isplitl [Hd1]; · iexact Hd1
    isplitl [Hl1]; · iapply (Entails.of_eq (src_1 xs d).symm); iexact Hl1
    isplitr; · iexact Hop
    iexact HO
  iintro ⟨Hp1, HO⟩
  iapply (wp_first_at xs A d 2 (Om + owedPipe d 2 0 0 + owedAt d 0 0 + owedAt d 3 0 + owedAt d 1 0) (Om + (owedAt d 0 0 + owedAt d 1 0 + owedAt d 2 0 + owedAt d 3 0))
    (Om + owedAt d 0 0 + owedAt d 3 0 + owedAt d 1 0) (by ac_rfl) (by ac_rfl)) $$ [Hp2 Hd2 Hl2 HO]
  · isplitr; · iexact HK
    isplitl [Hp2]; · iexact Hp2
    isplitl [Hd2]; · iexact Hd2
    isplitl [Hl2]; · iapply (Entails.of_eq (src_2 xs d).symm); iexact Hl2
    isplitr; · iexact Hop
    iexact HO
  iintro ⟨Hp2, HO⟩
  simp only [Prog.lift, Prog.bind_op, Prog.bind_ret, Prog.pure_eq_ret]
  iapply (wp_load0 d fullShare.right (chunk xs d 0)) $$ Hr0
  iintro Hr0
  iapply (wp_load1 d fullShare.right (chunk xs d 1)) $$ Hr1
  iintro Hr1
  iapply (wp_loadWin d (Memref.whole cc0_stg2_0) (k0_off1_inb d) fullShare v) $$ Hy
  iintro Hy
  iapply (hs (addf (prod (topHalf (ws d)) (asSlab (chunk xs d 0))) (prod (botHalf (ws d)) (asSlab (chunk xs d 1))))) $$ Hy
  rw [hb, hf]
  iintro Hy
  iapply Hk
  isplitl [Hp0 Hp1 Hp2 Hp3]
  · unfold ring
    isplitl [Hp0]; · iexact Hp0
    isplitl [Hp1]; · iexact Hp1
    isplitl [Hp2]; · iexact Hp2
    iexact Hp3
  isplitl [Hr0 Hr1]
  · isplitl [Hr0]; · iexact Hr0
    iexact Hr1
  isplitl [Hy]; · iexact Hy
  iexact HO

end

end Cert.KernelIdeal.Proof

end
-- ==== Proof.Ideal.Body.lean ====
/- The closing: the exchange of the maxima and the quantiser. And the whole body from what a device has at the
   start to what it has at the end. -/
module

public import proofs.«01_k».proof.Proof.Ideal.Opening

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

variable (xs : Dev nD → S256x4096.Idx → Elt F .bf16) (ws : Dev nD → S4096x128.Idx → Elt F .bf16)

/-! ## The exchange of the maxima and the quantiser -/

theorem held_toks {sp : Space} {s : Shape} {e : EltTy} (d : Dev nD) (M : Memref sig .tc sp s e) (v : s.Idx → Elt F e) (n : ℕ) :
    (held d M fullShare v : sProp 𝕄) ⊣⊢ iprop(held d M (Transfers.shareDrop fullShare n) v ∗ bigSep Finset.univ fun o : Fin n => held d M (Transfers.shareTok fullShare n o) v) := by
  unfold held; exact Transfers.pointsTo_toks fullShare n

/-- The quantised matrix, from the rows of the maxima. -/
def quant (a : F .f32) (r : Dev nD → S8x128.Idx → Elt F .f32) (y : S4096x128.Idx → Elt F .f32) : S4096x128.Idx → Elt F .f32 :=
  k0_pay1 (k0_pay62 a (rowsOf r)) (k0_pay63 a (rowsOf r)) y

/-- The rows after the exchange: the device's own and those of the others. -/
theorem rows_back (d : Dev nD) : iprop(held d (rowRef d) fullShare zeroRow
      ∗ bigSep Finset.univ fun o => held d (rowRef (away d o)) fullShare (maxBlock xs ws (away d o)))
    ⊢ (held d (Memref.whole cc0_scratch14) fullShare (rowsOf (rowAt xs ws d)) : sProp 𝕄) := by
  have h0 : rowAt xs ws d d = zeroRow := if_pos rfl
  have h1 (o : Fin 15) : rowAt xs ws d (away d o) = maxBlock xs ws (away d o) := if_neg (away_ne d o)
  rw [rows_eq, bigSep_others d, h0, bigSep_congr fun o _ => show held d (rowRef (away d o)) fullShare (rowAt xs ws d (away d o)) = held d (rowRef (away d o)) fullShare (maxBlock xs ws (away d o))
    from congrArg _ (h1 o)]

set_option maxHeartbeats 1000000 in
theorem wp_closing (d : Dev nD) (y : S4096x128.Idx → Elt F .f32) {Q : PUnit → sProp 𝕄} :
    iprop(known (chunk xs) (maxBlock xs ws) ∗ heldAny d (Memref.whole cc0_scratch13) ∗ (bigSep Finset.univ fun o => opened (F := F) (away d o)) ∗ maxRights d
        ∗ held d (rowRef d) fullShare zeroRow ∗ held d (Memref.whole cc0_stg2_0) fullShare y ∗ Owes d (owedMax d dists))
      ⊢ iprop(((heldAny d (Memref.whole cc0_scratch13) ∗ heldAny d (Memref.whole cc0_scratch14)
            ∗ held d (Memref.whole cc0_stg2_0) fullShare (quant (maxUpTo xs ws d 15) (rowAt xs ws d) y)
            ∗ (bigSep Finset.univ fun o => semVal (mrCell d (away d o)) 0) ∗ (bigSep Finset.univ fun o => semVal (msCell d o) 0) ∗ Owes d 0) -∗ Wp d (.ret ⟨⟩) Q)
          -∗ Wp d (closing d (maxUpTo xs ws d 15)) Q) := by
  have hin : iprop((bigSep Finset.univ fun o => opened (F := F) (away d o)) ∗ (bigSep Finset.univ fun o => maxShare (maxBlock xs ws) d o) ∗ bigSep Finset.univ fun o => maxTok (F := F) d o)
      ⊢ bigSep Finset.univ fun o => iprop(opened (F := F) (away d o) ∗ maxShare (maxBlock xs ws) d o ∗ maxTok d o) := by
    rw [bigSep_sep', bigSep_sep']
  have hmid : iprop((bigSep Finset.univ fun o => (cred (tallyAt (msCell d o) 0 NM) : sProp 𝕄)) ∗ bigSep Finset.univ fun o => atPos ER (msCell d o) 0 ∅ 0)
      ⊢ bigSep Finset.univ fun o => iprop(cred (tallyAt (msCell d o) 0 NM) ∗ atPos ER (msCell d o) 0 ∅ 0) := by
    rw [bigSep_sep']
  unfold closing maxRights
  simp only [Prog.lift, Prog.bind_op, Prog.bind_ret, Prog.bind_assoc]
  iintro ⟨#HK, Hm, #Hop, ⟨Htok, Hwait, Hpos⟩, Hrow, Hy, HO⟩ Hk
  ihave Hm := (heldAny_iff d _) $$ Hm
  icases Hm with ⟨%vm, Hm⟩
  iapply (wp_loadAll d (Memref.whole cc0_scratch13) inb_S8x128_S8x128_0_0 fullShare vm) $$ Hm
  iintro Hm
  iapply (wp_storeAll d (Memref.whole cc0_scratch13) inb_S8x128_S8x128_0_0 vm (maxBlock xs ws d)) $$ Hm
  iintro Hm
  ihave Hm := (held_toks d (Memref.whole cc0_scratch13) (maxBlock xs ws d) 15).mp $$ Hm
  icases Hm with ⟨Hm, Hsh⟩
  iapply (wp_sends (chunk xs) (maxBlock xs ws) d) $$ [HO Hsh Htok]
  · isplitl [HO]
    · isplitr; · iexact HK
      iexact HO
    iapply hin
    isplitr; · iexact Hop
    isplitl [Hsh]; · unfold maxShare; iexact Hsh
    iexact Htok
  iintro ⟨⟨-, HO⟩, Hcr⟩
  iapply (wp_recvs (chunk xs) (maxBlock xs ws) d) $$ [HO Hwait]
  · isplitl [HO]
    · isplitr; · iexact HK
      iexact HO
    iexact Hwait
  iintro ⟨⟨-, HO⟩, Hrows⟩
  iapply (wp_drains (chunk xs) (maxBlock xs ws) d) $$ [HO Hcr Hpos]
  · isplitl [HO]
    · isplitr; · iexact HK
      iexact HO
    iapply hmid
    isplitl [Hcr]; · iexact Hcr
    iexact Hpos
  iintro ⟨⟨-, HO⟩, Hsh⟩
  ihave Hrows := (Entails.of_eq (bigSep_sep' _ _ _)) $$ Hrows
  icases Hrows with ⟨Hrows, Hz1⟩
  ihave Hsh := (Entails.of_eq (bigSep_sep' _ _ _)) $$ Hsh
  icases Hsh with ⟨Hsh, Hz2⟩
  ihave Hr := (rows_back xs ws d) $$ [Hrow Hrows]
  · isplitl [Hrow]; · iexact Hrow
    iexact Hrows
  iapply (wp_loadAll d (Memref.whole cc0_scratch14) inb_S16x8x128_S16x8x128_0_0_0 fullShare _) $$ Hr
  iintro Hr
  iapply (wp_loadAll d (Memref.whole cc0_stg2_0) inb_S4096x128_S4096x128_0_0 fullShare y) $$ Hy
  iintro Hy
  iapply (wp_loadAll d (Memref.whole cc0_stg2_0) inb_S4096x128_S4096x128_0_0 fullShare y) $$ Hy
  iintro Hy
  iapply (wp_storeAll d (Memref.whole cc0_stg2_0) inb_S4096x128_S4096x128_0_0 y (quant (maxUpTo xs ws d 15) (rowAt xs ws d) y)) $$ Hy
  iintro Hy
  iapply Hk
  isplitl [Hm Hsh]
  · iapply (held_any d (Memref.whole cc0_scratch13) (maxBlock xs ws d))
    iapply (held_toks d (Memref.whole cc0_scratch13) (maxBlock xs ws d) 15).mpr
    isplitl [Hm]; · iexact Hm
    unfold maxShare; iexact Hsh
  isplitl [Hr]; · iapply (held_any d (Memref.whole cc0_scratch14) _); iexact Hr
  isplitl [Hy]; · iexact Hy
  isplitl [Hz1]; · iexact Hz1
  isplitl [Hz2]; · iexact Hz2
  iexact HO

/-! ## The iterations in a row -/

/-- The state between iterations. -/
def ringState (v : S4096x128.Idx → Elt F .f32) (d : Dev nD) (j : ℕ) : sProp 𝕄 :=
  iprop(ring xs d j ∗ held d (Memref.whole cc0_stg2_0) fullShare (fill xs ws v d (2 * j + 1)) ∗ Owes d (owedMax d dists + owedRing d j))

/-- The largest magnitude between iterations. -/
def ringMax (d : Dev nD) (j : ℕ) : F .f32 := maxUpTo xs ws d (2 * j)

theorem wp_iterAt (v : S4096x128.Idx → Elt F .f32) (d : Dev nD) (j j' : ℕ) (hj : j < 7) (hj' : j + 1 = j') (r r' : Fin 15) (hr : r.val = 14 - j) (hr' : r'.val = j)
    {k : F .f32 → Prog (TpuEff nD τ sig (Elt F) Λ₀ .tc) PUnit} {Q : PUnit → sProp 𝕄} :
    iprop(known (chunk xs) (maxBlock xs ws) ∗ ringState xs ws v d j)
      ⊢ iprop((ringState xs ws v d j' -∗ Wp d (k (ringMax xs ws d j')) Q) -∗ Wp d (iter d (ws d) j r r' (ringMax xs ws d j) >>= k) Q) := by
  subst hj'
  have h1 : k0_off2 d (BitVec.ofNat 32 (1 + r.val)) = ![256 * (origin 0 j d).val, 0] := by rw [hr]; exact off2_odd d ⟨j, by omega⟩
  have h2 : k0_off2 d (BitVec.ofNat 32 (1 + r'.val)) = ![256 * (origin 2 j d).val, 0] := by rw [hr']; exact off2_even d ⟨j, hj⟩
  exact wp_iter xs ws (maxBlock xs ws) d j hj r r' h1 h2 v (owedMax d dists) (above_owedMax d _ (by omega) _)

/-! ## The body -/

/-- The scratch buffers of a device, whatever is in them. -/
def scratch (d : Dev nD) : sProp 𝕄 :=
  iprop(heldAny (F := F) d (Memref.whole cc0_scratch0) ∗ (heldAny d (bufRef 0) ∗ heldAny d (bufRef 1) ∗ heldAny d (bufRef 2) ∗ heldAny d (bufRef 3))
    ∗ heldAny d (Memref.whole cc0_scratch13) ∗ heldAny d (Memref.whole cc0_scratch14))

/-- The rights of a device when the kernel starts. -/
def rights (d : Dev nD) : sProp 𝕄 :=
  iprop(meeting (F := F) d ∗ (pipeStart d 0 ∗ pipeStart d 1 ∗ pipeStart d 2 ∗ pipeStart d 3) ∗ maxRights d
    ∗ (bigSep (Finset.univ.erase d) fun t => readerAt ES (.inr (d, t)) 0) ∗ atPos ER (mrCell d d) 0 ∅ 0)

/-- The semaphores of a pipe at zero. -/
def pipeZero (d : Dev nD) (p : Fin 4) : sProp 𝕄 :=
  iprop((bigSep Finset.univ fun s => iprop(semVal (rCell d p s) 0 ∗ semVal (sCell d p s) 0)) ∗ semVal (cCell d p) 0)

/-- All semaphores at zero. -/
def zeros (d : Dev nD) : sProp 𝕄 :=
  iprop(semVal (bCell d) 0 ∗ (pipeZero (F := F) d 0 ∗ pipeZero d 1 ∗ pipeZero d 2 ∗ pipeZero d 3)
    ∗ (semVal (mrCell d d) 0 ∗ bigSep Finset.univ fun o => semVal (mrCell d (away d o)) 0) ∗ bigSep Finset.univ fun o => semVal (msCell d o) 0)

/-- What a device owes when the kernel starts. -/
def owed₀ (d : Dev nD) : CellTallies nD τ sig ℕ :=
  owedMax d dists + owedStart d + tallyAt (bCell (right d)) 0 1 + tallyAt (bCell (left d)) 0 1

theorem above_start (d : Dev nD) : Above 1 (owedMax d dists + owedStart d) := by
  have h (p : Fin 4) : Above 1 (owedPipe d p 0 0) := above_owedPipe d p 1 0 0 (by decide) (by decide)
  exact (above_owedMax d 1 (by decide) _).add ((((h 0).add (h 1)).add (h 2)).add (h 3))

theorem opened_away (d : Dev nD) : iprop((bigSep (Finset.range (hops 0)) fun i => opened (F := F) (origin 0 i d)) ∗ bigSep (Finset.range (hops 2)) fun i => opened (F := F) (origin 2 i d))
    ⊢ bigSep Finset.univ fun o => opened (F := F) (away d o) := by
  refine bigSep_intro_persistent fun o _ => ?_
  rcases away_origin d o with ⟨i, h⟩ | ⟨i, h⟩
  · rw [h]
    exact sep_elim_left.trans (bigSep_elim (Φ := fun i => opened (F := F) (origin 0 i d)) (Finset.mem_range.mpr i.isLt))
  · rw [h]
    exact sep_elim_right.trans (bigSep_elim (Φ := fun i => opened (F := F) (origin 2 i d)) (Finset.mem_range.mpr i.isLt))

/-- The shares of the two halves put together. -/
theorem halves_back (d : Dev nD) : iprop((srcHeld (chunk xs) d 0 0 ∗ srcHeld (chunk xs) d 1 0 ∗ srcHeld (chunk xs) d 2 0 ∗ srcHeld (chunk xs) d 3 0)
      ∗ (held d (halfRef 0) fullShare.right (chunk xs d 0) ∗ held d (halfRef 1) fullShare.right (chunk xs d 1)))
    ⊢ (heldAny d (Memref.whole cc0_scratch0) : sProp 𝕄) := by
  rw [src_0, src_1, src_2, src_3]
  iintro ⟨⟨H0, H1, H2, H3⟩, Hr0, Hr1⟩
  iapply (halves_chunk d)
  isplitl [H0 H2 Hr0]
  · iapply (held_any d (halfRef 0) (chunk xs d 0))
    iapply (half_shares d 0 _).mpr
    isplitr [Hr0]
    · isplitl [H0]; · iexact H0
      iexact H2
    iexact Hr0
  · iapply (held_any d (halfRef 1) (chunk xs d 1))
    iapply (half_shares d 1 _).mpr
    isplitr [Hr1]
    · isplitl [H1]; · iexact H1
      iexact H3
    iexact Hr1

set_option maxHeartbeats 2000000 in
theorem wp_body (d : Dev nD) (v : S4096x128.Idx → Elt F .f32) {Q : PUnit → sProp 𝕄} :
    iprop(known (chunk xs) (maxBlock xs ws) ∗ rights d ∗ scratch d ∗ held d (Memref.whole cc0_stg0_0) fullShare (xs d)
        ∗ held d (Memref.whole cc0_stg1_0) fullShare (ws d) ∗ held d (Memref.whole cc0_stg2_0) fullShare v ∗ Owes d (owed₀ d))
      ⊢ iprop(((zeros d ∗ scratch d ∗ held d (Memref.whole cc0_stg0_0) fullShare (xs d)
            ∗ held d (Memref.whole cc0_stg1_0) fullShare (ws d) ∗ held d (Memref.whole cc0_stg2_0) fullShare (result xs ws d) ∗ Owes d 0) -∗ Wp d (.ret ⟨⟩) Q)
          -∗ Wp d body Q) := by
  have hres : quant (maxUpTo xs ws d 15) (rowAt xs ws d) (fill xs ws v d 16) = result xs ws d := by
    unfold quant result whole; rw [fill_all xs ws v]
  have hcb := close_cell (chunk xs) (maxBlock xs ws) d (.reg barrier0) _ csem_b 1 (fun r hr => duties_b_later (chunk xs) (maxBlock xs ws) d r hr)
  have hcm := close_cell (chunk xs) (maxBlock xs ws) d (.dma (rowSem d)) _ (csem_mr d) 0 (fun r _ => duties_mr_own (chunk xs) (maxBlock xs ws) d r)
  unfold body rights scratch owed₀
  simp only [Prog.lift, Prog.bind_op, Prog.bind_ret, wp_deviceId]
  iintro ⟨#HK, ⟨Hmeet, Hps, Hmr, Hrd, Hmo⟩, ⟨Hx, Hb, Hm, Ha⟩, Hs0, Hs1, Hy, HO⟩ Hk
  iapply (wp_opening xs ws (maxBlock xs ws) d (owedMax d dists + owedStart d) (above_start d)) $$ [Hmeet Hx Hb Ha Hs0 Hs1 HO]
  · isplitr; · iexact HK
    isplitl [Hmeet]; · iexact Hmeet
    isplitl [Hb]; · iexact Hb
    isplitl [Hx]; · iexact Hx
    isplitl [Ha]; · iexact Ha
    isplitl [Hs0]; · iexact Hs0
    isplitl [Hs1]; · iexact Hs1
    iexact HO
  iintro ⟨Hat, Hsl, Hh, Ha, Hs0, Hs1, HO⟩
  imod (open_rows (maxBlock xs ws) (chunk xs) d) $$ [Ha Hrd] with ⟨Hrow, #Hop⟩
  · isplitr; · iexact HK
    isplitl [Ha]; · iexact Ha
    iexact Hrd
  iapply (wp_ownBlock xs ws (maxBlock xs ws) d v (owedMax d dists)) $$ [Hps Hsl Hh Hy HO]
  · isplitr; · iexact HK
    isplitl [Hps]; · iexact Hps
    isplitl [Hsl]; · iexact Hsl
    isplitl [Hh]; · iexact Hh
    isplitr; · iexact Hop
    isplitl [Hy]; · iexact Hy
    iexact HO
  iintro ⟨Hring, Hr, Hy, HO⟩
  ihave Hst := (show iprop(ring xs d 0 ∗ held d (Memref.whole cc0_stg2_0) fullShare (fill xs ws v d 1) ∗ Owes d (owedMax d dists + owedRing d 0)) ⊢ ringState xs ws v d 0
    from Entails.rfl) $$ [Hring Hy HO]
  · isplitl [Hring]; · iexact Hring
    isplitl [Hy]; · iexact Hy
    iexact HO
  rw [show maxUpTo xs ws d 0 = ringMax xs ws d 0 from rfl]
  iapply (wp_iterAt xs ws v d 0 1 (by decide) rfl 14 0 rfl rfl) $$ [Hst]
  · isplitr; · iexact HK
    iexact Hst
  iintro Hst
  iapply (wp_iterAt xs ws v d 1 2 (by decide) rfl 13 1 rfl rfl) $$ [Hst]
  · isplitr; · iexact HK
    iexact Hst
  iintro Hst
  iapply (wp_iterAt xs ws v d 2 3 (by decide) rfl 12 2 rfl rfl) $$ [Hst]
  · isplitr; · iexact HK
    iexact Hst
  iintro Hst
  iapply (wp_iterAt xs ws v d 3 4 (by decide) rfl 11 3 rfl rfl) $$ [Hst]
  · isplitr; · iexact HK
    iexact Hst
  iintro Hst
  iapply (wp_iterAt xs ws v d 4 5 (by decide) rfl 10 4 rfl rfl) $$ [Hst]
  · isplitr; · iexact HK
    iexact Hst
  iintro Hst
  iapply (wp_iterAt xs ws v d 5 6 (by decide) rfl 9 5 rfl rfl) $$ [Hst]
  · isplitr; · iexact HK
    iexact Hst
  iintro Hst
  iapply (wp_iterAt xs ws v d 6 7 (by decide) rfl 8 6 rfl rfl) $$ [Hst]
  · isplitr; · iexact HK
    iexact Hst
  iintro Hst
  ihave Hst := (show ringState xs ws v d 7 ⊢ iprop(ring xs d 7 ∗ held d (Memref.whole cc0_stg2_0) fullShare (fill xs ws v d 15) ∗ Owes d (owedMax d dists + owedRing d 7))
    from Entails.rfl) $$ Hst
  rw [show ringMax xs ws d 7 = maxUpTo xs ws d 14 from rfl]
  iapply (wp_lastIter xs ws (maxBlock xs ws) d v (owedMax d dists) (above_owedMax d 32 (by decide) _)) $$ [Hst]
  · isplitr; · iexact HK
    iexact Hst
  iintro ⟨H0, H1, H2, H3, Hy, HO⟩
  imod (pipe_end (chunk xs) (maxBlock xs ws) d 0) $$ [H0] with H0
  · isplitr; · iexact HK
    iexact H0
  imod (pipe_end (chunk xs) (maxBlock xs ws) d 1) $$ [H1] with H1
  · isplitr; · iexact HK
    iexact H1
  imod (pipe_end (chunk xs) (maxBlock xs ws) d 2) $$ [H2] with H2
  · isplitr; · iexact HK
    iexact H2
  imod (pipe_end (chunk xs) (maxBlock xs ws) d 3) $$ [H3] with H3
  · isplitr; · iexact HK
    iexact H3
  unfold pipeEnd
  icases H0 with ⟨Hb0, Hl0, #Ho0, Hz0⟩
  icases H1 with ⟨Hb1, Hl1, -, Hz1⟩
  icases H2 with ⟨Hb2, Hl2, #Ho2, Hz2⟩
  icases H3 with ⟨Hb3, Hl3, -, Hz3⟩
  imod hcb $$ [Hat] with Hzb
  · isplitr; · iexact HK
    iexact Hat
  imod hcm $$ [Hmo] with Hzm
  · isplitr; · iexact HK
    iexact Hmo
  ihave #Hopa := (opened_away d) $$ []
  · isplitr; · iexact Ho0
    iexact Ho2
  iapply (wp_closing xs ws d (fill xs ws v d 16)) $$ [Hm Hmr Hrow Hy HO]
  · isplitr; · iexact HK
    isplitl [Hm]; · iexact Hm
    isplitr; · iexact Hopa
    isplitl [Hmr]; · iexact Hmr
    isplitl [Hrow]; · iexact Hrow
    isplitl [Hy]; · iexact Hy
    iexact HO
  rw [hres]
  iintro ⟨Hm, Ha, Hy, Hzr, Hzs, HO⟩
  iapply Hk
  isplitl [Hz0 Hz1 Hz2 Hz3 Hzb Hzm Hzr Hzs]
  · unfold zeros pipeZero
    isplitl [Hzb]; · iexact Hzb
    isplitl [Hz0 Hz1 Hz2 Hz3]
    · isplitl [Hz0]; · iexact Hz0
      isplitl [Hz1]; · iexact Hz1
      isplitl [Hz2]; · iexact Hz2
      iexact Hz3
    isplitl [Hzm Hzr]
    · isplitl [Hzm]; · iexact Hzm
      iexact Hzr
    iexact Hzs
  isplitl [Hb0 Hb1 Hb2 Hb3 Hl0 Hl1 Hl2 Hl3 Hr Hm Ha]
  · isplitl [Hl0 Hl1 Hl2 Hl3 Hr]
    · iapply (halves_back xs d)
      isplitr [Hr]
      · isplitl [Hl0]; · iexact Hl0
        isplitl [Hl1]; · iexact Hl1
        isplitl [Hl2]; · iexact Hl2
        iexact Hl3
      iexact Hr
    isplitl [Hb0 Hb1 Hb2 Hb3]
    · isplitl [Hb0]; · iapply (slots_pipe 0 d); iexact Hb0
      isplitl [Hb1]; · iapply (slots_pipe 1 d); iexact Hb1
      isplitl [Hb2]; · iapply (slots_pipe 2 d); iexact Hb2
      iapply (slots_pipe 3 d); iexact Hb3
    isplitl [Hm]; · iexact Hm
    iexact Ha
  isplitl [Hs0]; · iexact Hs0
  isplitl [Hs1]; · iexact Hs1
  isplitl [Hy]; · iexact Hy
  iexact HO

end

end Cert.KernelIdeal.Proof

end
-- ==== Proof.Ideal.Deal.lean ====
/- The launch's resources dealt out: from the tokens, positions and credits of all devices to what each device's
   body starts with. -/
module

public import proofs.«01_k».proof.Proof.Ideal.Body

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section

/-! ## Rearranging separating conjunctions -/

theorem bigSep_pick {I J : Type} [DecidableEq I] [DecidableEq J] (s : Finset I) (t : Finset J) (f : I → J) (hf : Set.InjOn f s) (hm : ∀ i ∈ s, f i ∈ t)
    (Φ : J → sProp 𝕄) : bigSep t Φ ⊢ bigSep s fun i => Φ (f i) :=
  (bigSep_subset (t := s.image f) (Finset.image_subset_iff.mpr hm)).trans (Entails.of_eq (bigSep_image_of_injOn hf Φ))

theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl

theorem bigSep_product {I J : Type} [DecidableEq I] [DecidableEq J] (s : Finset I) (t : Finset J) (Φ : I × J → sProp 𝕄) :
    bigSep (s ×ˢ t) Φ = bigSep s fun i => bigSep t fun j => Φ (i, j) := by
  rw [show s ×ˢ t = (s.sigma fun _ => t).map (Equiv.sigmaEquivProd I J).toEmbedding from by
    ext x; simp [Equiv.sigmaEquivProd], bigSep_map, Pipeline.bigSep_sigma]
  rfl

/-- One step along a pipe, and one back. -/
def pipeEquiv (p : Fin 4) : Dev nD ≃ Dev nD := ⟨down p, up p, up_down p, down_up p⟩
/-- One step along the ring. -/
def rightEquiv : Dev nD ≃ Dev nD := ⟨right, left, left_right, right_left⟩

theorem move_down (Φ : Fin 4 → Dev nD → sProp 𝕄) :
    (bigSep Finset.univ fun d => bigSep Finset.univ fun p => Φ p d) = bigSep Finset.univ fun d => bigSep Finset.univ fun p => Φ p (down p d) := by
  rw [bigSep_swap, bigSep_swap (fun d p => Φ p (down p d))]
  exact bigSep_congr fun p _ => bigSep_univ_equiv (pipeEquiv p) (Φ p)

theorem move_up (Φ : Fin 4 → Dev nD → sProp 𝕄) :
    (bigSep Finset.univ fun d => bigSep Finset.univ fun p => Φ p d) = bigSep Finset.univ fun d => bigSep Finset.univ fun p => Φ p (up p d) := by
  rw [bigSep_swap, bigSep_swap (fun d p => Φ p (up p d))]
  exact bigSep_congr fun p _ => bigSep_univ_equiv (pipeEquiv p).symm (Φ p)

/-- Given to the device named first, wanted by the device named second. -/
theorem move_away (Φ : Dev nD → Dev nD → sProp 𝕄) :
    (bigSep Finset.univ fun e => bigSep Finset.univ fun d => Φ e d) ⊢ bigSep Finset.univ fun d => bigSep Finset.univ fun o : Fin 15 => Φ (away d o) d := by
  rw [bigSep_swap]
  have h (d : Dev nD) : (bigSep Finset.univ fun e => Φ e d) ⊢ bigSep Finset.univ fun o : Fin 15 => Φ (away d o) d := by
    rw [bigSep_others d fun e => Φ e d]
    iintro ⟨-, H⟩
    iexact H
  exact bigSep_mono fun d _ => h d

/-! ## The semaphores by their use -/

/-- The uses of a device's semaphores, -/
abbrev Use : Type := Fin 4 ⊕ Unit ⊕ (Fin 4 × Fin 4) ⊕ (Fin 4 × Fin 4) ⊕ Fin 15 ⊕ Fin 16
/-- and where each is counted. -/
def useIx : Use → Fin 68
  | .inl p => ⟨p.val, by omega⟩
  | .inr (.inl _) => 4
  | .inr (.inr (.inl x)) => ⟨5 + 8 * x.1.val + x.2.val, by omega⟩
  | .inr (.inr (.inr (.inl x))) => ⟨9 + 8 * x.1.val + x.2.val, by omega⟩
  | .inr (.inr (.inr (.inr (.inl o)))) => ⟨37 + o.val, by omega⟩
  | .inr (.inr (.inr (.inr (.inr e)))) => ⟨52 + e.val, by omega⟩

theorem useIx_bijective : Function.Bijective useIx :=
  (Fintype.bijective_iff_injective_and_card useIx).mpr ⟨by decide +kernel, by decide +kernel⟩

theorem bigSep_csem (Ψ : SemLoc sig → sProp 𝕄) :
    (bigSep Finset.univ fun i : Fin 68 => Ψ (csem i))
      = iprop((bigSep Finset.univ fun p => Ψ (.reg (creditSem p))) ∗ Ψ (.reg barrier0)
        ∗ (bigSep Finset.univ fun p => bigSep Finset.univ fun s => Ψ (.dma (semAt (sendSems p) s)))
        ∗ (bigSep Finset.univ fun p => bigSep Finset.univ fun s => Ψ (.dma (semAt (recvSems p) s)))
        ∗ (bigSep Finset.univ fun o => Ψ (.dma (maxSendSem o))) ∗ bigSep Finset.univ fun e : Dev nD => Ψ (.dma (rowSem e))) := by
  rw [bigSep_univ_equiv (Equiv.ofBijective useIx useIx_bijective), bigSep_univ_sum, bigSep_univ_sum, bigSep_univ_sum, bigSep_univ_sum, bigSep_univ_sum,
    bigSep_univ_prod, bigSep_univ_prod]
  have h1 : (bigSep Finset.univ fun p : Fin 4 => Ψ (csem ⟨p.val, by omega⟩)) = bigSep Finset.univ fun p => Ψ (.reg (creditSem p)) :=
    bigSep_congr fun p _ => by rw [csem_c]
  have h3 : (bigSep Finset.univ fun p : Fin 4 => bigSep Finset.univ fun s : Fin 4 => Ψ (csem ⟨5 + 8 * p.val + s.val, by omega⟩))
      = bigSep Finset.univ fun p => bigSep Finset.univ fun s => Ψ (.dma (semAt (sendSems p) s)) :=
    bigSep_congr fun p _ => bigSep_congr fun s _ => by rw [csem_s]
  have h4 : (bigSep Finset.univ fun p : Fin 4 => bigSep Finset.univ fun s : Fin 4 => Ψ (csem ⟨9 + 8 * p.val + s.val, by omega⟩))
      = bigSep Finset.univ fun p => bigSep Finset.univ fun s => Ψ (.dma (semAt (recvSems p) s)) :=
    bigSep_congr fun p _ => bigSep_congr fun s _ => by rw [csem_r]
  have h5 : (bigSep Finset.univ fun o : Fin 15 => Ψ (csem ⟨37 + o.val, by omega⟩)) = bigSep Finset.univ fun o => Ψ (.dma (maxSendSem o)) :=
    bigSep_congr fun o _ => by rw [csem_ms]
  have h6 : (bigSep Finset.univ fun e : Dev nD => Ψ (csem ⟨52 + e.val, by have : e.val < 16 := e.isLt; omega⟩)) = bigSep Finset.univ fun e : Dev nD => Ψ (.dma (rowSem e)) :=
    bigSep_congr fun e _ => by rw [csem_mr]
  have h2 : (bigSep Finset.univ fun _ : Unit => Ψ (csem 4)) = Ψ (.reg barrier0) := by
    rw [csem_b]; exact bigSep_singleton
  rw [← h1, ← h2, ← h3, ← h4, ← h5, ← h6]
  rfl

/-! ## The tokens -/

/-- The tokens minted for one cell. -/
def minted (g : GSem nD τ sig) : sProp 𝕄 := bigSep (Finset.range 2 ×ˢ Finset.range 4) fun x => dutyTok ER g x.1 x.2

theorem minted_one (g : GSem nD τ sig) : minted (F := F) g ⊢ dutyTok ER g 0 0 :=
  bigSep_elim (Φ := fun x : ℕ × ℕ => (dutyTok ER g x.1 x.2 : sProp 𝕄)) (i := (0, 0)) (by decide)

theorem minted_two (g : GSem nD τ sig) : minted (F := F) g ⊢ iprop(dutyTok ER g 0 0 ∗ dutyTok ER g 0 1) := by
  refine (bigSep_pick (Finset.univ : Finset (Fin 2)) _ (fun b => ((0 : ℕ), b.val)) (fun a _ b _ h => Fin.ext (congrArg Prod.snd h)) (by decide)
    (fun x => dutyTok ER g x.1 x.2)).trans ?_
  rw [bigSep_two]
  exact Entails.refl _

theorem minted_credits (g : GSem nD τ sig) (p : Fin 4) : minted (F := F) g ⊢ bigSep (Finset.Ico 0 (hops p - 4)) fun k => dutyTok ER g 0 k := by
  have := hops_le p
  exact bigSep_pick _ _ (fun k => ((0 : ℕ), k)) (fun a _ b _ h => congrArg Prod.snd h)
    (fun k hk => by rw [Finset.mem_Ico] at hk; simp only [Finset.mem_product, Finset.mem_range]; omega) (fun x => dutyTok ER g x.1 x.2)

theorem minted_slots (c : Fin 4 → GSem nD τ sig) (p : Fin 4) : (bigSep Finset.univ fun s => minted (F := F) (c s))
    ⊢ bigSep (Finset.Ico 0 (hops p)) fun i => dutyTok ER (c (slotOf i)) (i / 4) 0 := by
  have := hops_le p
  unfold minted
  rw [← bigSep_product Finset.univ (Finset.range 2 ×ˢ Finset.range 4) (fun x => dutyTok ER (c x.1) x.2.1 x.2.2)]
  refine bigSep_pick _ _ (fun i => (slotOf i, i / 4, 0)) (fun a _ b _ h => ?_) (fun i hi => ?_) (fun x => dutyTok ER (c x.1) x.2.1 x.2.2)
  · have h1 : a % 4 = b % 4 := congrArg (fun x : Fin 4 × ℕ × ℕ => x.1.val) h
    have h2 : a / 4 = b / 4 := congrArg (fun x : Fin 4 × ℕ × ℕ => x.2.1) h
    omega
  · rw [Finset.mem_Ico] at hi
    simp only [Finset.mem_product, Finset.mem_range, Finset.mem_univ, true_and]
    omega

/-- The tokens of the raises device `d` makes. -/
def payTok (d : Dev nD) : sProp 𝕄 :=
  iprop(dutyTok ER (bCell (left d)) 0 0 ∗ dutyTok ER (bCell (right d)) 0 1
    ∗ (bigSep Finset.univ fun p => bigSep (Finset.Ico 0 (hops p)) fun i => dutyTok ER (sCell d p (slotOf i)) (i / 4) 0)
    ∗ (bigSep Finset.univ fun p => bigSep (Finset.Ico 0 (hops p)) fun i => dutyTok ER (rCell (down p d) p (slotOf i)) (i / 4) 0)
    ∗ (bigSep Finset.univ fun p => bigSep (Finset.Ico 0 (hops p - 4)) fun k => dutyTok ER (cCell (up p d) p) 0 k)
    ∗ (bigSep Finset.univ fun o => dutyTok ER (msCell d o) 0 0) ∗ bigSep Finset.univ fun o => dutyTok ER (mrCell (away d o) d) 0 0)

/-- The same tokens at the cells of device `d`. -/
def ownTok (d : Dev nD) : sProp 𝕄 :=
  iprop((dutyTok ER (bCell d) 0 0 ∗ dutyTok ER (bCell d) 0 1)
    ∗ (bigSep Finset.univ fun p => bigSep (Finset.Ico 0 (hops p)) fun i => dutyTok ER (sCell d p (slotOf i)) (i / 4) 0)
    ∗ (bigSep Finset.univ fun p => bigSep (Finset.Ico 0 (hops p)) fun i => dutyTok ER (rCell d p (slotOf i)) (i / 4) 0)
    ∗ (bigSep Finset.univ fun p => bigSep (Finset.Ico 0 (hops p - 4)) fun k => dutyTok ER (cCell d p) 0 k)
    ∗ (bigSep Finset.univ fun o => dutyTok ER (msCell d o) 0 0) ∗ bigSep Finset.univ fun e => dutyTok ER (mrCell d e) 0 0)

theorem own_toks (d : Dev nD) : (bigSep Finset.univ fun i : Fin 68 => minted (F := F) (kCell (d, i))) ⊢ ownTok d := by
  rw [show (bigSep Finset.univ fun i : Fin 68 => minted (F := F) (kCell (d, i))) = _ from bigSep_csem (fun sm => minted (F := F) ((d : Thread nD τ), sm))]
  unfold ownTok
  have hs : (bigSep Finset.univ fun p => bigSep Finset.univ fun s => minted (F := F) (sCell d p s))
      ⊢ bigSep Finset.univ fun p => bigSep (Finset.Ico 0 (hops p)) fun i => dutyTok ER (sCell d p (slotOf i)) (i / 4) 0 :=
    bigSep_mono fun p _ => minted_slots (fun s => sCell d p s) p
  have hr : (bigSep Finset.univ fun p => bigSep Finset.univ fun s => minted (F := F) (rCell d p s))
      ⊢ bigSep Finset.univ fun p => bigSep (Finset.Ico 0 (hops p)) fun i => dutyTok ER (rCell d p (slotOf i)) (i / 4) 0 :=
    bigSep_mono fun p _ => minted_slots (fun s => rCell d p s) p
  have hc : (bigSep Finset.univ fun p => minted (F := F) (cCell d p))
      ⊢ bigSep Finset.univ fun p => bigSep (Finset.Ico 0 (hops p - 4)) fun k => dutyTok ER (cCell d p) 0 k :=
    bigSep_mono fun p _ => minted_credits (cCell d p) p
  have hms : (bigSep Finset.univ fun o => minted (F := F) (msCell d o)) ⊢ bigSep Finset.univ fun o => dutyTok ER (msCell d o) 0 0 :=
    bigSep_mono fun o _ => minted_one (msCell d o)
  have hmr : (bigSep Finset.univ fun e => minted (F := F) (mrCell d e)) ⊢ bigSep Finset.univ fun e => dutyTok ER (mrCell d e) 0 0 :=
    bigSep_mono fun e _ => minted_one (mrCell d e)
  iintro ⟨Hc, Hb, Hs, Hr, Hms, Hmr⟩
  isplitl [Hb]; · iapply (minted_two (F := F) (bCell d)); iexact Hb
  isplitl [Hs]; · iapply hs; iexact Hs
  isplitl [Hr]; · iapply hr; iexact Hr
  isplitl [Hc]; · iapply hc; iexact Hc
  isplitl [Hms]; · iapply hms; iexact Hms
  iapply hmr; iexact Hmr

theorem deal_toks : (bigSep Finset.univ fun d => ownTok (F := F) d) ⊢ bigSep Finset.univ fun d => payTok (F := F) d := by
  unfold ownTok payTok
  simp only [bigSep_sep']
  rw [bigSep_univ_equiv rightEquiv.symm (fun d : Dev nD => (dutyTok ER (bCell d) 0 0 : sProp 𝕄)),
    bigSep_univ_equiv rightEquiv (fun d : Dev nD => (dutyTok ER (bCell d) 0 1 : sProp 𝕄)),
    move_down (fun p d => bigSep (Finset.Ico 0 (hops p)) fun i => (dutyTok ER (rCell d p (slotOf i)) (i / 4) 0 : sProp 𝕄)),
    move_up (fun p d => bigSep (Finset.Ico 0 (hops p - 4)) fun k => (dutyTok ER (cCell d p) 0 k : sProp 𝕄))]
  iintro ⟨⟨H1, H2⟩, Hs, Hr, Hc, Hms, Hmr⟩
  isplitl [H1]; · iexact H1
  isplitl [H2]; · iexact H2
  isplitl [Hs]; · iexact Hs
  isplitl [Hr]; · iexact Hr
  isplitl [Hc]; · iexact Hc
  isplitl [Hms]; · iexact Hms
  iapply (move_away fun e d => (dutyTok ER (mrCell e d) 0 0 : sProp 𝕄))
  iexact Hmr

/-! ## The slots -/

/-- The turns to write of device `d`. -/
def writers (d : Dev nD) : sProp 𝕄 :=
  iprop((bigSep Finset.univ fun p => bigSep (Finset.Ico 0 (hops p - 4)) fun k => writeTok ES (.inl (down p d, p, slotOf k)) 1)
    ∗ bigSep Finset.univ fun o => writeTok ES (.inr (away d o, d)) 1)

/-- The slots device `d` reads. -/
def readers (d : Dev nD) : sProp 𝕄 :=
  iprop((bigSep Finset.univ fun p => bigSep (Finset.Ico 0 (hops p - 4)) fun k => readerAt ES (.inl (d, p, slotOf k)) 0)
    ∗ bigSep (Finset.univ.erase d) fun t => readerAt ES (.inr (d, t)) 0)

theorem pick_slots (p : Fin 4) (Φ : Fin 4 → sProp 𝕄) : bigSep Finset.univ Φ ⊢ bigSep (Finset.Ico 0 (hops p - 4)) fun k => Φ (slotOf k) := by
  have := hops_le p
  refine bigSep_pick _ _ slotOf (fun a ha b hb h => ?_) (fun _ _ => Finset.mem_univ _) Φ
  rw [Finset.coe_Ico, Set.mem_Ico] at ha hb
  have h1 : a % 4 = b % 4 := congrArg Fin.val h
  omega

theorem by_key (Φ : Key → sProp 𝕄) : bigSep Finset.univ Φ
    = iprop((bigSep Finset.univ fun d => bigSep Finset.univ fun p => bigSep Finset.univ fun s => Φ (.inl (d, p, s)))
      ∗ bigSep Finset.univ fun e => bigSep Finset.univ fun t => Φ (.inr (e, t))) := by
  rw [bigSep_univ_sum, bigSep_univ_prod, bigSep_univ_prod, bigSep_congr fun (d : Dev nD) _ => bigSep_univ_prod fun x : Fin 4 × Fin 4 => Φ (.inl (d, x))]
  rfl

theorem deal_writers : (bigSep Finset.univ fun k : Key => (writeTok ES k 1 : sProp 𝕄)) ⊢ bigSep Finset.univ fun d => writers (F := F) d := by
  unfold writers
  rw [by_key, bigSep_sep', move_down (fun p d => bigSep Finset.univ fun s => (writeTok ES (.inl (d, p, s)) 1 : sProp 𝕄))]
  exact BIClass.sep_mono (bigSep_mono fun d _ => bigSep_mono fun p _ => pick_slots p fun s => writeTok ES (.inl (down p d, p, s)) 1)
    (move_away fun e d => writeTok ES (.inr (e, d)) 1)

theorem deal_readers : (bigSep Finset.univ fun k : Key => (readerAt ES k 0 : sProp 𝕄)) ⊢ bigSep Finset.univ fun d => readers (F := F) d := by
  unfold readers
  rw [by_key, bigSep_sep']
  exact BIClass.sep_mono (bigSep_mono fun d _ => bigSep_mono fun p _ => pick_slots p fun s => readerAt ES (.inl (d, p, s)) 0)
    (bigSep_mono fun d _ => bigSep_subset (Finset.erase_subset _ _))

/-! ## The credits -/

/-- The units device `d` will wait for. -/
def creds (d : Dev nD) : sProp 𝕄 :=
  iprop(cred (tallyAt (bCell d) 0 2)
    ∗ (bigSep Finset.univ fun p => iprop((bigSep (Finset.Ico 0 (hops p)) fun i => recvTok (F := F) d p i)
        ∗ bigSep (Finset.Ico 0 (hops p - 4)) fun k => cred (tallyAt (cCell d p) k 1)))
    ∗ bigSep Finset.univ fun o => cred (tallyAt (mrCell d (away d o)) 0 NM))

theorem launch_pipe (p : Fin 4) (d : Dev nD) : (Pipeline.launchCred (fun d => owedPipe d p 0 0) d : sProp 𝕄)
    ⊢ iprop((bigSep (Finset.Ico 0 (hops p)) fun i => recvTok (F := F) d p i) ∗ bigSep (Finset.Ico 0 (hops p - 4)) fun k => cred (tallyAt (cCell d p) k 1)) := by
  rw [show (fun d => owedPipe d p 0 0) = fun d => (fun d => ∑ i ∈ Finset.Ico 0 (hops p), (fun i d => tallyAt (rCell (down p d) p (slotOf i)) i N) i d) d
      + (fun d => ∑ k ∈ Finset.Ico 0 (hops p - 4), (fun k d => tallyAt (cCell (up p d) p) k 1) k d) d from rfl,
    Pipeline.launchCred_add, Pipeline.launchCred_sum, Pipeline.launchCred_sum]
  exact BIClass.sep_mono (bigSep_mono fun i _ => Pipeline.launchCred_tallyAt (.dma (semAt (recvSems p) (slotOf i))) (down p) (up p) (down_up p) (up_down p) i N d)
    (bigSep_mono fun k _ => Pipeline.launchCred_tallyAt (.reg (creditSem p)) (up p) (down p) (up_down p) (down_up p) k 1 d)

theorem sum_dists {M : Type} [AddCommMonoid M] (f : Fin 15 → M) : ∑ o, f o = (dists.map f).sum := by
  rw [← Fin.sum_ofFn]; rfl

theorem owedMax_sum (d : Dev nD) : owedMax d dists = ∑ o, tallyAt (mrCell (away d o) d) 0 NM := by
  have h : ∀ l : List (Fin 15), owedMax d l = (l.map fun o => tallyAt (mrCell (away d o) d) 0 NM).sum := by
    intro l
    induction l with
    | nil => rfl
    | cons o l ih => rw [List.map_cons, List.sum_cons, ← ih, add_comm]; rfl
  rw [h, sum_dists]

theorem sum_away {M : Type} [AddCommMonoid M] (d : Dev nD) (f : Dev nD → M) : ∑ o, f (away d o) = ∑ e ∈ Finset.univ.erase d, f e := by
  rw [others_image, Finset.sum_image fun a _ b _ h => away_inj d h]

theorem sum_swap {M : Type} [AddCommMonoid M] (f : Dev nD → Dev nD → M) : ∑ d, ∑ o, f (away d o) d = ∑ d, ∑ o, f d (away d o) := by
  rw [Finset.sum_congr rfl fun d _ => sum_away d fun e => f e d, Finset.sum_congr rfl fun d _ => sum_away d fun e => f d e]
  exact Finset.sum_comm' fun x y => by simp only [Finset.mem_univ, Finset.mem_erase, true_and, and_true]; exact ne_comm

theorem launch_max (d : Dev nD) : (Pipeline.launchCred (fun d => owedMax d dists) d : sProp 𝕄)
    ⊢ bigSep Finset.univ fun o => cred (tallyAt (mrCell d (away d o)) 0 NM) := by
  rw [Pipeline.launchCred_of_sum (fun d => owedMax d dists) (fun d => ∑ o, tallyAt (mrCell d (away d o)) 0 NM)
    ((Finset.sum_congr rfl fun d _ => owedMax_sum d).trans (sum_swap fun a b => tallyAt (mrCell a b) 0 NM))
    (fun d g hg => by
      by_contra h
      refine hg ?_
      rw [Finset.sum_apply]
      exact Finset.sum_eq_zero fun o _ => tallyAt_ne_cell (g := mrCell d (away d o)) (g' := g) (fun h' => h (congrArg Prod.fst h')) 0 NM) d, Pipeline.cred_finsetSum]

theorem launch_all (d : Dev nD) : (Pipeline.launchCred owed₀ d : sProp 𝕄) ⊢ creds d := by
  have hb : iprop(cred (tallyAt (bCell d) 0 1) ∗ cred (tallyAt (bCell d) 0 1)) ⊢ (cred (tallyAt (bCell d) 0 2) : sProp 𝕄) := by
    rw [show tallyAt (bCell d) 0 2 = tallyAt (bCell d) 0 1 + tallyAt (bCell d) 0 1 from (tallyAt_add (bCell d) 0 1 1).symm]
    exact (cred_add _ _).2
  rw [show owed₀ = fun d => (fun d => (fun d => (fun d => owedMax d dists) d
        + (fun d => (fun d => (fun d => (fun d => owedPipe d 0 0 0) d + (fun d => owedPipe d 1 0 0) d) d + (fun d => owedPipe d 2 0 0) d) d + (fun d => owedPipe d 3 0 0) d) d) d
        + (fun d => tallyAt (bCell (right d)) 0 1) d) d + (fun d => tallyAt (bCell (left d)) 0 1) d from rfl]
  simp only [Pipeline.launchCred_add]
  unfold creds
  rw [bigSep_four]
  iintro ⟨⟨⟨Hm, ⟨⟨⟨H0, H1⟩, H2⟩, H3⟩⟩, Hr⟩, Hl⟩
  isplitl [Hr Hl]
  · iapply hb
    isplitl [Hr]
    · iapply (Pipeline.launchCred_tallyAt (.reg barrier0) right left right_left left_right 0 1 d); iexact Hr
    iapply (Pipeline.launchCred_tallyAt (.reg barrier0) left right left_right right_left 0 1 d); iexact Hl
  isplitr [Hm]
  · isplitl [H0]; · iapply (launch_pipe 0 d); iexact H0
    isplitl [H1]; · iapply (launch_pipe 1 d); iexact H1
    isplitl [H2]; · iapply (launch_pipe 2 d); iexact H2
    iapply (launch_pipe 3 d); iexact H3
  iapply (launch_max d); iexact Hm

/-! ## What a device starts with -/

section Start

variable (X : Dev nD → Fin 2 → S256x2048.Idx → Elt F .bf16) (A : Dev nD → S8x128.Idx → Elt F .f32)

/-- The positions of device `d` at its cells. -/
def posits (d : Dev nD) : sProp 𝕄 := bigSep Finset.univ fun i : Fin 68 => atPos ER (kCell (d, i)) 0 ∅ 0

/-- What concerns a hop from the fifth on only, counted from there. -/
theorem bigSep_late (n : ℕ) (Ψ : ℕ → sProp 𝕄) : bigSep (Finset.Ico 0 (n - 4)) Ψ ⊢ bigSep (Finset.Ico 0 n) fun i => if i < 4 then iprop(emp) else Ψ (i - 4) := by
  have h : bigSep (Finset.Ico 0 n) (fun i => if i < 4 then iprop(emp) else Ψ (i - 4))
      = iprop(bigSep ((Finset.Ico 0 n).filter (· < 4)) (fun i => if i < 4 then iprop(emp) else Ψ (i - 4))
        ∗ bigSep ((Finset.Ico 0 n).filter fun i => ¬ i < 4) fun i => if i < 4 then iprop(emp) else Ψ (i - 4)) := BI.bigSep_filter_split _ _
  rw [h, bigSep_congr (s := (Finset.Ico 0 n).filter (· < 4)) (Ψ := fun _ => iprop(emp)) fun i hi => if_pos (Finset.mem_filter.mp hi).2,
    bigSep_congr (s := (Finset.Ico 0 n).filter fun i => ¬ i < 4) (Ψ := fun i => Ψ (i - 4)) fun i hi => if_neg (Finset.mem_filter.mp hi).2,
    show bigSep ((Finset.Ico 0 n).filter (· < 4)) (fun _ => (iprop(emp) : sProp 𝕄)) = iprop(emp) from BI.bigSep_emp_const _]
  have h2 : bigSep (Finset.Ico 0 (n - 4)) Ψ ⊢ bigSep ((Finset.Ico 0 n).filter fun i => ¬ i < 4) fun i => Ψ (i - 4) :=
    bigSep_pick _ _ (fun i => i - 4) (fun a ha b hb hab => by
        have h1 := (Finset.mem_filter.mp (Finset.mem_coe.mp ha)).2
        have h2 := (Finset.mem_filter.mp (Finset.mem_coe.mp hb)).2
        have hab' : a - 4 = b - 4 := hab
        omega)
      (fun i hi => by
        have h1 := Finset.mem_Ico.mp (Finset.mem_filter.mp hi).1
        have h2 := (Finset.mem_filter.mp hi).2
        rw [Finset.mem_Ico]; omega) Ψ
  iintro H
  isplitr; · iempintro
  iapply h2
  iexact H

/-- A device's positions at a pipe's cells for the first four hops. -/
theorem start_pos (d : Dev nD) (p : Fin 4) :
    iprop(known X A ∗ (bigSep Finset.univ fun s => iprop(atPos ER (rCell d p s) 0 ∅ 0 ∗ atPos ER (sCell d p s) 0 ∅ 0)))
      ⊢ bigSep (Finset.Ico 0 (0 + 4)) fun i => posAt (F := F) d p i := by
  have h1 : (bigSep Finset.univ fun s => iprop(atPos ER (rCell d p s) 0 ∅ 0 ∗ atPos ER (sCell d p s) 0 ∅ 0))
      ⊢ bigSep (Finset.Ico 0 (0 + 4)) fun i => (iprop(atPos ER (rCell d p (slotOf i)) 0 ∅ 0 ∗ atPos ER (sCell d p (slotOf i)) 0 ∅ 0) : sProp 𝕄) :=
    bigSep_pick _ _ slotOf (fun a ha b hb h => by
      rw [Finset.coe_Ico, Set.mem_Ico] at ha hb
      have h1 : a % 4 = b % 4 := congrArg Fin.val h
      omega) (fun _ _ => Finset.mem_univ _) fun s => iprop(atPos ER (rCell d p s) 0 ∅ 0 ∗ atPos ER (sCell d p s) 0 ∅ 0)
  have h2 : iprop(known X A ∗ bigSep (Finset.Ico 0 (0 + 4)) fun i => (iprop(atPos ER (rCell d p (slotOf i)) 0 ∅ 0 ∗ atPos ER (sCell d p (slotOf i)) 0 ∅ 0) : sProp 𝕄))
      ⊢ bigSep (Finset.Ico 0 (0 + 4)) fun i => posAt (F := F) d p i :=
    bigSep_with_persistent fun i hi => by
      have h0 : i / 4 = 0 := by rw [Finset.mem_Ico] at hi; omega
      unfold posAt
      rw [h0]
      iintro ⟨#HK, Hr, Hs⟩
      ihave H1 := (known_r X A d p (slotOf i)) $$ HK
      ihave H2 := (known_s X A d p (slotOf i)) $$ HK
      unfold hasCell
      icases H1 with ⟨-, H1⟩
      icases H2 with ⟨-, H2⟩
      isplitl [Hr H1]
      · isplitl [Hr] <;> iassumption
      isplitl [Hs] <;> iassumption
  iintro ⟨#HK, H⟩
  iapply h2
  isplitr; · iexact HK
  iapply h1
  iexact H

/-- One pipe's share of what is dealt. -/
def dealt (d : Dev nD) (p : Fin 4) : sProp 𝕄 :=
  iprop((bigSep (Finset.Ico 0 (hops p)) fun i => dutyTok ER (sCell d p (slotOf i)) (i / 4) 0)
    ∗ (bigSep (Finset.Ico 0 (hops p)) fun i => dutyTok ER (rCell (down p d) p (slotOf i)) (i / 4) 0)
    ∗ (bigSep (Finset.Ico 0 (hops p - 4)) fun k => dutyTok ER (cCell (up p d) p) 0 k)
    ∗ (bigSep (Finset.Ico 0 (hops p - 4)) fun k => writeTok ES (.inl (down p d, p, slotOf k)) 1)
    ∗ (bigSep (Finset.Ico 0 (hops p - 4)) fun k => readerAt ES (.inl (d, p, slotOf k)) 0)
    ∗ iprop((bigSep (Finset.Ico 0 (hops p)) fun i => recvTok (F := F) d p i)
        ∗ bigSep (Finset.Ico 0 (hops p - 4)) fun k => cred (tallyAt (cCell d p) k 1))
    ∗ (bigSep Finset.univ fun s => atPos ER (rCell d p s) 0 ∅ 0) ∗ (bigSep Finset.univ fun s => atPos ER (sCell d p s) 0 ∅ 0)
    ∗ atPos ER (cCell d p) 0 ∅ 0)

theorem pipe_intro (d : Dev nD) (p : Fin 4) : iprop(known X A ∗ dealt d p) ⊢ pipeStart (F := F) d p := by
  have hlate := bigSep_late (F := F) (hops p) fun k => iprop(cred (tallyAt (cCell d p) k 1) ∗ writeTok ES (.inl (down p d, p, slotOf k)) 1)
  rw [bigSep_sep'] at hlate
  have hpos := start_pos X A d p
  rw [bigSep_sep'] at hpos
  unfold dealt pipeStart
  rw [bigSep_congr (s := Finset.Ico 0 (hops p)) (Φ := fun i => startTok (F := F) d p i) fun i _ => show _ = _ from by unfold startTok; rfl, bigSep_sep', bigSep_sep']
  rw [bigSep_congr (s := Finset.Ico 0 (hops p - 4)) (Φ := fun k => creditTok (F := F) d p k) fun i _ => show _ = _ from by unfold creditTok; rfl, bigSep_sep']
  iintro ⟨#HK, Hs, Hr, Hc, Hw, Hrd, ⟨Hcr, Hcc⟩, Hpr, Hps, Hpc⟩
  isplitl [Hcr]; · iexact Hcr
  isplitl [Hs Hr Hcc Hw]
  · isplitl [Hs]; · iexact Hs
    isplitl [Hr]; · iexact Hr
    iapply hlate
    isplitl [Hcc] <;> iassumption
  isplitl [Hrd Hc]
  · isplitl [Hrd] <;> iassumption
  isplitl [Hpr Hps]
  · iapply hpos
    isplitr; · iexact HK
    isplitl [Hpr] <;> iassumption
  iexact Hpc

/-- All that a device's body starts with. -/
theorem rights_intro (d : Dev nD) :
    iprop(known X A ∗ payTok d ∗ posits d ∗ writers d ∗ readers d ∗ creds d) ⊢ rights (F := F) d := by
  have hpipes : iprop(known X A ∗ bigSep Finset.univ fun p => dealt d p) ⊢ bigSep Finset.univ fun p => pipeStart (F := F) d p :=
    bigSep_with_persistent fun p _ => pipe_intro X A d p
  unfold dealt at hpipes
  simp only [bigSep_sep'] at hpipes
  rw [bigSep_four (fun p => pipeStart (F := F) d p)] at hpipes
  unfold posits
  rw [show (bigSep Finset.univ fun i : Fin 68 => (atPos ER (kCell (d, i)) 0 ∅ 0 : sProp 𝕄)) = _ from
    bigSep_csem (fun sm => (atPos ER ((d : Thread nD τ), sm) 0 ∅ 0 : sProp 𝕄)), bigSep_others d (fun e => (atPos ER ((d : Thread nD τ), .dma (rowSem e)) 0 ∅ 0 : sProp 𝕄))]
  unfold payTok writers readers creds rights meeting maxRights maxTok maxWait
  simp only [bigSep_sep']
  iintro ⟨#HK, ⟨Hl, Hr, Hds, Hdr, Hdc, Hdms, Hdmr⟩, ⟨Hpc, Hpb, Hps, Hpr, Hpms, Hpd, Hpmr⟩, ⟨Hw, Hwm⟩, ⟨Hrd, Hrm⟩, Hcb, ⟨Hcr, Hcc⟩, Hcm⟩
  isplitl [Hl Hr Hpb Hcb]
  · isplitl [Hl]; · iexact Hl
    isplitl [Hr]; · iexact Hr
    isplitl [Hcb]; · iexact Hcb
    iexact Hpb
  isplitl [Hds Hdr Hdc Hpc Hps Hpr Hw Hrd Hcr Hcc]
  · iapply hpipes
    isplitr; · iexact HK
    isplitl [Hds]; · iexact Hds
    isplitl [Hdr]; · iexact Hdr
    isplitl [Hdc]; · iexact Hdc
    isplitl [Hw]; · iexact Hw
    isplitl [Hrd]; · iexact Hrd
    isplitl [Hcr Hcc]; · isplitl [Hcr] <;> iassumption
    isplitl [Hpr]; · iexact Hpr
    isplitl [Hps]; · iexact Hps
    iexact Hpc
  isplitl [Hdms Hdmr Hwm Hcm Hpms Hpmr]
  · isplitl [Hdms Hdmr Hwm]
    · isplitl [Hdms]; · iexact Hdms
      isplitl [Hdmr] <;> iassumption
    isplitl [Hcm Hpmr]
    · isplitl [Hcm]; · iexact Hcm
      iexact Hpmr
    iexact Hpms
  isplitl [Hrm]; · iexact Hrm
  iexact Hpd

end Start

/-! ## The semaphores at zero -/

theorem zeros_all (d : Dev nD) : zeros (F := F) d ⊢ bigSep Finset.univ fun i : Fin 68 => semVal (kCell (d, i)) 0 := by
  have hp : zeros (F := F) d ⊢ iprop(semVal (bCell d) 0 ∗ (bigSep Finset.univ fun p => pipeZero (F := F) d p)
      ∗ (semVal (mrCell d d) 0 ∗ bigSep Finset.univ fun o => semVal (mrCell d (away d o)) 0) ∗ bigSep Finset.univ fun o => semVal (msCell d o) 0) := by
    rw [bigSep_four]; unfold zeros; exact Entails.refl _
  refine hp.trans ?_
  rw [show (bigSep Finset.univ fun i : Fin 68 => (semVal (kCell (d, i)) 0 : sProp 𝕄)) = _ from
    bigSep_csem (fun sm => (semVal ((d : Thread nD τ), sm) 0 : sProp 𝕄)), bigSep_others d (fun e => (semVal ((d : Thread nD τ), .dma (rowSem e)) 0 : sProp 𝕄))]
  unfold pipeZero
  simp only [bigSep_sep']
  iintro ⟨Hb, ⟨⟨Hr, Hs⟩, Hc⟩, ⟨Hd, Hmr⟩, Hms⟩
  isplitl [Hc]; · iexact Hc
  isplitl [Hb]; · iexact Hb
  isplitl [Hs]; · iexact Hs
  isplitl [Hr]; · iexact Hr
  isplitl [Hms]; · iexact Hms
  isplitl [Hd]; · iexact Hd
  iexact Hmr

end

end Cert.KernelIdeal.Proof

end
-- ==== Proof.Ideal.Run.lean ====
/- The launch of the call on all devices, and what a run leaves behind. -/
module

public import proofs.«01_k».proof.Proof.Ideal.Deal
public import Idealize.ShloMosaic.Lib.Pipeline.CollectiveSegs

@[expose] public section

noncomputable section

namespace Cert.KernelIdeal.Proof

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

section

variable (m : (ℓ : Loc nD τ sig) → Buf (Elt F) ℓ) (ρ : Dev nD → PrngReg)

/-! ## The values a run starts from -/

/-- A device's chunk and its weights, as the launch stages them. -/
def xsOf (c : Dev nD) : S256x4096.Idx → Elt F .bf16 := (win0_0.blk (0 : Fin 1)).view.read (Elt F) (m ((c : Thread nD τ).loc main_arg0))
def wsOf (c : Dev nD) : S4096x128.Idx → Elt F .bf16 := (win0_1.blk (0 : Fin 1)).view.read (Elt F) (m ((c : Thread nD τ).loc main_arg1))

/-- The chunks' halves and the largest magnitudes of the run. -/
abbrev chunks : Dev nD → Fin 2 → S256x2048.Idx → Elt F .bf16 := chunk (xsOf m)
abbrev maxima : Dev nD → S8x128.Idx → Elt F .f32 := maxBlock (xsOf m) (wsOf m)

/-! ## Staging buffers and scratch as the launch holds them -/

theorem owns_held {sp : Space} {s : Shape} {e : EltTy} (c : Dev nD) (M : Memref sig .tc sp s e) (X : s.Idx → Elt F e) :
    (owns (Ix := ℕ) (Name := ℕ) (U := UU) (Lvl := ℕ) (c : Thread nD τ) M fullShare X : sProp 𝕄) ⊢ held c M fullShare X := by
  unfold owns
  iintro ⟨%f, %h, H⟩
  iapply (Entails.of_eq (held_of_read c M fullShare f X h))
  iexact H

theorem held_owns {sp : Space} {s : Shape} {e : EltTy} (c : Dev nD) (M : Memref sig .tc sp s e) (X : s.Idx → Elt F e) :
    held c M fullShare X ⊢ (owns (Ix := ℕ) (Name := ℕ) (U := UU) (Lvl := ℕ) (c : Thread nD τ) M fullShare X : sProp 𝕄) := by
  unfold owns held
  iintro H
  iexists M.view.rep X
  isplitr
  · ipureintro; exact M.view.read_rep X
  iexact H

theorem any_whole (c : Dev nD) (b : Ref sig .tc) :
    (iprop(∃ f : Buf (Elt F) ((c : Thread nD τ).loc b), ((c : Thread nD τ).loc b) ↦{fullShare} f) : sProp 𝕄) = heldAny c (Memref.whole b) := by
  unfold heldAny
  rw [show (Memref.whole b).view.set = Finset.univ from View.set_whole b]

theorem scratch_eq (c : Dev nD) :
    (Pipeline.scopedRest (Ix := ℕ) (Name := ℕ) (U := UU) (Lvl := ℕ) (Val := Elt F) spec0 c : sProp 𝕄)
      = iprop(heldAny c (Memref.whole cc0_scratch0) ∗ heldAny c (bufRef 0) ∗ heldAny c (bufRef 1) ∗ heldAny c (bufRef 2) ∗ heldAny c (bufRef 3)
        ∗ heldAny c (Memref.whole cc0_scratch13) ∗ heldAny c (Memref.whole cc0_scratch14)) := by
  rw [scopedRest0_eq]
  simp only [any_whole]
  rfl

theorem scratch_in (c : Dev nD) : (Pipeline.scopedRest (Ix := ℕ) (Name := ℕ) (U := UU) (Lvl := ℕ) (Val := Elt F) spec0 c : sProp 𝕄) ⊢ scratch c := by
  rw [scratch_eq]
  unfold scratch
  iintro ⟨H, H0, H1, H2, H3, Hm, Ha⟩
  isplitl [H]; · iexact H
  isplitl [H0 H1 H2 H3]
  · isplitl [H0]; · iexact H0
    isplitl [H1]; · iexact H1
    isplitl [H2]; · iexact H2
    iexact H3
  isplitl [Hm]; · iexact Hm
  iexact Ha

theorem scratch_out (c : Dev nD) : scratch c ⊢ (Pipeline.scopedRest (Ix := ℕ) (Name := ℕ) (U := UU) (Lvl := ℕ) (Val := Elt F) spec0 c : sProp 𝕄) := by
  rw [scratch_eq]
  unfold scratch
  iintro ⟨H, ⟨H0, H1, H2, H3⟩, Hm, Ha⟩
  isplitl [H]; · iexact H
  isplitl [H0]; · iexact H0
  isplitl [H1]; · iexact H1
  isplitl [H2]; · iexact H2
  isplitl [H3]; · iexact H3
  isplitl [Hm]; · iexact Hm
  iexact Ha

/-! ## The data of the launch -/

/-- What the body of device `c` starts with, -/
def start (c : Dev nD) : sProp 𝕄 := iprop(known (chunks m) (maxima m) ∗ rights c)
def Φ₀ (c : Dev nD) : sProp 𝕄 := iprop(start m c ∗ scratch c)
/-- and what it ends with. -/
def Φ₁ (c : Dev nD) : sProp 𝕄 := iprop(zeros (F := F) c ∗ scratch c)

def dats (_ : Fin 1) (c : Dev nD) : Dat τ (Elt F) ℕ ℕ UU ℕ cfg0 c where
  A w := m ((cfg0.win w).arr.view.loc (c : Thread nD τ))
  after w _ := match w with
    | ⟨0, _⟩ => xsOf m c
    | ⟨1, _⟩ => wsOf m c
    | ⟨2, _⟩ => result (xsOf m) (wsOf m) c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem before_0 (c : Dev nD) (d) : (dats m 0 c).before (0 : Fin 3) t0_0 d = xsOf m c := by unfold Dat.before; rw [if_pos (fetch_0 t0_0)]; rfl
theorem before_1 (c : Dev nD) (d) : (dats m 0 c).before (1 : Fin 3) t0_0 d = wsOf m c := by unfold Dat.before; rw [if_pos (fetch_1 t0_0)]; rfl

abbrev stg (c : Dev nD) (b : Ref sig .tc) (X : b.ty.Contents (Elt F)) : sProp 𝕄 :=
  owns (Ix := ℕ) (Name := ℕ) (U := UU) (Lvl := ℕ) (c : Thread nD τ) (Memref.whole b) fullShare X

set_option maxRecDepth 4000 in
def bodyPre (c : Dev nD) : sProp 𝕄 :=
  iprop(Φ₀ m c ∗ (dats m 0 c).owesAt 0 t0_0.castSucc
    ∗ (∃ d, stg c cc0_stg0_0 ((dats m 0 c).before (0 : Fin 3) t0_0 d)) ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt 0 t0_0.succ ∗ stg c cc0_stg0_0 (xsOf m c) ∗ stg c cc0_stg1_0 (wsOf m c)
    ∗ stg c cc0_stg2_0 (result (xsOf m) (wsOf m) c))

set_option maxRecDepth 4000 in
theorem body_sound (c : Dev nD) : bodyPre m c ⊢ Wp c body fun _ => bodyPost m c := by
  unfold bodyPre Φ₀ start
  iintro ⟨⟨⟨HK, HR⟩, Hs⟩, HO, ⟨%d0, H0⟩, ⟨%d1, H1⟩, ⟨%d2, H2⟩⟩
  rw [before_0, before_1]
  ihave H0 := (owns_held (F := F) c (Memref.whole cc0_stg0_0) (xsOf m c)) $$ H0
  ihave H1 := (owns_held (F := F) c (Memref.whole cc0_stg1_0) (wsOf m c)) $$ H1
  ihave H2 := (owns_held (F := F) c (Memref.whole cc0_stg2_0) ((dats m 0 c).before (2 : Fin 3) t0_0 d2)) $$ H2
  iapply (wp_body (xsOf m) (wsOf m) c ((dats m 0 c).before (2 : Fin 3) t0_0 d2)) $$ [HK HR Hs HO H0 H1 H2]
  · isplitl [HK]; · iexact HK
    isplitl [HR]; · iexact HR
    isplitl [Hs]; · iexact Hs
    isplitl [H0]; · iexact H0
    isplitl [H1]; · iexact H1
    isplitl [H2]; · iexact H2
    unfold Dat.owesAt Pipeline.owesWithin Owes
    icases HO with ⟨%W, -, HO⟩
    iexists W
    iexact HO
  iintro ⟨Hz, Hs, H0, H1, H2, HO⟩
  unfold Wp
  rw [wp_ret]
  imodintro
  unfold bodyPost Φ₁
  isplitl [Hz Hs]
  · isplitl [Hz]; · iexact Hz
    iexact Hs
  isplitl [HO]
  · unfold Dat.owesAt Pipeline.owesWithin Owes
    icases HO with ⟨%W, HO⟩
    iexists W
    isplitr; · ipureintro; exact fun _ _ => Or.inl trivial
    iexact HO
  isplitl [H0]; · iapply (held_owns (F := F) c (Memref.whole cc0_stg0_0) (xsOf m c)); iexact H0
  isplitl [H1]; · iapply (held_owns (F := F) c (Memref.whole cc0_stg1_0) (wsOf m c)); iexact H1
  iapply (held_owns (F := F) c (Memref.whole cc0_stg2_0) (result (xsOf m) (wsOf m) c)); iexact H2

theorem bigSep_W (Φ : Fin cfg0.W → sProp 𝕄) : bigSep Finset.univ Φ = iprop(Φ (0 : Fin 3) ∗ Φ (1 : Fin 3) ∗ Φ (2 : Fin 3)) := bigSep_W0 Φ

set_option maxRecDepth 16384 in
theorem body_obligation (c : Dev nD) : BodyObligation (dats (F := F) m 0 c) (defs₀ (F := F)) 𝒱₀ 0 Set.univ := fun t => by
  rw [fin_N0 t]
  rw [bigSep_W, bigSep_W]
  have h := body_sound m c
  rw [← body_eq] at h
  exact h

/-! ## The launch -/

/-- The semaphores of the call itself: all but the runtime's barrier. -/
def osem (k : Fin 67) : SemLoc sig := csem ((4 : Fin 68).succAbove k)

theorem ownSemFacts : Pipeline.OwnSemFacts cfg0.spec osem := by decide +kernel

theorem share_eq (c : Dev nD) (w : Fin cfg0.W) : (dats (F := F) m 0 c).share w = fullShare := by unfold Dat.share; split <;> rfl

theorem csem_injective : Function.Injective csem := by decide +kernel

theorem kCell_injective : Function.Injective kCell := fun x y h => by
  have h1 : x.1 = y.1 := congrArg (fun g : GSem nD τ sig => g.1.1) h
  exact Prod.ext h1 (csem_injective (congrArg Prod.snd h))

def allCells : Finset (GSem nD τ sig) := Finset.univ.map ⟨kCell, kCell_injective⟩
def allToks : Finset (GSem nD τ sig × ℕ × ℕ) := allCells ×ˢ (Finset.range 2 ×ˢ Finset.range 4)

/-- The ghost state at launch. -/
def u₀ : UU :=
  (initOf (Pipeline.cells cfgs cellOf_inj) (Pipeline.launchToks cfgs cellOf_inj), (initOf allCells allToks, initSlots Finset.univ 1))

/-- All that the ghost state gives, of all devices together. -/
def funded : sProp 𝕄 :=
  iprop((bigSep Finset.univ fun x => roundState ER (sched (chunks m) (maxima m)) (kCell x) 0) ∗ (bigSep Finset.univ fun x => reached ER (kCell x) 0)
    ∗ (bigSep Finset.univ fun x => atPos ER (kCell x) 0 ∅ 0) ∗ (bigSep Finset.univ fun x => minted (F := F) (kCell x))
    ∗ (bigSep Finset.univ fun k => hasSlot (F := F) k) ∗ (bigSep Finset.univ fun k : Key => readerAt ES k 0)
    ∗ bigSep Finset.univ fun k : Key => writeTok ES k 1)

/-- It is kept by the first device until the cells are made. -/
def G (c : Dev nD) : sProp 𝕄 := if c = 0 then funded m else iprop(emp)

theorem bigSep_first (Φ : sProp 𝕄) : (bigSep Finset.univ fun c : Dev nD => if c = 0 then Φ else iprop(emp)) = Φ := by
  rw [bigSep_univ_at _ (0 : Dev nD), if_pos rfl, bigSep_congr (Ψ := fun _ => iprop(emp)) fun i hi => if_neg (Finset.mem_erase.mp hi).1]
  have h : (bigSep (Finset.univ.erase (0 : Dev nD)) fun _ => (iprop(emp) : sProp 𝕄)) = iprop(emp) := BI.bigSep_emp_const _
  rw [h]
  exact BI.equiv_iff.mp BI.sep_emp

theorem own_parts (a : UB) (b : US) : BI.own ((embR : Emb (UB × US) 𝕄) (a, b)) ⊢ (iprop(BI.own ((ER : Emb UB 𝕄) a) ∗ BI.own ((ES : Emb US 𝕄) b)) : sProp 𝕄) :=
  BI.own_op_elim ((embR : Emb (UB × US) 𝕄).op_of_mem (Prod.mk_mem_op (URA.mem_op_one a) (URA.mem_one_op b)))

theorem fund_all : BI.own ((embR : Emb (UB × US) 𝕄) (initOf allCells allToks, initSlots Finset.univ 1)) ⊢ (|={Set.univ}=> bigSep Finset.univ (G m) : sProp 𝕄) := by
  have hc (Φ : GSem nD τ sig → sProp 𝕄) : bigSep allCells Φ = bigSep Finset.univ fun x => Φ (kCell x) := by
    unfold allCells; rw [bigSep_map]; rfl
  have ht : bigSep allToks (fun x => (dutyTok ER x.1 x.2.1 x.2.2 : sProp 𝕄)) = bigSep Finset.univ fun x => minted (kCell x) := by
    unfold allToks minted; rw [bigSep_product, hc]
  have hw : (bigSep (Finset.univ ×ˢ Finset.range 1) fun x : Key × ℕ => (writeTok ES x.1 (x.2 + 1) : sProp 𝕄)) = bigSep Finset.univ fun k => writeTok ES k 1 := by
    rw [bigSep_product]; exact bigSep_congr fun k _ => bigSep_singleton
  have hg : (bigSep Finset.univ (G m) : sProp 𝕄) = funded m := bigSep_first (funded m)
  have hslot (k : Key) (ι : ℕ) : slotInv ES ι k (keySlot (F := F) k) ⊢ hasSlot (F := F) k := by
    unfold hasSlot; iintro H; iexists ι; iexact H
  rw [hg]
  iintro H
  ihave H := (own_parts (F := F) _ _) $$ H
  icases H with ⟨HR, HS⟩
  imod (Rounds.fund ER (sched (chunks m) (maxima m)) allCells allToks) $$ HR with ⟨Hst, Hr, Hat, Htok⟩
  imod (slots_init ES (Finset.univ : Finset Key) 1 (keySlot (F := F)) (Es := Set.univ)) $$ HS with ⟨%ιs, -, Hsl, Hrd, Hwr⟩
  imodintro
  unfold funded
  isplitl [Hst]; · iapply (Entails.of_eq (hc fun g => roundState ER (sched (chunks m) (maxima m)) g 0)); iexact Hst
  isplitl [Hr]; · iapply (Entails.of_eq (hc fun g => reached ER g 0)); iexact Hr
  isplitl [Hat]; · iapply (Entails.of_eq (hc fun g => atPos ER g 0 ∅ 0)); iexact Hat
  isplitl [Htok]; · iapply (Entails.of_eq ht); iexact Htok
  isplitl [Hsl]
  · have hsl : (bigSep Finset.univ fun k => slotInv ES (ιs k) k (keySlot (F := F) k)) ⊢ (bigSep Finset.univ fun k => hasSlot (F := F) k) :=
      bigSep_mono fun k _ => hslot k (ιs k)
    iapply hsl; iexact Hsl
  isplitl [Hrd]; · iexact Hrd
  iapply (Entails.of_eq hw); iexact Hwr

/-! ### The semaphores -/

theorem unscoped_eq (c : Dev nD) : (unscopedSems0 c : sProp 𝕄) = semVal (bCell c) 0 := by
  unfold unscopedSems0; rw [bigSep_eq_bigSepL_of_eq [SemLoc.reg barrier0] (by decide) (by decide)]; rfl

theorem sems_eq (c : Dev nD) :
    iprop(Pipeline.ownSems0 (Ix := ℕ) (Name := ℕ) (U := UU) (Lvl := ℕ) (Val := Elt F) (τ := τ) osem c ∗ unscopedSems0 c)
      = (bigSep Finset.univ fun i : Fin 68 => semVal (kCell (c, i)) 0 : sProp 𝕄) := by
  have h : (Finset.univ.erase (4 : Fin 68)) = Finset.univ.image (4 : Fin 68).succAbove := by decide +kernel
  have h4 : kCell (c, 4) = bCell c := by unfold kCell; rw [csem_b]; rfl
  rw [bigSep_univ_at (fun i : Fin 68 => (semVal (kCell (c, i)) 0 : sProp 𝕄)) 4, h, bigSep_image_of_injOn Fin.succAbove_right_injective.injOn, unscoped_eq, h4]
  unfold Pipeline.ownSems0
  exact BI.equiv_iff.mp ⟨BI.sep_comm, BI.sep_comm⟩

/-! ### Dealing -/

/-- What each device gets when the cells are made. -/
def G' (c : Dev nD) : sProp 𝕄 :=
  iprop(((bigSep Finset.univ fun x => hasCell (chunks m) (maxima m) (kCell x)) ∗ bigSep Finset.univ fun k => hasSlot (F := F) k)
    ∗ payTok c ∗ posits c ∗ writers c ∗ readers c)

theorem make_cells :
    iprop((bigSep Finset.univ fun x => (semVal (kCell x) 0 : sProp 𝕄)) ∗ (bigSep Finset.univ fun x => roundState ER (sched (chunks m) (maxima m)) (kCell x) 0)
      ∗ bigSep Finset.univ fun x => reached ER (kCell x) 0) ⊢ (|={Set.univ}=> bigSep Finset.univ fun x => hasCell (chunks m) (maxima m) (kCell x) : sProp 𝕄) := by
  have h : iprop((bigSep Finset.univ fun x => (semVal (kCell x) 0 : sProp 𝕄)) ∗ bigSep Finset.univ fun x => roundState ER (sched (chunks m) (maxima m)) (kCell x) 0)
      ⊢ (|={Set.univ}=> bigSep Finset.univ fun x => iprop(∃ κ : ℕ, cellInv ER (sched (chunks m) (maxima m)) κ (kCell x)) : sProp 𝕄) := by
    rw [← bigSep_sep']
    exact (bigSep_mono fun x _ => (Rounds.body_intro ER (sched (chunks m) (maxima m)) (kCell x)).trans inv_alloc).trans (bigSep_fupd _ _)
  iintro ⟨Hv, Hst, Hr⟩
  imod h $$ [Hv Hst] with HI
  · isplitl [Hv]; · iexact Hv
    iexact Hst
  imodintro
  unfold hasCell
  rw [bigSep_sep']
  isplitl [HI]; · iexact HI
  iexact Hr

theorem deal_all :
    iprop((bigSep Finset.univ fun c => bigSep Finset.univ fun i : Fin 68 => (semVal (kCell (c, i)) 0 : sProp 𝕄)) ∗ funded m)
      ⊢ |={Set.univ}=> bigSep Finset.univ (G' m) := by
  have htok : (bigSep Finset.univ fun x => minted (F := F) (kCell x)) ⊢ bigSep Finset.univ fun d => payTok (F := F) d := by
    rw [bigSep_univ_prod]
    exact (bigSep_mono fun d _ => own_toks d).trans deal_toks
  have hpos : (bigSep Finset.univ fun x => (atPos ER (kCell x) 0 ∅ 0 : sProp 𝕄)) = bigSep Finset.univ fun d => posits (F := F) d := by
    rw [bigSep_univ_prod]; rfl
  have hwith : iprop(((bigSep Finset.univ fun x => hasCell (chunks m) (maxima m) (kCell x)) ∗ bigSep Finset.univ fun k => hasSlot (F := F) k)
      ∗ bigSep Finset.univ fun d => iprop(payTok (F := F) d ∗ posits d ∗ writers d ∗ readers d)) ⊢ bigSep Finset.univ (G' m) :=
    bigSep_with_persistent fun d _ => Entails.refl _
  rw [← bigSep_univ_prod fun x : Dev nD × Fin 68 => (semVal (kCell x) 0 : sProp 𝕄)]
  unfold funded
  iintro ⟨Hv, Hst, Hr, Hat, Htok, Hsl, Hrd, Hwr⟩
  imod (make_cells m) $$ [Hv Hst Hr] with HI
  · isplitl [Hv]; · iexact Hv
    isplitl [Hst]; · iexact Hst
    iexact Hr
  imodintro
  iapply hwith
  isplitl [HI Hsl]
  · isplitl [HI]; · iexact HI
    iexact Hsl
  simp only [bigSep_sep']
  isplitl [Htok]; · iapply htok; iexact Htok
  isplitl [Hat]; · iapply (Entails.of_eq hpos); iexact Hat
  isplitl [Hwr]; · iapply (deal_writers (F := F)); iexact Hwr
  iapply (deal_readers (F := F)); iexact Hrd

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have h : (bigSep Finset.univ fun c => iprop(Pipeline.ownSems0 (Ix := ℕ) (Name := ℕ) (U := UU) (Lvl := ℕ) (Val := Elt F) (τ := τ) osem c ∗ unscopedSems0 c ∗ G m c) : sProp 𝕄)
      ⊢ iprop((bigSep Finset.univ fun c => bigSep Finset.univ fun i : Fin 68 => (semVal (kCell (c, i)) 0 : sProp 𝕄)) ∗ funded m) := by
    have hg : (bigSep Finset.univ (G m) : sProp 𝕄) = funded m := bigSep_first (funded m)
    rw [← hg, bigSep_congr (Φ := fun c : Dev nD => bigSep Finset.univ fun i : Fin 68 => (semVal (kCell (c, i)) 0 : sProp 𝕄)) fun c _ => (sems_eq (F := F) c).symm]
    simp only [bigSep_sep']
    iintro ⟨H1, H2, H3⟩
    isplitl [H1 H2]
    · isplitl [H1]; · iexact H1
      iexact H2
    iexact H3
  exact h.trans (deal_all m)

/-! ### The side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold G'
  iintro ⟨-, #Hlev, Hcr, -, ⟨#HI, #HS⟩, Htok, Hpos, Hwr, Hrd⟩
  ihave Hc := (launch_all (F := F) c) $$ Hcr
  have hk : iprop((bigSep Finset.univ fun x => hasCell (chunks m) (maxima m) (kCell x)) ∗ (bigSep Finset.univ fun k => hasSlot (F := F) k) ∗ levAts L lv)
      ⊢ known (chunks m) (maxima m) := by unfold known lvls; exact Entails.refl _
  imodintro
  isplitl
  · unfold start
    isplitr
    · iapply hk
      isplitr; · iexact HI
      isplitr; · iexact HS
      iexact Hlev
    iapply (rights_intro (chunks m) (maxima m) c)
    isplitr
    · iapply hk
      isplitr; · iexact HI
      isplitr; · iexact HS
      iexact Hlev
    isplitl [Htok]; · iexact Htok
    isplitl [Hpos]; · iexact Hpos
    isplitl [Hwr]; · iexact Hwr
    isplitl [Hrd]; · iexact Hrd
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_in (F := F) c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  iintro ⟨Hz, Hs⟩
  ihave Hz := ((zeros_all (F := F) c).trans (Entails.of_eq (sems_eq (F := F) c).symm)) $$ Hz
  icases Hz with ⟨Ho, Hu⟩
  isplitl [Hu]; · iexact Hu
  isplitl [Ho]; · iexact Ho
  iapply (scratch_out (F := F) c); iexact Hs

/-- The staging semaphores are at the lowest level. -/
theorem stage_low : ∀ (w : Fin cfg0.W) (s : Fin (cfg0.win w).nbuf), lv (((0 : Dev nD) : Thread nD τ), .dma ((cfg0.win w).sem s)) 0 ≤ 0 := by decide +kernel

theorem waits (c : Dev nD) : (levAts L lv : sProp 𝕄) ⊢ Pipeline.cellsWaits cfgs (dats m) 0 0 c :=
  Pipeline.cellsWaits_intro cfgs (dats m) 0 0 c fun w s t => by
    have h := mayWait (F := F) c (.dma ((cfg0.win w).sem s)) 0 0 (by decide) (stage_low w s) ((dats (F := F) m 0 c).owed t)
      (by
        rcases t with ⟨_ | _, ht⟩
        · exact ((((above_start c).mono (Nat.zero_le 1)).add (Above.b (by decide) (by decide))).add (Above.b (by decide) (by decide)))
        · exact Above.zero 0)
    unfold lvls at h
    exact h

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 16384 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m c (0 : Fin 3) = m ((c : Thread nD τ).loc main_arg0) := (dats (F := F) m 0 c).arrAt_in (0 : Fin 3) rfl _
theorem finalA_w (c : Dev nD) : finalA m c (1 : Fin 3) = m ((c : Thread nD τ).loc main_arg1) := (dats (F := F) m 0 c).arrAt_in (1 : Fin 3) rfl _

/-- A run ends, with the arguments as they were and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c (0 : Fin 3)).trans (finalA_x m c), (h.1 c (1 : Fin 3)).trans (finalA_w m c)⟩, h.2⟩) (run_main m ρ)

end

end Cert.KernelIdeal.Proof

end
-- ==== Proof.Value.Outcome.lean ====
/- What a run leaves in the result array of each device, as a value of the arguments of all devices. -/
module

public import proofs.«01_k».proof.Proof.Ideal.Run

@[expose] public section

noncomputable section

namespace Cert.KernelIdeal.Outcome

open Cert.KernelIdeal.Gen Cert.KernelIdeal.Proof
open Idealize.ShloMosaic Idealize.ShloMosaic.TcCoe Idealize.SL.Sem

variable {F : FTy → Type} [FloatOps F]
variable (m : (ℓ : Loc nD τ sig) → Buf (Elt F) ℓ) (ρ : Dev nD → PrngReg)

/-- The single block of every array begins at its origin. -/
theorem at_origin : (∀ (t : Fin cfg0.N) (a : Fin 2), win0_0.index t a = 0) ∧ (∀ (t : Fin cfg0.N) (a : Fin 2), win0_1.index t a = 0)
    ∧ ∀ (t : Fin cfg0.N) (a : Fin 2), win0_2.index t a = 0 := by
  have h : (∀ (t : Fin grid0.N) (a : Fin 2), win0_0.index t a = 0) ∧ (∀ (t : Fin grid0.N) (a : Fin 2), win0_1.index t a = 0)
    ∧ ∀ (t : Fin grid0.N) (a : Fin 2), win0_2.index t a = 0 := by decide +kernel
  exact h

theorem emb_x (t : Fin cfg0.N) (j : S256x4096.Idx) : (win0_0.blk t).view.emb j = j := by
  have e := at_origin.1 t
  funext a; apply Fin.ext
  match a with
  | ⟨0, _⟩ => show win0_0.index t (0 : Fin 2) * 256 + 1 * (j 0).val = (j 0).val; rw [e]; omega
  | ⟨1, _⟩ => show win0_0.index t (1 : Fin 2) * 4096 + 1 * (j 1).val = (j 1).val; rw [e]; omega

theorem emb_w (t : Fin cfg0.N) (j : S4096x128.Idx) : (win0_1.blk t).view.emb j = j := by
  have e := at_origin.2.1 t
  funext a; apply Fin.ext
  match a with
  | ⟨0, _⟩ => show win0_1.index t (0 : Fin 2) * 4096 + 1 * (j 0).val = (j 0).val; rw [e]; omega
  | ⟨1, _⟩ => show win0_1.index t (1 : Fin 2) * 128 + 1 * (j 1).val = (j 1).val; rw [e]; omega

theorem emb_o (t : Fin cfg0.N) (j : S4096x128.Idx) : (win0_2.blk t).view.emb j = j := by
  have e := at_origin.2.2 t
  funext a; apply Fin.ext
  match a with
  | ⟨0, _⟩ => show win0_2.index t (0 : Fin 2) * 4096 + 1 * (j 0).val = (j 0).val; rw [e]; omega
  | ⟨1, _⟩ => show win0_2.index t (1 : Fin 2) * 128 + 1 * (j 1).val = (j 1).val; rw [e]; omega

/-- A device's chunk is its first argument; -/
theorem xsOf_eq (c : Dev nD) : xsOf m c = m ((c : Thread nD τ).loc main_arg0) := by
  funext j
  exact congrArg (m ((c : Thread nD τ).loc main_arg0)) (emb_x (0 : Fin 1) j)

/-- its weights are its second argument. -/
theorem wsOf_eq (c : Dev nD) : wsOf m c = m ((c : Thread nD τ).loc main_arg1) := by
  funext j
  exact congrArg (m ((c : Thread nD τ).loc main_arg1)) (emb_w (0 : Fin 1) j)

theorem flushes (t : Fin cfg0.N) : (cfg0.win (2 : Fin 3)).flush t = true := by
  have h : ∀ t : Fin grid0.N, win0_2.flush t = true := by decide +kernel
  exact h t

/-- The whole result array is written back. -/
theorem finalA_o (c : Dev nD) : finalA m c (2 : Fin 3) = result (xsOf m) (wsOf m) c := by
  refine (dats (F := F) m 0 c).arrAt_eq_of_cover (2 : Fin 3) (result (xsOf m) (wsOf m) c) (fun t _ => ?_) fun i => ⟨(0 : Fin 1), flushes _, ?_⟩
  · funext j
    show result (xsOf m) (wsOf m) c j = result (xsOf m) (wsOf m) c ((win0_2.blk t).view.emb j)
    exact congrArg (result (xsOf m) (wsOf m) c) (emb_o t j).symm
  · exact (congrArg (· ∈ (win0_2.blk (0 : Fin 1)).view.set) (emb_o (0 : Fin 1) i)).mp ((win0_2.blk (0 : Fin 1)).view.emb_mem_set i)

/-- A run ends with every device's result array at the value computed from the arguments of all, and the arguments
    as they were. -/
theorem run : θ_run (defs (F := F)) (onTc (τ := τ) (main (F := F))) ⟨m, fun _ => 0, ρ⟩ (fun r => ∀ c : Dev nD,
      r.2.mem ((c.tc : Thread nD τ).loc main_v1)
        = result (fun d => m ((d : Thread nD τ).loc main_arg0)) (fun d => m ((d : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h.1 c (2 : Fin 3)).trans ((finalA_o m c).trans (congrArg₂ (fun x w => result x w c) (funext (xsOf_eq m)) (funext (wsOf_eq m)))),
      (h.1 c (0 : Fin 3)).trans (finalA_x m c), (h.1 c (1 : Fin 3)).trans (finalA_w m c)⟩) (run_main m ρ)

end Cert.KernelIdeal.Outcome

end
-- ==== Proof.Value.Quantiser.lean ====
/- Largest values, and the quantiser with its scale written in two ways, over the extended reals. -/
module

public import Idealize.ShloMosaic.PureOps.Ideal.Laws
public import Idealize.ShloMosaic.Lib.ValueIdx

@[expose] public section

noncomputable section

namespace Cert.Quantiser

open Idealize.ShloMosaic

/-! ## The literals -/

/-- The largest number of the format to which the result is rounded. -/
theorem top_eq : Ideal.ofBits .f32 0x43E00000#32 = ((448 : ℝ) : EReal) := by simp [Ideal.ofBits, Ideal.ieee, -EReal.coe_mul]; norm_num
theorem zero_eq : Ideal.ofBits .f32 0x00000000#32 = 0 := by simp [Ideal.ofBits, Ideal.ieee]
theorem one_eq : Ideal.ofBits .f32 0x3F800000#32 = 1 := by simp [Ideal.ofBits, Ideal.ieee, -EReal.coe_mul]; norm_num
theorem least_eq : Ideal.ofBits .f32 0xFF800000#32 = ⊥ := by simp [Ideal.ofBits, Ideal.ieee]

/-! ## Magnitudes and their maxima -/

/-- The magnitude of a number. -/
def mag (x : EReal) : EReal := max x (-x)

theorem mag_nonneg (x : EReal) : 0 ≤ mag x := by
  by_cases h : x = 0
  · subst h; exact le_max_left _ _
  · exact ((Ideal.zero_lt_max_neg_iff x).mpr h).le

/-- The largest element of an array is at most `a` when all of its elements are. -/
theorem largest_le {s t : Shape} {axes : List (Fin s.rank)} (src : FVec Ideal s .f32) (h : s.Reduces axes t) (hφ : FKind.Formats .f32)
    (hacc : (0xFF800000#32 : BitVec 32) = FKind.maximumf.neutral .f32 hφ) (j : t.Idx) (one : ∀ j' : t.Idx, j' = j) (a : EReal) :
    multiReduction .maximumf axes t src 0xFF800000#32 h hφ hacc j ≤ a ↔ ∀ i, src i ≤ a := by
  rw [multiReduction_maximumf_eq_fold]
  have e : (Finset.univ.filter fun i => h.drop i = j) = Finset.univ := Finset.filter_true_of_mem fun i _ => one _
  rw [e]
  refine (Finset.fold_max_le (f := src) (b := Ideal.ofBits .f32 0xFF800000#32) (s := Finset.univ) a).trans ?_
  rw [least_eq]
  exact ⟨fun h i => h.2 i (Finset.mem_univ i), fun h => ⟨bot_le, fun i _ => h i⟩⟩

/-- What holds of all elements of an array holds of all elements of it in another shape. -/
theorem all_cast {α : Type} {s t : Shape} (x : s.Idx → α) (h : s.ShapeCasts t) (p : α → Prop) : (∀ j, p (shapeCast t x h j)) ↔ ∀ i, p (x i) :=
  ⟨fun H i => by
    have := H ((Shape.reshapeEquiv h).symm i)
    unfold shapeCast at this
    rwa [Equiv.apply_symm_apply] at this, fun H j => H _⟩

/-! ## The quantiser -/

/-- Divide by the scale, clip, multiply by the scale. -/
def quantise (scale y : EReal) : EReal := min ((448 : ℝ) : EReal) (max (Ideal.ofBits .f32 0xC3E00000#32) (Ideal.div y scale)) * scale

/-- The quantiser with the reciprocal of the scale, computed from the largest magnitude, as a factor. It is the same
    at every magnitude: at zero, where the quotients differ, the product with the scale is zero. -/
theorem quantise_eq (g y : EReal) :
    min ((448 : ℝ) : EReal) (max (Ideal.ofBits .f32 0xC3E00000#32) (y * Ideal.div ((448 : ℝ) : EReal) g)) * Ideal.div g ((448 : ℝ) : EReal)
      = quantise (Ideal.div g ((448 : ℝ) : EReal)) y := by
  unfold quantise
  have h448 : ((448 : ℝ) : EReal) ≠ 0 := by exact_mod_cast (by norm_num : (448 : ℝ) ≠ 0)
  have hdiv : Ideal.div g ((448 : ℝ) : EReal) = g * ((1 / 448 : ℝ) : EReal) := Ideal.div_coe (by norm_num) g
  by_cases hg : g = 0
  · rw [hdiv, hg, zero_mul, mul_zero, mul_zero]
  · have hs : g * ((1 / 448 : ℝ) : EReal) ≠ 0 := mul_ne_zero hg (by exact_mod_cast (by norm_num : (1 / 448 : ℝ) ≠ 0))
    rw [hdiv]
    congr 3
    rw [Ideal.div, if_neg hg, Ideal.div, if_neg hs, EReal.mul_inv, ← EReal.coe_inv]
    congr 1
    rw [mul_comm, show ((1 / 448 : ℝ)⁻¹) = 448 by norm_num]

end Cert.Quantiser

end
-- ==== Proof.Value.Product.lean ====
/- The blocks of the product, element by element over the extended reals: whichever half of the contraction comes
   first, a block's element is the sum over the whole contraction. -/
module

public import proofs.«01_k».proof.Proof.Ideal.Values
public import Idealize.ShloMosaic.Lib.MatmulPlain
public import Idealize.ShloMosaic.Lib.Pipeline.Value
public import proofs.«01_k».proof.Proof.Value.Quantiser

@[expose] public section

noncomputable section

namespace Cert.KernelIdeal.Outcome

open Cert.KernelIdeal.Gen Cert.KernelIdeal.Proof Cert.Quantiser
open Idealize.ShloMosaic Idealize.ShloMosaic.TcCoe Idealize.ShloMosaic.ValueIdx

section

variable (xs : Dev nD → S256x4096.Idx → EReal) (ws : Dev nD → S4096x128.Idx → EReal)

/-- The columns of a chunk in the first half, -/
theorem chunk_zero (e : Dev nD) (i : Fin 256) (k : Fin 2048) : chunk (F := Ideal) xs e 0 (ix2 i k) = xs e (ix2 i (Fin.castAdd 2048 k)) := by
  have h : chunk (F := Ideal) xs e 0 = VecWindow.window (xs e) ![0, 0] S256x2048.size inb_S256x4096_S256x2048_0_0 := by
    unfold chunk k0_pay2; exact (shapeCast_shapeCast _ _ _).trans (shapeCast_self _ _)
  rw [h]
  refine congrArg (xs e) (funext fun a => Fin.ext ?_)
  match a with
  | ⟨0, _⟩ => show 0 + 1 * i.val = i.val; omega
  | ⟨1, _⟩ => show 0 + 1 * k.val = k.val; omega

/-- and in the second. -/
theorem chunk_one (e : Dev nD) (i : Fin 256) (k : Fin 2048) : chunk (F := Ideal) xs e 1 (ix2 i k) = xs e (ix2 i (Fin.natAdd 2048 k)) := by
  have h : chunk (F := Ideal) xs e 1 = VecWindow.window (xs e) ![0, 2048] S256x2048.size inb_S256x4096_S256x2048_0_2048 := by
    unfold chunk k0_pay3; exact (shapeCast_shapeCast _ _ _).trans (shapeCast_self _ _)
  rw [h]
  refine congrArg (xs e) (funext fun a => Fin.ext ?_)
  match a with
  | ⟨0, _⟩ => show 0 + 1 * i.val = i.val; omega
  | ⟨1, _⟩ => show 2048 + 1 * k.val = 2048 + k.val; omega

theorem topHalf_apply (w : S4096x128.Idx → EReal) (k : Fin 2048) (j : Fin 128) : topHalf (F := Ideal) w (ix2 k j) = w (ix2 (Fin.castAdd 2048 k) j) := by
  unfold topHalf k0_pay5 k0_pay6
  rw [shapeCast_self]
  refine congrArg w (funext fun a => Fin.ext ?_)
  match a with
  | ⟨0, _⟩ => show 0 + k.val = k.val; omega
  | ⟨1, _⟩ => show 0 + j.val = j.val; omega

theorem botHalf_apply (w : S4096x128.Idx → EReal) (k : Fin 2048) (j : Fin 128) : botHalf (F := Ideal) w (ix2 k j) = w (ix2 (Fin.natAdd 2048 k) j) := by
  unfold botHalf k0_pay5 k0_pay7
  rw [shapeCast_self]
  refine congrArg w (funext fun a => Fin.ext ?_)
  match a with
  | ⟨0, _⟩ => show 2048 + k.val = 2048 + k.val; rfl
  | ⟨1, _⟩ => show 0 + j.val = j.val; omega

/-- One half of the contraction. -/
theorem prod_apply (w : S2048x128.Idx → EReal) (v : S256x2048.Idx → EReal) (i : Fin 256) (j : Fin 128) :
    prod (F := Ideal) w (asSlab (F := Ideal) v) (ix2 i j) = ∑ k : Fin 2048, v (ix2 i k) * w (ix2 k j) := by
  unfold prod k0_pay10 asSlab
  rw [shapeCast_shapeCast]
  refine (Ideal.matmul_plain_apply (M := 256) (K := 2048) (N := 128) none _ _ _ i j).trans ?_
  rw [show constant (F := Ideal) S256x128 .f32 0x00000000#32 (ix2 i j) = 0 from zero_eq, zero_add]

/-- An element of a block: the sum over the whole contraction. -/
def element (d e : Dev nD) (i : Fin 256) (j : Fin 128) : EReal := ∑ k : Fin 4096, xs e (ix2 i k) * ws d (ix2 k j)

/-- The contraction in its two halves. -/
theorem element_halves (d e : Dev nD) (i : Fin 256) (j : Fin 128) : element xs ws d e i j
    = ∑ k : Fin 2048, xs e (ix2 i (Fin.castAdd 2048 k)) * ws d (ix2 (Fin.castAdd 2048 k) j)
      + ∑ k : Fin 2048, xs e (ix2 i (Fin.natAdd 2048 k)) * ws d (ix2 (Fin.natAdd 2048 k) j) :=
  Fin.sum_univ_add (a := 2048) (b := 2048) fun k => xs e (ix2 i k) * ws d (ix2 k j)

theorem first_half (d e : Dev nD) (i : Fin 256) (j : Fin 128) :
    prod (F := Ideal) (topHalf (F := Ideal) (ws d)) (asSlab (F := Ideal) (chunk (F := Ideal) xs e 0)) (ix2 i j)
      = ∑ k : Fin 2048, xs e (ix2 i (Fin.castAdd 2048 k)) * ws d (ix2 (Fin.castAdd 2048 k) j) :=
  (prod_apply _ _ i j).trans (Finset.sum_congr rfl fun k _ => by rw [chunk_zero, topHalf_apply])

theorem second_half (d e : Dev nD) (i : Fin 256) (j : Fin 128) :
    prod (F := Ideal) (botHalf (F := Ideal) (ws d)) (asSlab (F := Ideal) (chunk (F := Ideal) xs e 1)) (ix2 i j)
      = ∑ k : Fin 2048, xs e (ix2 i (Fin.natAdd 2048 k)) * ws d (ix2 (Fin.natAdd 2048 k) j) :=
  (prod_apply _ _ i j).trans (Finset.sum_congr rfl fun k _ => by rw [chunk_one, botHalf_apply])

/-- Both orders of the halves give the same block. -/
theorem valAt_apply (d : Dev nD) (u : ℕ) (i : Fin 256) (j : Fin 128) : valAt (F := Ideal) xs ws d u (ix2 i j) = element xs ws d (place d u) i j := by
  rw [element_halves]
  unfold valAt
  split
  · exact congrArg₂ (· + ·) (first_half xs ws d _ i j) (second_half xs ws d _ i j)
  · exact (congrArg₂ (· + ·) (second_half xs ws d _ i j) (first_half xs ws d _ i j)).trans (add_comm _ _)

theorem valAt_at (d : Dev nD) (u : ℕ) (i : S256x128.Idx) : valAt (F := Ideal) xs ws d u i = element xs ws d (place d u) (i 0) (i 1) :=
  (congrArg (valAt (F := Ideal) xs ws d u) (eq_ix2 i)).trans (valAt_apply xs ws d u (i 0) (i 1))

/-! ## The matrix of the blocks -/

/-- The rows of a device's matrix that have been filled in after `u` blocks hold the blocks' elements. -/
theorem fill_apply (v : S4096x128.Idx → EReal) (d : Dev nD) (e : Dev nD) (i : Fin 256) (j : Fin 128) (y : S4096x128.Idx)
    (h0 : (y 0).val = 256 * e.val + i.val) (h1 : (y 1).val = j.val) :
    ∀ u, (∃ t < u, place d t = e) → fill (F := Ideal) xs ws v d u y = element xs ws d e i j
  | 0, ⟨t, ht, _⟩ => absurd ht (Nat.not_lt_zero t)
  | u + 1, ⟨t, ht, hp⟩ => by
    show VecWindow.put (fill (F := Ideal) xs ws v d u) ![256 * (place d u).val, 0] S256x128.size (valAt (F := Ideal) xs ws d u) y = _
    unfold VecWindow.put
    have hi := i.isLt
    by_cases hu : place d u = e
    · have hin : ∀ a : Fin 2, (![256 * (place d u).val, 0] : Fin 2 → ℕ) a ≤ (y a).val ∧ (y a).val < (![256 * (place d u).val, 0] : Fin 2 → ℕ) a + S256x128.size a := by
        rw [hu]
        intro a
        match a with
        | 0 => show 256 * e.val ≤ (y 0).val ∧ (y 0).val < 256 * e.val + 256; omega
        | 1 => exact ⟨Nat.zero_le _, by show (y 1).val < 0 + 128; have := j.isLt; omega⟩
      rw [dif_pos hin]
      refine Eq.trans (congrArg (valAt (F := Ideal) xs ws d u) (a₂ := ix2 i j) ?_) ((valAt_apply xs ws d u i j).trans (by rw [hu]))
      funext a
      apply Fin.ext
      match a with
      | ⟨0, _⟩ => show (y 0).val - 256 * (place d u).val = i.val; rw [hu]; omega
      | ⟨1, _⟩ => show (y 1).val - 0 = j.val; omega
    · have hout : ¬ ∀ a : Fin 2, (![256 * (place d u).val, 0] : Fin 2 → ℕ) a ≤ (y a).val ∧ (y a).val < (![256 * (place d u).val, 0] : Fin 2 → ℕ) a + S256x128.size a := by
        intro h
        have := h 0
        have h' : 256 * (place d u).val ≤ (y 0).val ∧ (y 0).val < 256 * (place d u).val + 256 := this
        exact hu (Fin.ext (by omega))
      rw [dif_neg hout]
      refine fill_apply v d e i j y h0 h1 u ⟨t, ?_, hp⟩
      rcases Nat.lt_succ_iff_lt_or_eq.mp ht with h | h
      · exact h
      · exact absurd (h ▸ hp) hu

/-- Row `256 e + i` of a device's matrix is row `i` of the block that comes from device `e`. -/
theorem whole_apply (d e : Dev nD) (i : Fin 256) (j : Fin 128) (y : S4096x128.Idx) (h0 : (y 0).val = 256 * e.val + i.val) (h1 : (y 1).val = j.val) :
    whole (F := Ideal) xs ws d y = element xs ws d e i j := by
  obtain ⟨u, hu⟩ := place_surjective d e
  exact fill_apply xs ws _ d e i j y h0 h1 16 ⟨u.val, u.isLt, hu⟩

end

end Cert.KernelIdeal.Outcome

end
-- ==== Proof.Value.Largest.lean ====
/- The largest magnitude: what a device makes of its own blocks and of the rows it has received is the largest
   magnitude in the blocks of all devices, and its result is the quantiser at that scale. -/
module

public import proofs.«01_k».proof.Proof.Value.Product

@[expose] public section

noncomputable section

namespace Cert.KernelIdeal.Outcome

open Cert.KernelIdeal.Gen Cert.KernelIdeal.Proof Cert.Quantiser
open Idealize.ShloMosaic Idealize.ShloMosaic.TcCoe Idealize.ShloMosaic.ValueIdx

/-- An array of one element has one index. -/
theorem one_index (j j' : S1.Idx) : j' = j := by
  funext a
  match a with
  | ⟨0, _⟩ => exact Subsingleton.elim (α := Fin 1) _ _

/-- The largest element of sixteen rows. -/
def rowsMax (v : S16x8x128.Idx → EReal) : EReal :=
  extractAt ![0, 0, 0, 0]
    (shapeCast S1x1x1x1
      (multiReduction (F := Ideal) (φ := .f32) .maximumf [1, 2, 3] S1 (shapeCast S1x16x8x128 v shapeCasts_S16x8x128_S1x16x8x128) 0xFF800000#32 reduces_S1x16x8x128_S1
        (.inl rfl) rfl) shapeCasts_S1_S1x1x1x1) inpos_S1x1x1x1_p0_0_0_0

theorem rowsMax_le (v : S16x8x128.Idx → EReal) (a : EReal) : rowsMax v ≤ a ↔ ∀ i, v i ≤ a := by
  unfold rowsMax extractAt
  refine Iff.trans ?_ (all_cast v shapeCasts_S16x8x128_S1x16x8x128 (· ≤ a))
  exact largest_le _ _ _ _ _ (one_index _) a

/-- The largest magnitude overall, of the rows and of a device's own blocks. -/
theorem overall_eq (a : EReal) (v : S16x8x128.Idx → EReal) : k0_pay61 (F := Ideal) a v = max (rowsMax v) a := by
  unfold k0_pay61
  rfl

theorem blockMax_le (b : S256x128.Idx → EReal) (a : EReal) : blockMax (F := Ideal) b ≤ a ↔ ∀ i, mag (b i) ≤ a := by
  unfold blockMax extractAt
  refine Iff.trans ?_ (all_cast (absf (F := Ideal) (φ := .f32) b) shapeCasts_S256x128_S1x256x128 (· ≤ a))
  exact largest_le _ _ _ _ _ (one_index _) a

section

variable (xs : Dev nD → S256x4096.Idx → EReal) (ws : Dev nD → S4096x128.Idx → EReal)

theorem maxUpTo_le (d : Dev nD) (a : EReal) : ∀ u, maxUpTo (F := Ideal) xs ws d u ≤ a ↔ ∀ t ≤ u, ∀ i, mag (valAt (F := Ideal) xs ws d t i) ≤ a
  | 0 => (blockMax_le _ a).trans ⟨fun h t ht => by rw [Nat.le_zero.mp ht]; exact h, fun h => h 0 le_rfl⟩
  | u + 1 => by
    have e : maxUpTo (F := Ideal) xs ws d (u + 1) = max (maxUpTo (F := Ideal) xs ws d u) (blockMax (F := Ideal) (valAt (F := Ideal) xs ws d (u + 1))) := rfl
    rw [e, max_le_iff, maxUpTo_le d a u, blockMax_le]
    exact ⟨fun h t ht => by
      rcases Nat.le_succ_iff.mp ht with h' | h'
      · exact h.1 t h'
      · rw [h']; exact h.2, fun h => ⟨fun t ht => h t (Nat.le_succ_of_le ht), h _ le_rfl⟩⟩

/-- The largest magnitude of a device's sixteen blocks bounds its column of the product, and no more. -/
theorem own_le (d : Dev nD) (a : EReal) : maxUpTo (F := Ideal) xs ws d 15 ≤ a ↔ ∀ e i j, mag (element xs ws d e i j) ≤ a := by
  rw [maxUpTo_le]
  constructor
  · intro h e i j
    obtain ⟨u, hu⟩ := place_surjective d e
    have := h u.val (Nat.le_of_lt_succ u.isLt) (ix2 i j)
    rwa [valAt_apply, hu] at this
  · intro h t _ i
    rw [valAt_at]
    exact h _ _ _

/-- A device holds zeros in its own row, -/
theorem rowAt_own (d : Dev nD) (y : S8x128.Idx) : rowAt (F := Ideal) xs ws d d y = 0 := by
  unfold rowAt
  rw [if_pos rfl]
  unfold zeroRow k0_pay4 VecWindow.window shapeCast
  simp only [broadcast_apply, Ideal.ofBits_def, zero_eq]

/-- and in another device's row the largest magnitude of that device's blocks. -/
theorem rowAt_other (d e : Dev nD) (h : ¬ e = d) (y : S8x128.Idx) : rowAt (F := Ideal) xs ws d e y = maxUpTo (F := Ideal) xs ws e 15 := by
  unfold rowAt maxBlock
  rw [if_neg h, shapeCast_self]
  rw [mulf_apply]
  simp only [broadcast_apply, Ideal.ofBits_def, one_eq, mul_one]

/-- The same of the array of all rows. -/
theorem rows_own (d : Dev nD) (i : S16x8x128.Idx) (h : i 0 = d) : rowsOf (F := Ideal) (rowAt (F := Ideal) xs ws d) i = 0 := by
  subst h
  unfold rowsOf shapeCast
  exact rowAt_own xs ws _ _

theorem rows_other (d : Dev nD) (i : S16x8x128.Idx) (h : ¬ i 0 = d) :
    rowsOf (F := Ideal) (rowAt (F := Ideal) xs ws d) i = maxUpTo (F := Ideal) xs ws (i 0) 15 := by
  unfold rowsOf shapeCast
  exact rowAt_other xs ws d _ h _

theorem mag_le_nonneg {a x : EReal} (h : mag x ≤ a) : 0 ≤ a := (mag_nonneg x).trans h

/-- A device's scale comes from the largest magnitude of all blocks of all devices. -/
theorem all_le (d : Dev nD) (a : EReal) :
    k0_pay61 (F := Ideal) (maxUpTo (F := Ideal) xs ws d 15) (rowsOf (F := Ideal) (rowAt (F := Ideal) xs ws d)) ≤ a
      ↔ ∀ c e i j, mag (element xs ws c e i j) ≤ a := by
  rw [overall_eq, max_le_iff, rowsMax_le, own_le]
  constructor
  · rintro ⟨hr, ho⟩ c
    by_cases hc : c = d
    · rw [hc]; exact ho
    · have := hr (ix3 c (0 : Fin 8) (0 : Fin 128))
      exact (own_le xs ws c a).mp ((rows_other xs ws d (ix3 c (0 : Fin 8) (0 : Fin 128)) hc).symm.le.trans this)
  · intro h
    refine ⟨fun i => ?_, h d⟩
    by_cases hi : i 0 = d
    · exact (rows_own xs ws d i hi).le.trans (mag_le_nonneg (h d d (0 : Fin 256) (0 : Fin 128)))
    · exact (rows_other xs ws d i hi).le.trans ((own_le xs ws _ a).mpr (h _))

/-- The last lines of the kernel: a number times a factor, clipped, times a scale. -/
theorem last_lines (f s : EReal) (v : S4096x128.Idx → EReal) (y : S4096x128.Idx) : k0_pay1 (F := Ideal) f s v y
    = min (Ideal.ofBits .f32 0x43E00000#32) (max (Ideal.ofBits .f32 0xC3E00000#32) (v y * f)) * s := by
  unfold k0_pay1
  simp only [shapeCast_self, mulf_apply, extf_apply, truncf_apply, minimumf_apply, maximumf_apply, broadcast_apply, Ideal.ofBits_def]

/-- The factor and the scale, of a largest magnitude. -/
theorem factor_eq (a : EReal) (r : S16x8x128.Idx → EReal) : k0_pay62 (F := Ideal) a r = Ideal.div ((448 : ℝ) : EReal) (k0_pay61 (F := Ideal) a r) := by
  unfold k0_pay62
  simp only [Ideal.scalar_divf_def, Ideal.ofBits_def, top_eq]
theorem scale_eq (a : EReal) (r : S16x8x128.Idx → EReal) : k0_pay63 (F := Ideal) a r = Ideal.div (k0_pay61 (F := Ideal) a r) ((448 : ℝ) : EReal) := by
  unfold k0_pay63
  simp only [Ideal.scalar_divf_def, Ideal.ofBits_def, top_eq]

/-- A device's result: its element of the product, quantised with the scale that belongs to the largest magnitude. -/
theorem result_apply (g : EReal) (hg : ∀ a, g ≤ a ↔ ∀ c e i j, mag (element xs ws c e i j) ≤ a) (d e : Dev nD) (i : Fin 256) (j : Fin 128) (y : S4096x128.Idx)
    (h0 : (y 0).val = 256 * e.val + i.val) (h1 : (y 1).val = j.val) :
    result (F := Ideal) xs ws d y = quantise (Ideal.div g ((448 : ℝ) : EReal)) (element xs ws d e i j) := by
  have hmax : k0_pay61 (F := Ideal) (maxUpTo (F := Ideal) xs ws d 15) (rowsOf (F := Ideal) (rowAt (F := Ideal) xs ws d)) = g :=
    eq_of_forall_ge_iff fun a => (all_le xs ws d a).trans (hg a).symm
  unfold result
  rw [last_lines, factor_eq, scale_eq, hmax, top_eq, whole_apply xs ws d e i j y h0 h1]
  exact quantise_eq g _

end

end Cert.KernelIdeal.Outcome

end
-- ==== Proof.Value.Reference.lean ====
/- What the reference computes, element by element over the extended reals. -/
module

public import proofs.«01_k».proof.Proof.Gen.ReferenceIdeal.Value
public import Idealize.ShloMosaic.Lib.MatmulPlain
public import proofs.«01_k».proof.Proof.Value.Quantiser

@[expose] public section

noncomputable section

namespace Cert.ReferenceIdeal.Outcome

open Cert.ReferenceIdeal.Gen Cert.Quantiser
open Idealize.ShloMosaic Idealize.ShloMosaic.TcCoe Idealize.ShloMosaic.ValueIdx

variable (x : S4096x4096.Idx → EReal) (w : S4096x2048.Idx → EReal)

/-- The product as the reference forms it, -/
def product : S4096x2048.Idx → EReal :=
  matmul (F := Ideal) (φ₁ := .bf16) (φ₂ := .bf16) dot_S4096x4096_S4096x2048_S4096x2048_1_0_0_1_n_n none x w (constant (F := Ideal) S4096x2048 .f32 0x00000000#32)

theorem product_apply (r : Fin 4096) (c : Fin 2048) : product x w (ix2 r c) = ∑ k : Fin 4096, x (ix2 r k) * w (ix2 k c) := by
  unfold product
  refine (Ideal.matmul_plain_apply (M := 4096) (K := 4096) (N := 2048) none _ _ _ r c).trans ?_
  rw [show constant (F := Ideal) S4096x2048 .f32 0x00000000#32 (ix2 r c) = 0 from zero_eq, zero_add]

/-- and its largest magnitude. -/
def largest : EReal :=
  extractAt ![0, 0, 0]
    (shapeCast S1x1x1
      (multiReduction (F := Ideal) .maximumf [1, 2] S1 (shapeCast S1x4096x2048 (absf (F := Ideal) (φ := .f32) (product x w)) shapeCasts_S4096x2048_S1x4096x2048)
        0xFF800000#32 reduces_S1x4096x2048_S1 (.inl rfl) rfl) shapeCasts_S1_S1x1x1) inpos_S1x1x1_p0_0_0

theorem largest_le_iff (a : EReal) : largest x w ≤ a ↔ ∀ i, mag (product x w i) ≤ a := by
  unfold largest extractAt
  refine Iff.trans ?_ (all_cast (absf (F := Ideal) (φ := .f32) (product x w)) shapeCasts_S4096x2048_S1x4096x2048 (· ≤ a))
  refine largest_le _ _ _ _ _ (fun j' => ?_) a
  funext b
  match b with
  | ⟨0, _⟩ => exact Subsingleton.elim (α := Fin 1) _ _

/-- The result of the reference is the product, quantised with the scale that belongs to its largest magnitude. -/
theorem result_apply (i : S4096x2048.Idx) :
    Value.G2 (F := Ideal) x w i = quantise (Ideal.div (largest x w) ((448 : ℝ) : EReal)) (product x w i) := by
  rw [← top_eq]
  unfold quantise
  rw [← top_eq]
  rfl

end Cert.ReferenceIdeal.Outcome

end
-- ==== Proof.Value.Equal.lean ====
/- The devices' results are the blocks of the reference's result. -/
module

public import proofs.«01_k».proof.Proof.Value.Largest
public import proofs.«01_k».proof.Proof.Value.Reference
public import Idealize.ShloMosaic.Lib.Layout

@[expose] public section

noncomputable section

namespace Cert.Equal

open Cert.Quantiser
open Idealize.ShloMosaic Idealize.ShloMosaic.TcCoe Idealize.ShloMosaic.ValueIdx
open Cert.KernelIdeal.Outcome (element)
open Cert.ReferenceIdeal.Outcome (product largest)

variable (X : Cert.ReferenceIdeal.S4096x4096.Idx → EReal) (W : Cert.ReferenceIdeal.S4096x2048.Idx → EReal)

/-- The rows of the first argument that a device has, -/
abbrev rows (d : Dev Cert.KernelIdeal.nD) : Cert.KernelIdeal.S256x4096.Idx → EReal := Layout.block ⟨2, ![256, 4096]⟩ ⟨2, ![4096, 4096]⟩ 0 16 d X

/-- and the columns of the second. -/
abbrev columns (d : Dev Cert.KernelIdeal.nD) : Cert.KernelIdeal.S4096x128.Idx → EReal := Layout.block ⟨2, ![4096, 128]⟩ ⟨2, ![4096, 2048]⟩ 1 16 d W

/-- The row of the whole product that row `i` of device `e` is, -/
def rowOf (e : Dev Cert.KernelIdeal.nD) (i : Fin 256) : Fin 4096 := ⟨e.val * 256 + i.val, by have h : e.val < 16 := e.isLt; have := i.isLt; omega⟩

/-- and the column that column `j` of device `d` is. -/
def columnOf (d : Dev Cert.KernelIdeal.nD) (j : Fin 128) : Fin 2048 := ⟨d.val * 128 + j.val, by have h : d.val < 16 := d.isLt; have := j.isLt; omega⟩

theorem rowOf_surjective (r : Fin 4096) : ∃ e i, rowOf e i = r :=
  ⟨⟨r.val / 256, by show _ < 16; have := r.isLt; omega⟩, ⟨r.val % 256, Nat.mod_lt _ (by decide)⟩, Fin.ext (Nat.div_add_mod' _ _)⟩

theorem columnOf_surjective (c : Fin 2048) : ∃ d j, columnOf d j = c :=
  ⟨⟨c.val / 128, by show _ < 16; have := c.isLt; omega⟩, ⟨c.val % 128, Nat.mod_lt _ (by decide)⟩, Fin.ext (Nat.div_add_mod' _ _)⟩

theorem rows_apply (e : Dev Cert.KernelIdeal.nD) (i : Fin 256) (k : Fin 4096) : rows X e (ix2 i k) = X (ix2 (rowOf e i) k) :=
  congrArg X (funext fun a => Fin.ext (by
    match a with
    | ⟨0, _⟩ => rfl
    | ⟨1, _⟩ => rfl))

theorem columns_apply (d : Dev Cert.KernelIdeal.nD) (k : Fin 4096) (j : Fin 128) : columns W d (ix2 k j) = W (ix2 k (columnOf d j)) :=
  congrArg W (funext fun a => Fin.ext (by
    match a with
    | ⟨0, _⟩ => rfl
    | ⟨1, _⟩ => rfl))

/-- An element of a device's block is the element of the product at the same place. -/
theorem element_eq (d e : Dev Cert.KernelIdeal.nD) (i : Fin 256) (j : Fin 128) :
    element (rows X) (columns W) d e i j = product X W (ix2 (rowOf e i) (columnOf d j)) := by
  rw [Cert.ReferenceIdeal.Outcome.product_apply]
  exact Finset.sum_congr rfl fun k _ => congrArg₂ (· * ·) (rows_apply X e i k) (columns_apply W d k j)

/-- The blocks of all devices make up the product, so the two have the same largest magnitude. -/
theorem largest_blocks (a : EReal) : largest X W ≤ a ↔ ∀ c e i j, mag (element (rows X) (columns W) c e i j) ≤ a := by
  rw [Cert.ReferenceIdeal.Outcome.largest_le_iff]
  constructor
  · intro h c e i j
    rw [element_eq]
    exact h _
  · intro h y
    obtain ⟨e, i, hr⟩ := rowOf_surjective (y 0)
    obtain ⟨d, j, hc⟩ := columnOf_surjective (y 1)
    have hy : ix2 (rowOf e i) (columnOf d j) = y := by rw [hr, hc]; exact (eq_ix2 y).symm
    have := h d e i j
    rw [element_eq] at this
    exact (congrArg (fun z => mag (product X W z)) hy).symm.le.trans this

/-- A device's result is its block of columns of the reference's result. -/
theorem result_block (d : Dev Cert.KernelIdeal.nD) :
    Cert.KernelIdeal.Proof.result (F := Ideal) (rows X) (columns W) d
      = Layout.block ⟨2, ![4096, 128]⟩ ⟨2, ![4096, 2048]⟩ 1 16 d (Cert.ReferenceIdeal.Value.G2 (F := Ideal) X W) := by
  funext y
  obtain ⟨e, i, hr⟩ := rowOf_surjective (y 0)
  have h0 : (y 0).val = e.val * 256 + i.val := (congrArg Fin.val hr).symm
  refine (Cert.KernelIdeal.Outcome.result_apply (rows X) (columns W) (largest X W) (largest_blocks X W) d e i (y 1) y (by omega) rfl).trans ?_
  rw [Layout.block_apply, Cert.ReferenceIdeal.Outcome.result_apply]
  generalize Ideal.div (largest X W) ((448 : ℝ) : EReal) = scale
  refine congrArg (quantise scale) ((element_eq X W d e i (y 1)).trans (congrArg (product X W) (funext fun a => Fin.ext ?_)))
  match a with
  | ⟨0, _⟩ => exact h0.symm
  | ⟨1, _⟩ => rfl

end Cert.Equal

end
-- ==== Proof.lean ====
/- The claims, put together: the runs of the kernel (`Proof/Bits/Run.lean`, `Proof/Ideal/Run.lean`), the generated run of
   the reference, and the comparison of their results (`Proof/Value/Equal.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits.Run
public import proofs.«01_k».proof.Proof.Ideal.Run
public import proofs.«01_k».proof.Proof.Value.Outcome
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- Each device's result array ends as its block of columns of what the reference computes from the whole arguments. -/
theorem algebraic : Cert.algebraic_KernelIdeal_ReferenceIdeal (hKernelIdeal := Cert.KernelIdeal.Gen.facts) (hReferenceIdeal := Cert.ReferenceIdeal.Gen.facts) :=
  fun m g m' g' _ hargs =>
    let X := m' (((0 : Dev Cert.ReferenceIdeal.nD).tc : Thread Cert.ReferenceIdeal.nD Cert.ReferenceIdeal.τ).loc Cert.ReferenceIdeal.main_arg0)
    let W := m' (((0 : Dev Cert.ReferenceIdeal.nD).tc : Thread Cert.ReferenceIdeal.nD Cert.ReferenceIdeal.τ).loc Cert.ReferenceIdeal.main_arg1)
    ⟨Cert.ReferenceIdeal.Value.G2 X W,
      (θ_run _ _ _).mono (fun _ h c =>
          ⟨(h c).1.trans ((congrArg₂ (fun x w => Cert.KernelIdeal.Proof.result x w c) (funext fun d => (hargs d).1) (funext fun d => (hargs d).2)).trans
            (Cert.Equal.result_block X W c)), (h c).2⟩)
        (Cert.KernelIdeal.Outcome.run m g),
      (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  fun m g _ => Cert.Kernel.Proof.frame m g,
  fun m g _ => Cert.KernelIdeal.Proof.frame m g,
  fun m g _ => Cert.ReferenceIdeal.Gen.frame m g,
  trivial,
  algebraic⟩

end Cert.Proof

end
